-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v89) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v48)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v48) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v174) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S10240x3968 : Shape := ⟨2, ![10240, 3968]⟩
abbrev S4x32 : Shape := ⟨2, ![4, 32]⟩
abbrev S64 : Shape := ⟨1, ![64]⟩
abbrev S8192x768 : Shape := ⟨2, ![8192, 768]⟩
abbrev S_ : Shape := ⟨0, ![]⟩

class Facts : Prop where
  slices_S10240x3968_S8192x768_0_3072 : S10240x3968.Slices ![0, 3072] S8192x768
  bcast_S_S8192x768 : S_.BroadcastsInDim S8192x768 (![] : Fin 0 → Fin S8192x768.rank)
  reducesTo_S8192x768_S_d0_1 : S8192x768.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_

variable [Facts]

def fn {F : FTy → Type} [FloatOps F] (main_arg0 : FVec F S10240x3968 .f32) (main_arg1 : FVec F S4x32 .f32) (main_arg2 : FVec F S64 .f32) : IVec S_ 1 :=
  let main_v0 : FVec F S8192x768 .f32 := (extractStridedSlice S8192x768 ![0, 3072] · slices_S10240x3968_S8192x768_0_3072) main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_cst_0 : FVec F S_ .f32 := constant S_ .f32 0xFF800000#32
  let main_v3 : FVec F S8192x768 .f32 := broadcastInDim S8192x768 ![] bcast_S_S8192x768 main_cst_0
  let main_v4 : IVec S8192x768 1 := cmpf .ogt main_v0 main_v3
  let main_v5 : IVec S8192x768 1 := andi main_v2 main_v4
  let main_c : IVec S_ 1 := constantI S_ 1 1#1
  let main_v6 : IVec S_ 1 := (fun x v => Host.reduce IntOp.andi x v reducesTo_S8192x768_S_d0_1 h_S_) main_v5 main_c
  let main_cst_1 : FVec F S_ .f32 := constant S_ .f32 0x7F800000#32
  let main_v7 : FVec F S4x32 .f32 := broadcastInDim S4x32 ![] bcast_S_S4x32 main_cst_1
  let main_v8 : IVec S4x32 1 := cmpf .olt main_arg1 main_v7
  let main_cst_2 : FVec F S_ .f32 := constant S_ .f32 0xFF800000#32
  let main_v9 : FVec F S4x32 .f32 := broadcastInDim S4x32 ![] bcast_S_S4x32 main_cst_2
  let main_v10 : IVec S4x32 1 := cmpf .ogt main_arg1 main_v9
  let main_v11 : IVec S4x32 1 := andi main_v8 main_v10
  let main_c_3 : IVec S_ 1 := constantI S_ 1 1#1
  let main_v12 : IVec S_ 1 := (fun x v => Host.reduce IntOp.andi x v reducesTo_S4x32_S_d0_1 h_S_) main_v11 main_c_3
  let main_v13 : IVec S_ 1 := andi main_v6 main_v12
  main_v13
-- ==== Pre_finite5.lean ====
abbrev S10240x3968 : Shape := ⟨2, ![10240, 3968]⟩
abbrev S4x32 : Shape := ⟨2, ![4, 32]⟩
abbrev S64 : Shape := ⟨1, ![64]⟩
abbrev S32x2x4x256x64 : Shape := ⟨5, ![32, 2, 4, 256, 64]⟩
abbrev S8192x768 : Shape := ⟨2, ![8192, 768]⟩
abbrev S_ : Shape := ⟨0, ![]⟩

class Facts : Prop where
  slices_S10240x3968_S8192x768_0_3072 : S10240x3968.Slices ![0, 3072] S8192x768
  bcast_S_S8192x768 : S_.BroadcastsInDim S8192x768 (![] : Fin 0 → Fin S8192x768.rank)
  reducesTo_S8192x768_S_d0_1 : S8192x768.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_

variable [Facts]

def fn {F : FTy → Type} [FloatOps F] (main_arg0 : FVec F S10240x3968 .f32) (main_arg1 : FVec F S4x32 .f32) (main_arg2 : FVec F S64 .f32) (main_arg3 : FVec F S32x2x4x256x64 .f32) (main_arg4 : FVec F S32x2x4x256x64 .f32) : IVec S_ 1 :=
  let main_v0 : FVec F S8192x768 .f32 := (extractStridedSlice S8192x768 ![0, 3072] · slices_S10240x3968_S8192x768_0_3072) main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_cst_0 : FVec F S_ .f32 := constant S_ .f32 0xFF800000#32
  let main_v3 : FVec F S8192x768 .f32 := broadcastInDim S8192x768 ![] bcast_S_S8192x768 main_cst_0
  let main_v4 : IVec S8192x768 1 := cmpf .ogt main_v0 main_v3
  let main_v5 : IVec S8192x768 1 := andi main_v2 main_v4
  let main_c : IVec S_ 1 := constantI S_ 1 1#1
  let main_v6 : IVec S_ 1 := (fun x v => Host.reduce IntOp.andi x v reducesTo_S8192x768_S_d0_1 h_S_) main_v5 main_c
  let main_cst_1 : FVec F S_ .f32 := constant S_ .f32 0x7F800000#32
  let main_v7 : FVec F S4x32 .f32 := broadcastInDim S4x32 ![] bcast_S_S4x32 main_cst_1
  let main_v8 : IVec S4x32 1 := cmpf .olt main_arg1 main_v7
  let main_cst_2 : FVec F S_ .f32 := constant S_ .f32 0xFF800000#32
  let main_v9 : FVec F S4x32 .f32 := broadcastInDim S4x32 ![] bcast_S_S4x32 main_cst_2
  let main_v10 : IVec S4x32 1 := cmpf .ogt main_arg1 main_v9
  let main_v11 : IVec S4x32 1 := andi main_v8 main_v10
  let main_c_3 : IVec S_ 1 := constantI S_ 1 1#1
  let main_v12 : IVec S_ 1 := (fun x v => Host.reduce IntOp.andi x v reducesTo_S4x32_S_d0_1 h_S_) main_v11 main_c_3
  let main_v13 : IVec S_ 1 := andi main_v6 main_v12
  main_v13
-- ==== Pre_finite6.lean ====
abbrev S10240x3968 : Shape := ⟨2, ![10240, 3968]⟩
abbrev S4x32 : Shape := ⟨2, ![4, 32]⟩
abbrev S64 : Shape := ⟨1, ![64]⟩
abbrev S2x4x512x64 : Shape := ⟨4, ![2, 4, 512, 64]⟩
abbrev S2048x768 : Shape := ⟨2, ![2048, 768]⟩
abbrev S_ : Shape := ⟨0, ![]⟩

class Facts : Prop where
  slices_S10240x3968_S2048x768_8192_3072 : S10240x3968.Slices ![8192, 3072] S2048x768
  bcast_S_S2048x768 : S_.BroadcastsInDim S2048x768 (![] : Fin 0 → Fin S2048x768.rank)
  reducesTo_S2048x768_S_d0_1 : S2048x768.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S2x4x512x64 : S_.BroadcastsInDim S2x4x512x64 (![] : Fin 0 → Fin S2x4x512x64.rank)
  reducesTo_S2x4x512x64_S_d0_1_2_3 : S2x4x512x64.ReducesTo [0, 1, 2, 3] S_

variable [Facts]

def fn_part1 {F : FTy → Type} [FloatOps F] (main_arg3 : FVec F S2x4x512x64 .f32) (main_arg4 : FVec F S2x4x512x64 .f32) (main_v13 : IVec S_ 1) (main_v15 : IVec S2x4x512x64 1) (main_cst_5 : FVec F S_ .f32) : IVec S_ 1 :=
  let main_v16 : FVec F S2x4x512x64 .f32 := broadcastInDim S2x4x512x64 ![] bcast_S_S2x4x512x64 main_cst_5
  let main_v17 : IVec S2x4x512x64 1 := cmpf .ogt main_arg3 main_v16
  let main_v18 : IVec S2x4x512x64 1 := andi main_v15 main_v17
  let main_c_6 : IVec S_ 1 := constantI S_ 1 1#1
  let main_v19 : IVec S_ 1 := (fun x v => Host.reduce IntOp.andi x v reducesTo_S2x4x512x64_S_d0_1_2_3 h_S_) main_v18 main_c_6
  let main_v20 : IVec S_ 1 := andi main_v13 main_v19
  let main_cst_7 : FVec F S_ .f32 := constant S_ .f32 0x7F800000#32
  let main_v21 : FVec F S2x4x512x64 .f32 := broadcastInDim S2x4x512x64 ![] bcast_S_S2x4x512x64 main_cst_7
  let main_v22 : IVec S2x4x512x64 1 := cmpf .olt main_arg4 main_v21
  let main_cst_8 : FVec F S_ .f32 := constant S_ .f32 0xFF800000#32
  let main_v23 : FVec F S2x4x512x64 .f32 := broadcastInDim S2x4x512x64 ![] bcast_S_S2x4x512x64 main_cst_8
  let main_v24 : IVec S2x4x512x64 1 := cmpf .ogt main_arg4 main_v23
  let main_v25 : IVec S2x4x512x64 1 := andi main_v22 main_v24
  let main_c_9 : IVec S_ 1 := constantI S_ 1 1#1
  let main_v26 : IVec S_ 1 := (fun x v => Host.reduce IntOp.andi x v reducesTo_S2x4x512x64_S_d0_1_2_3 h_S_) main_v25 main_c_9
  let main_v27 : IVec S_ 1 := andi main_v20 main_v26
  main_v27

def fn {F : FTy → Type} [FloatOps F] (main_arg0 : FVec F S10240x3968 .f32) (main_arg1 : FVec F S4x32 .f32) (main_arg2 : FVec F S64 .f32) (main_arg3 : FVec F S2x4x512x64 .f32) (main_arg4 : FVec F S2x4x512x64 .f32) : IVec S_ 1 :=
  let main_v0 : FVec F S2048x768 .f32 := (extractStridedSlice S2048x768 ![8192, 3072] · slices_S10240x3968_S2048x768_8192_3072) main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_cst_0 : FVec F S_ .f32 := constant S_ .f32 0xFF800000#32
  let main_v3 : FVec F S2048x768 .f32 := broadcastInDim S2048x768 ![] bcast_S_S2048x768 main_cst_0
  let main_v4 : IVec S2048x768 1 := cmpf .ogt main_v0 main_v3
  let main_v5 : IVec S2048x768 1 := andi main_v2 main_v4
  let main_c : IVec S_ 1 := constantI S_ 1 1#1
  let main_v6 : IVec S_ 1 := (fun x v => Host.reduce IntOp.andi x v reducesTo_S2048x768_S_d0_1 h_S_) main_v5 main_c
  let main_cst_1 : FVec F S_ .f32 := constant S_ .f32 0x7F800000#32
  let main_v7 : FVec F S4x32 .f32 := broadcastInDim S4x32 ![] bcast_S_S4x32 main_cst_1
  let main_v8 : IVec S4x32 1 := cmpf .olt main_arg1 main_v7
  let main_cst_2 : FVec F S_ .f32 := constant S_ .f32 0xFF800000#32
  let main_v9 : FVec F S4x32 .f32 := broadcastInDim S4x32 ![] bcast_S_S4x32 main_cst_2
  let main_v10 : IVec S4x32 1 := cmpf .ogt main_arg1 main_v9
  let main_v11 : IVec S4x32 1 := andi main_v8 main_v10
  let main_c_3 : IVec S_ 1 := constantI S_ 1 1#1
  let main_v12 : IVec S_ 1 := (fun x v => Host.reduce IntOp.andi x v reducesTo_S4x32_S_d0_1 h_S_) main_v11 main_c_3
  let main_v13 : IVec S_ 1 := andi main_v6 main_v12
  let main_cst_4 : FVec F S_ .f32 := constant S_ .f32 0x7F800000#32
  let main_v14 : FVec F S2x4x512x64 .f32 := broadcastInDim S2x4x512x64 ![] bcast_S_S2x4x512x64 main_cst_4
  let main_v15 : IVec S2x4x512x64 1 := cmpf .olt main_arg3 main_v14
  let main_cst_5 : FVec F S_ .f32 := constant S_ .f32 0xFF800000#32
  fn_part1 (F := F) main_arg3 main_arg4 main_v13 main_v15 main_cst_5
-- ==== Kernel.lean ====
abbrev S10240x3968 : Shape := ⟨2, ![10240, 3968]⟩
abbrev S4x32 : Shape := ⟨2, ![4, 32]⟩
abbrev S64 : Shape := ⟨1, ![64]⟩
abbrev S8x256 : Shape := ⟨2, ![8, 256]⟩
abbrev S4x256 : Shape := ⟨2, ![4, 256]⟩
abbrev S256x256 : Shape := ⟨2, ![256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8192x256 : Shape := ⟨2, ![8192, 256]⟩
abbrev S32x2x4x256x64 : Shape := ⟨5, ![32, 2, 4, 256, 64]⟩
abbrev S256x768 : Shape := ⟨2, ![256, 768]⟩
abbrev S1x2x4x256x64 : Shape := ⟨5, ![1, 2, 4, 256, 64]⟩
abbrev S1x32 : Shape := ⟨2, ![1, 32]⟩
abbrev S1 : Shape := ⟨1, ![1]⟩
abbrev S1x1 : Shape := ⟨2, ![1, 1]⟩
abbrev S1x1x4x256x64 : Shape := ⟨5, ![1, 1, 4, 256, 64]⟩
abbrev S256x128 : Shape := ⟨2, ![256, 128]⟩
abbrev S256x64 : Shape := ⟨2, ![256, 64]⟩
abbrev S1x1x1x256x64 : Shape := ⟨5, ![1, 1, 1, 256, 64]⟩
abbrev S2048x256 : Shape := ⟨2, ![2048, 256]⟩
abbrev S2048 : Shape := ⟨1, ![2048]⟩
abbrev S2048x1 : Shape := ⟨2, ![2048, 1]⟩
abbrev S1024x256 : Shape := ⟨2, ![1024, 256]⟩

abbrev nBuf : Space → Nat
  | .hbm => 13
  | .vmem => 13
  | .smem => 0
  | _ => 0

abbrev bufTy : (tb : Table) → Fin (tcTables nBuf tb) → BufTy
  | .hbm, ⟨0, _⟩ => ⟨S10240x3968, .f32⟩
  | .hbm, ⟨1, _⟩ => ⟨S4x32, .f32⟩
  | .hbm, ⟨2, _⟩ => ⟨S64, .f32⟩
  | .hbm, ⟨3, _⟩ => ⟨S8x256, .f32⟩
  | .hbm, ⟨4, _⟩ => ⟨S4x256, .f32⟩
  | .hbm, ⟨5, _⟩ => ⟨S256x256, .bf16⟩
  | .hbm, ⟨6, _⟩ => ⟨S1x64, .f32⟩
  | .hbm, ⟨7, _⟩ => ⟨S4x64, .f32⟩
  | .hbm, ⟨8, _⟩ => ⟨S256, .f32⟩
  | .hbm, ⟨9, _⟩ => ⟨S1x256, .f32⟩
  | .hbm, ⟨10, _⟩ => ⟨S8192x256, .f32⟩
  | .hbm, ⟨11, _⟩ => ⟨S32x2x4x256x64, .f32⟩
  | .hbm, ⟨12, _⟩ => ⟨S32x2x4x256x64, .f32⟩
  | .local _ .vmem, ⟨0, _⟩ => ⟨S256x768, .f32⟩
  | .local _ .vmem, ⟨1, _⟩ => ⟨S256x768, .f32⟩
  | .local _ .vmem, ⟨2, _⟩ => ⟨S4x32, .f32⟩
  | .local _ .vmem, ⟨3, _⟩ => ⟨S1x256, .f32⟩
  | .local _ .vmem, ⟨4, _⟩ => ⟨S8x256, .f32⟩
  | .local _ .vmem, ⟨5, _⟩ => ⟨S4x256, .f32⟩
  | .local _ .vmem, ⟨6, _⟩ => ⟨S256x256, .bf16⟩
  | .local _ .vmem, ⟨7, _⟩ => ⟨S256x256, .f32⟩
  | .local _ .vmem, ⟨8, _⟩ => ⟨S256x256, .f32⟩
  | .local _ .vmem, ⟨9, _⟩ => ⟨S1x2x4x256x64, .f32⟩
  | .local _ .vmem, ⟨10, _⟩ => ⟨S1x2x4x256x64, .f32⟩
  | .local _ .vmem, ⟨11, _⟩ => ⟨S1x2x4x256x64, .f32⟩
  | .local _ .vmem, ⟨12, _⟩ => ⟨S1x2x4x256x64, .f32⟩
  | _, _ => ⟨S10240x3968, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x4x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x4x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S10240x3968 : Shape := ⟨2, ![10240, 3968]⟩
abbrev S4x32 : Shape := ⟨2, ![4, 32]⟩
abbrev S64 : Shape := ⟨1, ![64]⟩
abbrev S8192x768 : Shape := ⟨2, ![8192, 768]⟩
abbrev S32x256x768 : Shape := ⟨3, ![32, 256, 768]⟩
abbrev S32x256x256 : Shape := ⟨3, ![32, 256, 256]⟩
abbrev S32x256x4x64 : Shape := ⟨4, ![32, 256, 4, 64]⟩
abbrev S32x4x256x64 : Shape := ⟨4, ![32, 4, 256, 64]⟩
abbrev S32x4x256x32 : Shape := ⟨4, ![32, 4, 256, 32]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S1x32 : Shape := ⟨2, ![1, 32]⟩
abbrev S32 : Shape := ⟨1, ![32]⟩
abbrev S1x1x1x64 : Shape := ⟨4, ![1, 1, 1, 64]⟩
abbrev S8192x256 : Shape := ⟨2, ![8192, 256]⟩
abbrev S32x1x4x256x64 : Shape := ⟨5, ![32, 1, 4, 256, 64]⟩
abbrev S32x2x4x256x64 : Shape := ⟨5, ![32, 2, 4, 256, 64]⟩

abbrev nBuf : Space → Nat
  | .hbm => 106
  | .vmem => 0
  | .smem => 0
  | _ => 0

abbrev bufTy : (tb : Table) → Fin (tcTables nBuf tb) → BufTy
  | .hbm, ⟨0, _⟩ => ⟨S10240x3968, .f32⟩
  | .hbm, ⟨1, _⟩ => ⟨S4x32, .f32⟩
  | .hbm, ⟨2, _⟩ => ⟨S64, .f32⟩
  | .hbm, ⟨3, _⟩ => ⟨S8192x768, .f32⟩
  | .hbm, ⟨4, _⟩ => ⟨S32x256x768, .f32⟩
  | .hbm, ⟨5, _⟩ => ⟨S32x256x256, .f32⟩
  | .hbm, ⟨6, _⟩ => ⟨S32x256x4x64, .f32⟩
  | .hbm, ⟨7, _⟩ => ⟨S32x4x256x64, .f32⟩
  | .hbm, ⟨8, _⟩ => ⟨S32x256x256, .f32⟩
  | .hbm, ⟨9, _⟩ => ⟨S32x256x4x64, .f32⟩
  | .hbm, ⟨10, _⟩ => ⟨S32x4x256x64, .f32⟩
  | .hbm, ⟨11, _⟩ => ⟨S32x256x256, .f32⟩
  | .hbm, ⟨12, _⟩ => ⟨S32x256x4x64, .f32⟩
  | .hbm, ⟨13, _⟩ => ⟨S32x4x256x64, .f32⟩
  | .hbm, ⟨14, _⟩ => ⟨S32x4x256x32, .f32⟩
  | .hbm, ⟨15, _⟩ => ⟨S32x4x256x32, .f32⟩
  | .hbm, ⟨16, _⟩ => ⟨S32x4x256x256, .f32⟩
  | .hbm, ⟨17, _⟩ => ⟨S_, .f32⟩
  | .hbm, ⟨18, _⟩ => ⟨S32x4x256x256, .f32⟩
  | .hbm, ⟨19, _⟩ => ⟨S32x4x256x256, .f32⟩
  | .hbm, ⟨20, _⟩ => ⟨S_, .f32⟩
  | .hbm, ⟨21, _⟩ => ⟨S32x4x256, .f32⟩
  | .hbm, ⟨22, _⟩ => ⟨S_, .f32⟩
  | .hbm, ⟨23, _⟩ => ⟨S32x4x256, .f32⟩
  | .hbm, ⟨24, _⟩ => ⟨S32x4x256, .f32⟩
  | .hbm, ⟨25, _⟩ => ⟨S32x4x256x1, .f32⟩
  | .hbm, ⟨26, _⟩ => ⟨S32x4x256x256, .f32⟩
  | .hbm, ⟨27, _⟩ => ⟨S32x4x256x256, .f32⟩
  | .hbm, ⟨28, _⟩ => ⟨S32x4x256x256, .f32⟩
  | .hbm, ⟨29, _⟩ => ⟨S_, .f32⟩
  | .hbm, ⟨30, _⟩ => ⟨S32x4x256, .f32⟩
  | .hbm, ⟨31, _⟩ => ⟨S32x4x256x1, .f32⟩
  | .hbm, ⟨32, _⟩ => ⟨S32x4x256x256, .f32⟩
  | .hbm, ⟨33, _⟩ => ⟨S32x4x256x256, .f32⟩
  | .hbm, ⟨34, _⟩ => ⟨S32x4x256x32, .f32⟩
  | .hbm, ⟨35, _⟩ => ⟨S32x4x256x32, .f32⟩
  | .hbm, ⟨36, _⟩ => ⟨S32x4x256x256, .f32⟩
  | .hbm, ⟨37, _⟩ => ⟨S_, .f32⟩
  | .hbm, ⟨38, _⟩ => ⟨S32x4x256x256, .f32⟩
  | .hbm, ⟨39, _⟩ => ⟨S32x4x256x256, .f32⟩
  | .hbm, ⟨40, _⟩ => ⟨S_, .f32⟩
  | .hbm, ⟨41, _⟩ => ⟨S32x4x256, .f32⟩
  | .hbm, ⟨42, _⟩ => ⟨S_, .f32⟩
  | .hbm, ⟨43, _⟩ => ⟨S32x4x256, .f32⟩
  | .hbm, ⟨44, _⟩ => ⟨S32x4x256, .f32⟩
  | .hbm, ⟨45, _⟩ => ⟨S32x4x256x1, .f32⟩
  | .hbm, ⟨46, _⟩ => ⟨S32x4x256x256, .f32⟩
  | .hbm, ⟨47, _⟩ => ⟨S32x4x256x256, .f32⟩
  | .hbm, ⟨48, _⟩ => ⟨S32x4x256x256, .f32⟩
  | .hbm, ⟨49, _⟩ => ⟨S_, .f32⟩
  | .hbm, ⟨50, _⟩ => ⟨S32x4x256, .f32⟩
  | .hbm, ⟨51, _⟩ => ⟨S32x4x256x1, .f32⟩
  | .hbm, ⟨52, _⟩ => ⟨S32x4x256x256, .f32⟩
  | .hbm, ⟨53, _⟩ => ⟨S32x4x256x256, .f32⟩
  | .hbm, ⟨54, _⟩ => ⟨S1x32, .f32⟩
  | .hbm, ⟨55, _⟩ => ⟨S32, .f32⟩
  | .hbm, ⟨56, _⟩ => ⟨S1x32, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1x32, .f32⟩
  | .hbm, ⟨63, _⟩ => ⟨S32, .f32⟩
  | .hbm, ⟨64, _⟩ => ⟨S1x32, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S32x4x256x256, .f32⟩
  | .hbm, ⟨74, _⟩ => ⟨S32x4x256x256, .f32⟩
  | .hbm, ⟨75, _⟩ => ⟨S32x4x256x256, .f32⟩
  | .hbm, ⟨76, _⟩ => ⟨S32x4x256x64, .f32⟩
  | .hbm, ⟨77, _⟩ => ⟨S32x4x256x64, .f32⟩
  | .hbm, ⟨78, _⟩ => ⟨S_, .f32⟩
  | .hbm, ⟨79, _⟩ => ⟨S32x4x256, .f32⟩
  | .hbm, ⟨80, _⟩ => ⟨S32x4x256x1, .f32⟩
  | .hbm, ⟨81, _⟩ => ⟨S_, .f32⟩
  | .hbm, ⟨82, _⟩ => ⟨S32x4x256x1, .f32⟩
  | .hbm, ⟨83, _⟩ => ⟨S32x4x256x1, .f32⟩
  | .hbm, ⟨84, _⟩ => ⟨S_, .f32⟩
  | .hbm, ⟨85, _⟩ => ⟨S32x4x256x1, .f32⟩
  | .hbm, ⟨86, _⟩ => ⟨S32x4x256x1, .f32⟩
  | .hbm, ⟨87, _⟩ => ⟨S32x4x256x1, .f32⟩
  | .hbm, ⟨88, _⟩ => ⟨S32x4x256x64, .f32⟩
  | .hbm, ⟨89, _⟩ => ⟨S32x4x256x64, .f32⟩
  | .hbm, ⟨90, _⟩ => ⟨S1x1x1x64, .f32⟩
  | .hbm, ⟨91, _⟩ => ⟨S32x4x256x64, .f32⟩
  | .hbm, ⟨92, _⟩ => ⟨S32x4x256x64, .f32⟩
  | .hbm, ⟨93, _⟩ => ⟨S32x256x4x64, .f32⟩
  | .hbm, ⟨94, _⟩ => ⟨S8192x256, .f32⟩
  | .hbm, ⟨95, _⟩ => ⟨S_, .f32⟩
  | .hbm, ⟨96, _⟩ => ⟨S8192x256, .f32⟩
  | .hbm, ⟨97, _⟩ => ⟨S8192x256, .f32⟩
  | .hbm, ⟨98, _⟩ => ⟨S_, .f32⟩
  | .hbm, ⟨99, _⟩ => ⟨S32x4x256x64, .f32⟩
  | .hbm, ⟨100, _⟩ => ⟨S32x1x4x256x64, .f32⟩
  | .hbm, ⟨101, _⟩ => ⟨S32x1x4x256x64, .f32⟩
  | .hbm, ⟨102, _⟩ => ⟨S32x2x4x256x64, .f32⟩
  | .hbm, ⟨103, _⟩ => ⟨S32x1x4x256x64, .f32⟩
  | .hbm, ⟨104, _⟩ => ⟨S32x1x4x256x64, .f32⟩
  | .hbm, ⟨105, _⟩ => ⟨S32x2x4x256x64, .f32⟩
  | _, _ => ⟨S10240x3968, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_10 : Ref sig .tc := ⟨.hbm, 78, rfl⟩
abbrev main_v64 : Ref sig .tc := ⟨.hbm, 79, rfl⟩
abbrev main_v65 : Ref sig .tc := ⟨.hbm, 80, rfl⟩
abbrev main_cst_11 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_13 : Ref sig .tc := ⟨.hbm, 95, rfl⟩
abbrev main_v78 : Ref sig .tc := ⟨.hbm, 96, rfl⟩
abbrev main_v79 : Ref sig .tc := ⟨.hbm, 97, rfl⟩
abbrev main_cst_14 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Kernel2.lean ====
abbrev S10240x1024 : Shape := ⟨2, ![10240, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S8192x1024 : Shape := ⟨2, ![8192, 1024]⟩
abbrev S2048x1024 : Shape := ⟨2, ![2048, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 12
  | .smem => 0
  | _ => 0

abbrev bufTy : (tb : Table) → Fin (tcTables nBuf tb) → BufTy
  | .hbm, ⟨0, _⟩ => ⟨S10240x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S8192x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c16_i32 : BitVec 32 := 16#32
  let v0 : BitVec 1 := Scalar.cmpi .sge arg0 c16_i32
  let v_true : BitVec 1 := 1#1
  let v87 : BitVec 1 := Scalar.xori v0 v_true
  let v88 : BitVec 32 := Scalar.extui v87
  let c0_i32 : BitVec 32 := 0#32
  let v89 : BitVec 1 := Scalar.cmpi .ne v88 c0_i32
  v89

def k0_cond2 (i : grid0.Coords) : BitVec 1 :=
  let arg0 : BitVec 32 := BitVec.ofNat 32 (i 0).val
  let c16_i32 : BitVec 32 := 16#32
  let v0 : BitVec 1 := Scalar.cmpi .sge arg0 c16_i32
  let v90 : BitVec 32 := Scalar.extui v0
  let c0_i32_39 : BitVec 32 := 0#32
  let v91 : BitVec 1 := Scalar.cmpi .ne v90 c0_i32_39
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c7168_i32 : BitVec 32 := 7168#32
  let v1 : BitVec 32 := Scalar.subi v0 c7168_i32
  let c0_i32 : BitVec 32 := 0#32
  let v2 : BitVec 32 := Scalar.maxsi v1 c0_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S10240x1024 : Shape := ⟨2, ![10240, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S10240 : Shape := ⟨1, ![10240]⟩
abbrev S_ : Shape := ⟨0, ![]⟩
abbrev S10240x1 : Shape := ⟨2, ![10240, 1]⟩
abbrev S10240x2 : Shape := ⟨2, ![10240, 2]⟩
abbrev S1x1024 : Shape := ⟨2, ![1, 1024]⟩
abbrev S10240x5632 : Shape := ⟨2, ![10240, 5632]⟩
abbrev S10240x2816 : Shape := ⟨2, ![10240, 2816]⟩
abbrev S8192x1024 : Shape := ⟨2, ![8192, 1024]⟩
abbrev S2048x1024 : Shape := ⟨2, ![2048, 1024]⟩

abbrev nBuf : Space → Nat
  | .hbm => 121
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S10240, .i32⟩
  | .hbm, ⟨7, _⟩ => ⟨S_, .i32⟩
  | .hbm, ⟨8, _⟩ => ⟨S10240, .i32⟩
  | .hbm, ⟨9, _⟩ => ⟨S10240, .i1⟩
  | .hbm, ⟨10, _⟩ => ⟨S_, .i32⟩
  | .hbm, ⟨11, _⟩ => ⟨S10240, .i32⟩
  | .hbm, ⟨12, _⟩ => ⟨S10240, .i1⟩
  | .hbm, ⟨13, _⟩ => ⟨S_, .i32⟩
  | .hbm, ⟨14, _⟩ => ⟨S_, .i32⟩
  | .hbm, ⟨15, _⟩ => ⟨S10240, .i32⟩
  | .hbm, ⟨16, _⟩ => ⟨S10240, .i32⟩
  | .hbm, ⟨17, _⟩ => ⟨S10240, .i32⟩
  | .hbm, ⟨18, _⟩ => ⟨S_, .i32⟩
  | .hbm, ⟨19, _⟩ => ⟨S10240, .i32⟩
  | .hbm, ⟨20, _⟩ => ⟨S10240, .i32⟩
  | .hbm, ⟨21, _⟩ => ⟨S_, .i32⟩
  | .hbm, ⟨22, _⟩ => ⟨S10240, .i32⟩
  | .hbm, ⟨23, _⟩ => ⟨S10240, .i1⟩
  | .hbm, ⟨24, _⟩ => ⟨S_, .i32⟩
  | .hbm, ⟨25, _⟩ => ⟨S10240, .i32⟩
  | .hbm, ⟨26, _⟩ => ⟨S10240, .i32⟩
  | .hbm, ⟨27, _⟩ => ⟨S10240, .i32⟩
  | .hbm, ⟨28, _⟩ => ⟨S_, .i32⟩
  | .hbm, ⟨29, _⟩ => ⟨S10240, .i32⟩
  | .hbm, ⟨30, _⟩ => ⟨S10240, .i32⟩
  | .hbm, ⟨31, _⟩ => ⟨S10240x1, .i32⟩
  | .hbm, ⟨32, _⟩ => ⟨S10240x1, .i32⟩
  | .hbm, ⟨33, _⟩ => ⟨S10240x2, .i32⟩
  | .hbm, ⟨34, _⟩ => ⟨S10240x1024, .f32⟩
  | .hbm, ⟨35, _⟩ => ⟨S_, .i32⟩
  | .hbm, ⟨36, _⟩ => ⟨S10240, .i32⟩
  | .hbm, ⟨37, _⟩ => ⟨S10240, .i1⟩
  | .hbm, ⟨38, _⟩ => ⟨S_, .i32⟩
  | .hbm, ⟨39, _⟩ => ⟨S10240, .i32⟩
  | .hbm, ⟨40, _⟩ => ⟨S10240, .i32⟩
  | .hbm, ⟨41, _⟩ => ⟨S10240, .i32⟩
  | .hbm, ⟨42, _⟩ => ⟨S_, .i32⟩
  | .hbm, ⟨43, _⟩ => ⟨S10240, .i32⟩
  | .hbm, ⟨44, _⟩ => ⟨S10240, .i32⟩
  | .hbm, ⟨45, _⟩ => ⟨S10240x1, .i32⟩
  | .hbm, ⟨46, _⟩ => ⟨S10240x1, .i32⟩
  | .hbm, ⟨47, _⟩ => ⟨S10240x2, .i32⟩
  | .hbm, ⟨48, _⟩ => ⟨S10240x1024, .f32⟩
  | .hbm, ⟨49, _⟩ => ⟨S_, .i32⟩
  | .hbm, ⟨50, _⟩ => ⟨S10240, .i32⟩
  | .hbm, ⟨51, _⟩ => ⟨S10240, .i1⟩
  | .hbm, ⟨52, _⟩ => ⟨S_, .i32⟩
  | .hbm, ⟨53, _⟩ => ⟨S10240, .i32⟩
  | .hbm, ⟨54, _⟩ => ⟨S10240, .i32⟩
  | .hbm, ⟨55, _⟩ => ⟨S10240, .i32⟩
  | .hbm, ⟨56, _⟩ => ⟨S_, .i32⟩
  | .hbm, ⟨57, _⟩ => ⟨S10240, .i32⟩
  | .hbm, ⟨58, _⟩ => ⟨S10240, .i32⟩
  | .hbm, ⟨59, _⟩ => ⟨S10240x1, .i32⟩
  | .hbm, ⟨60, _⟩ => ⟨S10240x1, .i32⟩
  | .hbm, ⟨61, _⟩ => ⟨S10240x2, .i32⟩
  | .hbm, ⟨62, _⟩ => ⟨S10240x1024, .f32⟩
  | .hbm, ⟨63, _⟩ => ⟨S10240x1024, .f32⟩
  | .hbm, ⟨64, _⟩ => ⟨S_, .f32⟩
  | .hbm, ⟨65, _⟩ => ⟨S10240, .f32⟩
  | .hbm, ⟨66, _⟩ => ⟨S10240x1, .f32⟩
  | .hbm, ⟨67, _⟩ => ⟨S_, .f32⟩
  | .hbm, ⟨68, _⟩ => ⟨S10240x1, .f32⟩
  | .hbm, ⟨69, _⟩ => ⟨S10240x1, .f32⟩
  | .hbm, ⟨70, _⟩ => ⟨S_, .f32⟩
  | .hbm, ⟨71, _⟩ => ⟨S10240x1, .f32⟩
  | .hbm, ⟨72, _⟩ => ⟨S10240x1, .f32⟩
  | .hbm, ⟨73, _⟩ => ⟨S10240x1, .f32⟩
  | .hbm, ⟨74, _⟩ => ⟨S10240x1024, .f32⟩
  | .hbm, ⟨75, _⟩ => ⟨S10240x1024, .f32⟩
  | .hbm, ⟨76, _⟩ => ⟨S1x1024, .f32⟩
  | .hbm, ⟨77, _⟩ => ⟨S10240x1024, .f32⟩
  | .hbm, ⟨78, _⟩ => ⟨S10240x1024, .f32⟩
  | .hbm, ⟨79, _⟩ => ⟨S_, .f32⟩
  | .hbm, ⟨80, _⟩ => ⟨S10240x1024, .f32⟩
  | .hbm, ⟨81, _⟩ => ⟨S10240x1024, .f32⟩
  | .hbm, ⟨82, _⟩ => ⟨S10240x1024, .f32⟩
  | .hbm, ⟨83, _⟩ => ⟨S10240x1024, .f32⟩
  | .hbm, ⟨84, _⟩ => ⟨S10240x5632, .f32⟩
  | .hbm, ⟨85, _⟩ => ⟨S_, .f32⟩
  | .hbm, ⟨86, _⟩ => ⟨S10240x1024, .f32⟩
  | .hbm, ⟨87, _⟩ => ⟨S10240x1024, .f32⟩
  | .hbm, ⟨88, _⟩ => ⟨S10240x2816, .f32⟩
  | .hbm, ⟨89, _⟩ => ⟨S10240x2816, .f32⟩
  | .hbm, ⟨90, _⟩ => ⟨S10240x2816, .f32⟩
  | .hbm, ⟨91, _⟩ => ⟨S_, .f32⟩
  | .hbm, ⟨92, _⟩ => ⟨S10240x2816, .f32⟩
  | .hbm, ⟨93, _⟩ => ⟨S10240x2816, .f32⟩
  | .hbm, ⟨94, _⟩ => ⟨S_, .f32⟩
  | .hbm, ⟨95, _⟩ => ⟨S10240x2816, .f32⟩
  | .hbm, ⟨96, _⟩ => ⟨S10240x2816, .f32⟩
  | .hbm, ⟨97, _⟩ => ⟨S10240x2816, .f32⟩
  | .hbm, ⟨98, _⟩ => ⟨S10240x2816, .f32⟩
  | .hbm, ⟨99, _⟩ => ⟨S10240x2816, .f32⟩
  | .hbm, ⟨100, _⟩ => ⟨S10240x1024, .f32⟩
  | .hbm, ⟨101, _⟩ => ⟨S10240x1024, .f32⟩
  | .hbm, ⟨102, _⟩ => ⟨S10240x1024, .f32⟩
  | .hbm, ⟨103, _⟩ => ⟨S10240x1024, .f32⟩
  | .hbm, ⟨104, _⟩ => ⟨S_, .f32⟩
  | .hbm, ⟨105, _⟩ => ⟨S10240, .f32⟩
  | .hbm, ⟨106, _⟩ => ⟨S10240x1, .f32⟩
  | .hbm, ⟨107, _⟩ => ⟨S_, .f32⟩
  | .hbm, ⟨108, _⟩ => ⟨S10240x1, .f32⟩
  | .hbm, ⟨109, _⟩ => ⟨S10240x1, .f32⟩
  | .hbm, ⟨110, _⟩ => ⟨S_, .f32⟩
  | .hbm, ⟨111, _⟩ => ⟨S10240x1, .f32⟩
  | .hbm, ⟨112, _⟩ => ⟨S10240x1, .f32⟩
  | .hbm, ⟨113, _⟩ => ⟨S10240x1, .f32⟩
  | .hbm, ⟨114, _⟩ => ⟨S10240x1024, .f32⟩
  | .hbm, ⟨115, _⟩ => ⟨S10240x1024, .f32⟩
  | .hbm, ⟨116, _⟩ => ⟨S1x1024, .f32⟩
  | .hbm, ⟨117, _⟩ => ⟨S10240x1024, .f32⟩
  | .hbm, ⟨118, _⟩ => ⟨S10240x1024, .f32⟩
  | .hbm, ⟨119, _⟩ => ⟨S8192x1024, .f32⟩
  | .hbm, ⟨120, _⟩ => ⟨S2048x1024, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_c_3 : Ref sig .tc := ⟨.hbm, 18, rfl⟩
abbrev main_call1_v0 : Ref sig .tc := ⟨.hbm, 19, rfl⟩
abbrev main_v6 : Ref sig .tc := ⟨.hbm, 20, rfl⟩
abbrev main_c_4 : Ref sig .tc := ⟨.hbm, 21, rfl⟩
abbrev main_v7 : Ref sig .tc := ⟨.hbm, 22, rfl⟩
abbrev main_v8 : Ref sig .tc := ⟨.hbm, 23, rfl⟩
abbrev main_c_5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_7 : Ref sig .tc := ⟨.hbm, 35, rfl⟩
abbrev main_v18 : Ref sig .tc := ⟨.hbm, 36, rfl⟩
abbrev main_v19 : Ref sig .tc := ⟨.hbm, 37, rfl⟩
abbrev main_c_8 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_9 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_10 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_12 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_15 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_17 : Ref sig .tc := ⟨.hbm, 104, rfl⟩
abbrev main_v68 : Ref sig .tc := ⟨.hbm, 105, rfl⟩
abbrev main_v69 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_cst_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Kernel3.lean ====
abbrev S10240x1024 : Shape := ⟨2, ![10240, 1024]⟩
abbrev S8x9x1024 : Shape := ⟨3, ![8, 9, 1024]⟩
abbrev S1024 : Shape := ⟨1, ![1024]⟩
abbrev S8192x256 : Shape := ⟨2, ![8192, 256]⟩
abbrev S2048x256 : Shape := ⟨2, ![2048, 256]⟩
abbrev S1024x4096 : Shape := ⟨2, ![1024, 4096]⟩
abbrev S4x256x1024 : Shape := ⟨3, ![4, 256, 1024]⟩
abbrev S1024x1024 : Shape := ⟨2, ![1024, 1024]⟩
abbrev S1x1024 : Shape := ⟨2, ![1, 1024]⟩
abbrev S512x1024 : Shape := ⟨2, ![512, 1024]⟩
abbrev S1x9x1024 : Shape := ⟨3, ![1, 9, 1024]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩

abbrev nBuf : Space → Nat
  | .hbm => 19
  | .vmem => 26
  | .smem => 0
  | _ => 0

abbrev bufTy : (tb : Table) → Fin (tcTables nBuf tb) → BufTy
  | .hbm, ⟨0, _⟩ => ⟨S10240x1024, .f32⟩
  | .hbm, ⟨1, _⟩ => ⟨S8x9x1024, .f32⟩
  | .hbm, ⟨2, _⟩ => ⟨S1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S1024x4096, .f32⟩
  | .hbm, ⟨12, _⟩ => ⟨S4x256x1024, .f32⟩
  | .hbm, ⟨13, _⟩ => ⟨S1024x1024, .f32⟩
  | .hbm, ⟨14, _⟩ => ⟨S1x1024, .f32⟩
  | .hbm, ⟨15, _⟩ => ⟨S1024x4096, .bf16⟩
  | .hbm, ⟨16, _⟩ => ⟨S4x256x1024, .bf16⟩
  | .hbm, ⟨17, _⟩ => ⟨S1024x1024, .bf16⟩
  | .hbm, ⟨18, _⟩ => ⟨S10240x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S1024x4096, .bf16⟩
  | .local _ .vmem, ⟨22, _⟩ => ⟨S4x256x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c7168_i32 : BitVec 32 := 7168#32
  let v1 : BitVec 32 := Scalar.subi v0 c7168_i32
  let c0_i32 : BitVec 32 := 0#32
  let v2 : BitVec 32 := Scalar.maxsi v1 c0_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S10240x1024 : Shape := ⟨2, ![10240, 1024]⟩
abbrev S8x9x1024 : Shape := ⟨3, ![8, 9, 1024]⟩
abbrev S1024 : Shape := ⟨1, ![1024]⟩
abbrev S8192x256 : Shape := ⟨2, ![8192, 256]⟩
abbrev S2048x256 : Shape := ⟨2, ![2048, 256]⟩
abbrev S1024x4096 : Shape := ⟨2, ![1024, 4096]⟩
abbrev S4x256x1024 : Shape := ⟨3, ![4, 256, 1024]⟩
abbrev S1024x1024 : Shape := ⟨2, ![1024, 1024]⟩
abbrev S10240 : Shape := ⟨1, ![10240]⟩
abbrev S_ : Shape := ⟨0, ![]⟩
abbrev S10240x1 : Shape := ⟨2, ![10240, 1]⟩
abbrev S10240x2 : Shape := ⟨2, ![10240, 2]⟩
abbrev S1x1024 : Shape := ⟨2, ![1, 1024]⟩
abbrev S10240x256 : Shape := ⟨2, ![10240, 256]⟩
abbrev S1x10240x256 : Shape := ⟨3, ![1, 10240, 256]⟩
abbrev S4x10240x256 : Shape := ⟨3, ![4, 10240, 256]⟩
abbrev S4x10240x1024 : Shape := ⟨3, ![4, 10240, 1024]⟩
abbrev S10240x4096 : Shape := ⟨2, ![10240, 4096]⟩
abbrev S10240x4x1024 : Shape := ⟨3, ![10240, 4, 1024]⟩

abbrev nBuf : Space → Nat
  | .hbm => 116
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S8x9x1024, .f32⟩
  | .hbm, ⟨2, _⟩ => ⟨S1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S1024x4096, .f32⟩
  | .hbm, ⟨12, _⟩ => ⟨S4x256x1024, .f32⟩
  | .hbm, ⟨13, _⟩ => ⟨S1024x1024, .f32⟩
  | .hbm, ⟨14, _⟩ => ⟨S10240, .i32⟩
  | .hbm, ⟨15, _⟩ => ⟨S_, .i32⟩
  | .hbm, ⟨16, _⟩ => ⟨S10240, .i32⟩
  | .hbm, ⟨17, _⟩ => ⟨S10240, .i1⟩
  | .hbm, ⟨18, _⟩ => ⟨S_, .i32⟩
  | .hbm, ⟨19, _⟩ => ⟨S10240, .i32⟩
  | .hbm, ⟨20, _⟩ => ⟨S10240, .i1⟩
  | .hbm, ⟨21, _⟩ => ⟨S_, .i32⟩
  | .hbm, ⟨22, _⟩ => ⟨S_, .i32⟩
  | .hbm, ⟨23, _⟩ => ⟨S10240, .i32⟩
  | .hbm, ⟨24, _⟩ => ⟨S10240, .i32⟩
  | .hbm, ⟨25, _⟩ => ⟨S10240, .i32⟩
  | .hbm, ⟨26, _⟩ => ⟨S_, .i32⟩
  | .hbm, ⟨27, _⟩ => ⟨S10240, .i32⟩
  | .hbm, ⟨28, _⟩ => ⟨S10240, .i32⟩
  | .hbm, ⟨29, _⟩ => ⟨S_, .i32⟩
  | .hbm, ⟨30, _⟩ => ⟨S10240, .i32⟩
  | .hbm, ⟨31, _⟩ => ⟨S10240, .i1⟩
  | .hbm, ⟨32, _⟩ => ⟨S_, .i32⟩
  | .hbm, ⟨33, _⟩ => ⟨S10240, .i32⟩
  | .hbm, ⟨34, _⟩ => ⟨S10240, .i32⟩
  | .hbm, ⟨35, _⟩ => ⟨S10240, .i32⟩
  | .hbm, ⟨36, _⟩ => ⟨S_, .i32⟩
  | .hbm, ⟨37, _⟩ => ⟨S10240, .i32⟩
  | .hbm, ⟨38, _⟩ => ⟨S10240, .i32⟩
  | .hbm, ⟨39, _⟩ => ⟨S10240x1, .i32⟩
  | .hbm, ⟨40, _⟩ => ⟨S10240x1, .i32⟩
  | .hbm, ⟨41, _⟩ => ⟨S10240x2, .i32⟩
  | .hbm, ⟨42, _⟩ => ⟨S10240x1024, .f32⟩
  | .hbm, ⟨43, _⟩ => ⟨S_, .i32⟩
  | .hbm, ⟨44, _⟩ => ⟨S10240, .i32⟩
  | .hbm, ⟨45, _⟩ => ⟨S10240, .i1⟩
  | .hbm, ⟨46, _⟩ => ⟨S_, .i32⟩
  | .hbm, ⟨47, _⟩ => ⟨S10240, .i32⟩
  | .hbm, ⟨48, _⟩ => ⟨S10240, .i32⟩
  | .hbm, ⟨49, _⟩ => ⟨S10240, .i32⟩
  | .hbm, ⟨50, _⟩ => ⟨S_, .i32⟩
  | .hbm, ⟨51, _⟩ => ⟨S10240, .i32⟩
  | .hbm, ⟨52, _⟩ => ⟨S10240, .i32⟩
  | .hbm, ⟨53, _⟩ => ⟨S10240x1, .i32⟩
  | .hbm, ⟨54, _⟩ => ⟨S10240x1, .i32⟩
  | .hbm, ⟨55, _⟩ => ⟨S10240x2, .i32⟩
  | .hbm, ⟨56, _⟩ => ⟨S10240x1024, .f32⟩
  | .hbm, ⟨57, _⟩ => ⟨S_, .i32⟩
  | .hbm, ⟨58, _⟩ => ⟨S10240, .i32⟩
  | .hbm, ⟨59, _⟩ => ⟨S10240, .i1⟩
  | .hbm, ⟨60, _⟩ => ⟨S_, .i32⟩
  | .hbm, ⟨61, _⟩ => ⟨S10240, .i32⟩
  | .hbm, ⟨62, _⟩ => ⟨S10240, .i32⟩
  | .hbm, ⟨63, _⟩ => ⟨S10240, .i32⟩
  | .hbm, ⟨64, _⟩ => ⟨S_, .i32⟩
  | .hbm, ⟨65, _⟩ => ⟨S10240, .i32⟩
  | .hbm, ⟨66, _⟩ => ⟨S10240, .i32⟩
  | .hbm, ⟨67, _⟩ => ⟨S10240x1, .i32⟩
  | .hbm, ⟨68, _⟩ => ⟨S10240x1, .i32⟩
  | .hbm, ⟨69, _⟩ => ⟨S10240x2, .i32⟩
  | .hbm, ⟨70, _⟩ => ⟨S10240x1024, .f32⟩
  | .hbm, ⟨71, _⟩ => ⟨S10240x1024, .f32⟩
  | .hbm, ⟨72, _⟩ => ⟨S_, .f32⟩
  | .hbm, ⟨73, _⟩ => ⟨S10240, .f32⟩
  | .hbm, ⟨74, _⟩ => ⟨S10240x1, .f32⟩
  | .hbm, ⟨75, _⟩ => ⟨S_, .f32⟩
  | .hbm, ⟨76, _⟩ => ⟨S10240x1, .f32⟩
  | .hbm, ⟨77, _⟩ => ⟨S10240x1, .f32⟩
  | .hbm, ⟨78, _⟩ => ⟨S_, .f32⟩
  | .hbm, ⟨79, _⟩ => ⟨S10240x1, .f32⟩
  | .hbm, ⟨80, _⟩ => ⟨S10240x1, .f32⟩
  | .hbm, ⟨81, _⟩ => ⟨S10240x1, .f32⟩
  | .hbm, ⟨82, _⟩ => ⟨S10240x1024, .f32⟩
  | .hbm, ⟨83, _⟩ => ⟨S10240x1024, .f32⟩
  | .hbm, ⟨84, _⟩ => ⟨S1x1024, .f32⟩
  | .hbm, ⟨85, _⟩ => ⟨S10240x1024, .f32⟩
  | .hbm, ⟨86, _⟩ => ⟨S10240x1024, .f32⟩
  | .hbm, ⟨87, _⟩ => ⟨S_, .f32⟩
  | .hbm, ⟨88, _⟩ => ⟨S10240x1024, .f32⟩
  | .hbm, ⟨89, _⟩ => ⟨S10240x1024, .f32⟩
  | .hbm, ⟨90, _⟩ => ⟨S10240x1024, .f32⟩
  | .hbm, ⟨91, _⟩ => ⟨S10240x1024, .f32⟩
  | .hbm, ⟨92, _⟩ => ⟨S10240x256, .f32⟩
  | .hbm, ⟨93, _⟩ => ⟨S10240x256, .f32⟩
  | .hbm, ⟨94, _⟩ => ⟨S10240x256, .f32⟩
  | .hbm, ⟨95, _⟩ => ⟨S10240x256, .f32⟩
  | .hbm, ⟨96, _⟩ => ⟨S1x10240x256, .f32⟩
  | .hbm, ⟨97, _⟩ => ⟨S1x10240x256, .f32⟩
  | .hbm, ⟨98, _⟩ => ⟨S1x10240x256, .f32⟩
  | .hbm, ⟨99, _⟩ => ⟨S1x10240x256, .f32⟩
  | .hbm, ⟨100, _⟩ => ⟨S4x10240x256, .f32⟩
  | .hbm, ⟨101, _⟩ => ⟨S4x10240x1024, .f32⟩
  | .hbm, ⟨102, _⟩ => ⟨S10240x4096, .f32⟩
  | .hbm, ⟨103, _⟩ => ⟨S10240x4096, .f32⟩
  | .hbm, ⟨104, _⟩ => ⟨S10240x4096, .f32⟩
  | .hbm, ⟨105, _⟩ => ⟨S_, .f32⟩
  | .hbm, ⟨106, _⟩ => ⟨S10240x4096, .f32⟩
  | .hbm, ⟨107, _⟩ => ⟨S10240x4096, .f32⟩
  | .hbm, ⟨108, _⟩ => ⟨S_, .f32⟩
  | .hbm, ⟨109, _⟩ => ⟨S10240x4096, .f32⟩
  | .hbm, ⟨110, _⟩ => ⟨S10240x4096, .f32⟩
  | .hbm, ⟨111, _⟩ => ⟨S10240x4x1024, .f32⟩
  | .hbm, ⟨112, _⟩ => ⟨S10240x1024, .f32⟩
  | .hbm, ⟨113, _⟩ => ⟨S10240x1024, .f32⟩
  | .hbm, ⟨114, _⟩ => ⟨S10240x1024, .f32⟩
  | .hbm, ⟨115, _⟩ => ⟨S10240x1024, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v5 : Ref sig .tc := ⟨.hbm, 25, rfl⟩
abbrev main_c_3 : Ref sig .tc := ⟨.hbm, 26, rfl⟩
abbrev main_call1_v0 : Ref sig .tc := ⟨.hbm, 27, rfl⟩
abbrev main_v6 : Ref sig .tc := ⟨.hbm, 28, rfl⟩
abbrev main_c_4 : Ref sig .tc := ⟨.hbm, 29, rfl⟩
abbrev main_v7 : Ref sig .tc := ⟨.hbm, 30, rfl⟩
abbrev main_v8 : Ref sig .tc := ⟨.hbm, 31, rfl⟩
abbrev main_c_5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_6 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_7 : Ref sig .tc := ⟨.hbm, 43, rfl⟩
abbrev main_v18 : Ref sig .tc := ⟨.hbm, 44, rfl⟩
abbrev main_v19 : Ref sig .tc := ⟨.hbm, 45, rfl⟩
abbrev main_c_8 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_9 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_10 : Ref sig .tc := ⟨.hbm, 57, rfl⟩
abbrev main_v29 : Ref sig .tc := ⟨.hbm, 58, rfl⟩
abbrev main_v30 : Ref sig .tc := ⟨.hbm, 59, rfl⟩
abbrev main_c_11 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_12 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst : Ref sig .tc := ⟨.hbm, 72, rfl⟩
abbrev main_v41 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_cst_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_15 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_v70 : Ref sig .tc := ⟨.hbm, 106, rfl⟩
abbrev main_v71 : Ref sig .tc := ⟨.hbm, 107, rfl⟩
abbrev main_cst_17 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== Kernel4.lean ====
abbrev S10240x1024 : Shape := ⟨2, ![10240, 1024]⟩
abbrev S8x9x1024 : Shape := ⟨3, ![8, 9, 1024]⟩
abbrev S1024 : Shape := ⟨1, ![1024]⟩
abbrev S1024x3888 : Shape := ⟨2, ![1024, 3888]⟩
abbrev S3888 : Shape := ⟨1, ![3888]⟩
abbrev S_ : Shape := ⟨0, ![]⟩
abbrev S3888x1 : Shape := ⟨2, ![3888, 1]⟩
abbrev S1024x3968 : Shape := ⟨2, ![1024, 3968]⟩
abbrev S1x1024 : Shape := ⟨2, ![1, 1024]⟩
abbrev S10240x3968 : Shape := ⟨2, ![10240, 3968]⟩
abbrev S512x1024 : Shape := ⟨2, ![512, 1024]⟩
abbrev S1x9x1024 : Shape := ⟨3, ![1, 9, 1024]⟩
abbrev S512x3968 : Shape := ⟨2, ![512, 3968]⟩
abbrev S1x1x1024 : Shape := ⟨3, ![1, 1, 1024]⟩
abbrev S512 : Shape := ⟨1, ![512]⟩
abbrev S512x1 : Shape := ⟨2, ![512, 1]⟩

abbrev nBuf : Space → Nat
  | .hbm => 18
  | .vmem => 8
  | .smem => 0
  | _ => 0

abbrev bufTy : (tb : Table) → Fin (tcTables nBuf tb) → BufTy
  | .hbm, ⟨0, _⟩ => ⟨S10240x1024, .f32⟩
  | .hbm, ⟨1, _⟩ => ⟨S8x9x1024, .f32⟩
  | .hbm, ⟨2, _⟩ => ⟨S1024, .f32⟩
  | .hbm, ⟨3, _⟩ => ⟨S1024x3888, .f32⟩
  | .hbm, ⟨4, _⟩ => ⟨S3888, .i32⟩
  | .hbm, ⟨5, _⟩ => ⟨S3888, .i1⟩
  | .hbm, ⟨6, _⟩ => ⟨S_, .i32⟩
  | .hbm, ⟨7, _⟩ => ⟨S3888, .i32⟩
  | .hbm, ⟨8, _⟩ => ⟨S3888, .i32⟩
  | .hbm, ⟨9, _⟩ => ⟨S3888, .i32⟩
  | .hbm, ⟨10, _⟩ => ⟨S3888x1, .i32⟩
  | .hbm, ⟨11, _⟩ => ⟨S1024x3888, .f32⟩
  | .hbm, ⟨12, _⟩ => ⟨S_, .i32⟩
  | .hbm, ⟨13, _⟩ => ⟨S_, .f32⟩
  | .hbm, ⟨14, _⟩ => ⟨S1024x3968, .f32⟩
  | .hbm, ⟨15, _⟩ => ⟨S1024x3968, .bf16⟩
  | .hbm, ⟨16, _⟩ => ⟨S1x1024, .f32⟩
  | .hbm, ⟨17, _⟩ => ⟨S10240x3968, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x3968, .bf16⟩
  | .local _ .vmem, ⟨6, _⟩ => ⟨S512x3968, .f32⟩
  | .local _ .vmem, ⟨7, _⟩ => ⟨S512x3968, .f32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c7168_i32 : BitVec 32 := 7168#32
  let v1 : BitVec 32 := Scalar.subi v0 c7168_i32
  let c0_i32 : BitVec 32 := 0#32
  let v2 : BitVec 32 := Scalar.maxsi v1 c0_i32
  let c1024_i32 : BitVec 32 := 1024#32
  let v3 : BitVec 32 := Scalar.divsi v2 c1024_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3968 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S10240x1024 : Shape := ⟨2, ![10240, 1024]⟩
abbrev S8x9x1024 : Shape := ⟨3, ![8, 9, 1024]⟩
abbrev S1024 : Shape := ⟨1, ![1024]⟩
abbrev S1024x3888 : Shape := ⟨2, ![1024, 3888]⟩
abbrev S10240 : Shape := ⟨1, ![10240]⟩
abbrev S_ : Shape := ⟨0, ![]⟩
abbrev S10240x1 : Shape := ⟨2, ![10240, 1]⟩
abbrev S10240x2 : Shape := ⟨2, ![10240, 2]⟩
abbrev S1x1024 : Shape := ⟨2, ![1, 1024]⟩
abbrev S10240x3888 : Shape := ⟨2, ![10240, 3888]⟩
abbrev S10240x32 : Shape := ⟨2, ![10240, 32]⟩
abbrev S10240x16 : Shape := ⟨2, ![10240, 16]⟩
abbrev S10240x768 : Shape := ⟨2, ![10240, 768]⟩
abbrev S10240x2304 : Shape := ⟨2, ![10240, 2304]⟩
abbrev S10240x80 : Shape := ⟨2, ![10240, 80]⟩
abbrev S10240x3968 : Shape := ⟨2, ![10240, 3968]⟩

abbrev nBuf : Space → Nat
  | .hbm => 77
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S8x9x1024, .f32⟩
  | .hbm, ⟨2, _⟩ => ⟨S1024, .f32⟩
  | .hbm, ⟨3, _⟩ => ⟨S1024x3888, .f32⟩
  | .hbm, ⟨4, _⟩ => ⟨S10240, .i32⟩
  | .hbm, ⟨5, _⟩ => ⟨S_, .i32⟩
  | .hbm, ⟨6, _⟩ => ⟨S10240, .i32⟩
  | .hbm, ⟨7, _⟩ => ⟨S10240, .i1⟩
  | .hbm, ⟨8, _⟩ => ⟨S_, .i32⟩
  | .hbm, ⟨9, _⟩ => ⟨S10240, .i32⟩
  | .hbm, ⟨10, _⟩ => ⟨S10240, .i1⟩
  | .hbm, ⟨11, _⟩ => ⟨S_, .i32⟩
  | .hbm, ⟨12, _⟩ => ⟨S_, .i32⟩
  | .hbm, ⟨13, _⟩ => ⟨S10240, .i32⟩
  | .hbm, ⟨14, _⟩ => ⟨S10240, .i32⟩
  | .hbm, ⟨15, _⟩ => ⟨S10240, .i32⟩
  | .hbm, ⟨16, _⟩ => ⟨S_, .i32⟩
  | .hbm, ⟨17, _⟩ => ⟨S10240, .i32⟩
  | .hbm, ⟨18, _⟩ => ⟨S10240, .i32⟩
  | .hbm, ⟨19, _⟩ => ⟨S_, .i32⟩
  | .hbm, ⟨20, _⟩ => ⟨S10240, .i32⟩
  | .hbm, ⟨21, _⟩ => ⟨S10240, .i1⟩
  | .hbm, ⟨22, _⟩ => ⟨S_, .i32⟩
  | .hbm, ⟨23, _⟩ => ⟨S10240, .i32⟩
  | .hbm, ⟨24, _⟩ => ⟨S10240, .i32⟩
  | .hbm, ⟨25, _⟩ => ⟨S10240, .i32⟩
  | .hbm, ⟨26, _⟩ => ⟨S_, .i32⟩
  | .hbm, ⟨27, _⟩ => ⟨S10240, .i32⟩
  | .hbm, ⟨28, _⟩ => ⟨S10240, .i32⟩
  | .hbm, ⟨29, _⟩ => ⟨S10240x1, .i32⟩
  | .hbm, ⟨30, _⟩ => ⟨S10240x1, .i32⟩
  | .hbm, ⟨31, _⟩ => ⟨S10240x2, .i32⟩
  | .hbm, ⟨32, _⟩ => ⟨S10240x1024, .f32⟩
  | .hbm, ⟨33, _⟩ => ⟨S_, .i32⟩
  | .hbm, ⟨34, _⟩ => ⟨S10240, .i32⟩
  | .hbm, ⟨35, _⟩ => ⟨S10240, .i1⟩
  | .hbm, ⟨36, _⟩ => ⟨S_, .i32⟩
  | .hbm, ⟨37, _⟩ => ⟨S10240, .i32⟩
  | .hbm, ⟨38, _⟩ => ⟨S10240, .i32⟩
  | .hbm, ⟨39, _⟩ => ⟨S10240, .i32⟩
  | .hbm, ⟨40, _⟩ => ⟨S_, .i32⟩
  | .hbm, ⟨41, _⟩ => ⟨S10240, .i32⟩
  | .hbm, ⟨42, _⟩ => ⟨S10240, .i32⟩
  | .hbm, ⟨43, _⟩ => ⟨S10240x1, .i32⟩
  | .hbm, ⟨44, _⟩ => ⟨S10240x1, .i32⟩
  | .hbm, ⟨45, _⟩ => ⟨S10240x2, .i32⟩
  | .hbm, ⟨46, _⟩ => ⟨S10240x1024, .f32⟩
  | .hbm, ⟨47, _⟩ => ⟨S10240x1024, .f32⟩
  | .hbm, ⟨48, _⟩ => ⟨S_, .f32⟩
  | .hbm, ⟨49, _⟩ => ⟨S10240, .f32⟩
  | .hbm, ⟨50, _⟩ => ⟨S10240x1, .f32⟩
  | .hbm, ⟨51, _⟩ => ⟨S_, .f32⟩
  | .hbm, ⟨52, _⟩ => ⟨S10240x1, .f32⟩
  | .hbm, ⟨53, _⟩ => ⟨S10240x1, .f32⟩
  | .hbm, ⟨54, _⟩ => ⟨S_, .f32⟩
  | .hbm, ⟨55, _⟩ => ⟨S10240x1, .f32⟩
  | .hbm, ⟨56, _⟩ => ⟨S10240x1, .f32⟩
  | .hbm, ⟨57, _⟩ => ⟨S10240x1, .f32⟩
  | .hbm, ⟨58, _⟩ => ⟨S10240x1024, .f32⟩
  | .hbm, ⟨59, _⟩ => ⟨S10240x1024, .f32⟩
  | .hbm, ⟨60, _⟩ => ⟨S1x1024, .f32⟩
  | .hbm, ⟨61, _⟩ => ⟨S10240x1024, .f32⟩
  | .hbm, ⟨62, _⟩ => ⟨S10240x1024, .f32⟩
  | .hbm, ⟨63, _⟩ => ⟨S_, .f32⟩
  | .hbm, ⟨64, _⟩ => ⟨S10240x1024, .f32⟩
  | .hbm, ⟨65, _⟩ => ⟨S10240x1024, .f32⟩
  | .hbm, ⟨66, _⟩ => ⟨S10240x1024, .f32⟩
  | .hbm, ⟨67, _⟩ => ⟨S10240x1024, .f32⟩
  | .hbm, ⟨68, _⟩ => ⟨S10240x3888, .f32⟩
  | .hbm, ⟨69, _⟩ => ⟨S10240x32, .f32⟩
  | .hbm, ⟨70, _⟩ => ⟨S10240x16, .f32⟩
  | .hbm, ⟨71, _⟩ => ⟨S10240x768, .f32⟩
  | .hbm, ⟨72, _⟩ => ⟨S10240x768, .f32⟩
  | .hbm, ⟨73, _⟩ => ⟨S10240x2304, .f32⟩
  | .hbm, ⟨74, _⟩ => ⟨S_, .f32⟩
  | .hbm, ⟨75, _⟩ => ⟨S10240x80, .f32⟩
  | .hbm, ⟨76, _⟩ => ⟨S10240x3968, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_c_3 : Ref sig .tc := ⟨.hbm, 16, rfl⟩
abbrev main_call1_v0 : Ref sig .tc := ⟨.hbm, 17, rfl⟩
abbrev main_v6 : Ref sig .tc := ⟨.hbm, 18, rfl⟩
abbrev main_c_4 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_c_8 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_9 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Kernel5.lean ====
abbrev S10240x3968 : Shape := ⟨2, ![10240, 3968]⟩
abbrev S4x32 : Shape := ⟨2, ![4, 32]⟩
abbrev S64 : Shape := ⟨1, ![64]⟩
abbrev S32x2x4x256x64 : Shape := ⟨5, ![32, 2, 4, 256, 64]⟩
abbrev S8x256 : Shape := ⟨2, ![8, 256]⟩
abbrev S4x256 : Shape := ⟨2, ![4, 256]⟩
abbrev S256x256 : Shape := ⟨2, ![256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8192x256 : Shape := ⟨2, ![8192, 256]⟩
abbrev S256x768 : Shape := ⟨2, ![256, 768]⟩
abbrev S1x1x4x256x64 : Shape := ⟨5, ![1, 1, 4, 256, 64]⟩
abbrev S1x32 : Shape := ⟨2, ![1, 32]⟩
abbrev S1 : Shape := ⟨1, ![1]⟩
abbrev S1x1 : Shape := ⟨2, ![1, 1]⟩
abbrev S256x128 : Shape := ⟨2, ![256, 128]⟩
abbrev S256x64 : Shape := ⟨2, ![256, 64]⟩
abbrev S1x1x1x256x64 : Shape := ⟨5, ![1, 1, 1, 256, 64]⟩
abbrev S2048x256 : Shape := ⟨2, ![2048, 256]⟩
abbrev S2048 : Shape := ⟨1, ![2048]⟩
abbrev S2048x1 : Shape := ⟨2, ![2048, 1]⟩
abbrev S1024x256 : Shape := ⟨2, ![1024, 256]⟩

abbrev nBuf : Space → Nat
  | .hbm => 15
  | .vmem => 13
  | .smem => 0
  | _ => 0

abbrev bufTy : (tb : Table) → Fin (tcTables nBuf tb) → BufTy
  | .hbm, ⟨0, _⟩ => ⟨S10240x3968, .f32⟩
  | .hbm, ⟨1, _⟩ => ⟨S4x32, .f32⟩
  | .hbm, ⟨2, _⟩ => ⟨S64, .f32⟩
  | .hbm, ⟨3, _⟩ => ⟨S32x2x4x256x64, .f32⟩
  | .hbm, ⟨4, _⟩ => ⟨S32x2x4x256x64, .f32⟩
  | .hbm, ⟨5, _⟩ => ⟨S8x256, .f32⟩
  | .hbm, ⟨6, _⟩ => ⟨S4x256, .f32⟩
  | .hbm, ⟨7, _⟩ => ⟨S256x256, .bf16⟩
  | .hbm, ⟨8, _⟩ => ⟨S1x64, .f32⟩
  | .hbm, ⟨9, _⟩ => ⟨S4x64, .f32⟩
  | .hbm, ⟨10, _⟩ => ⟨S256, .f32⟩
  | .hbm, ⟨11, _⟩ => ⟨S1x256, .f32⟩
  | .hbm, ⟨12, _⟩ => ⟨S8192x256, .f32⟩
  | .hbm, ⟨13, _⟩ => ⟨S32x2x4x256x64, .f32⟩
  | .hbm, ⟨14, _⟩ => ⟨S32x2x4x256x64, .f32⟩
  | .local _ .vmem, ⟨0, _⟩ => ⟨S256x768, .f32⟩
  | .local _ .vmem, ⟨1, _⟩ => ⟨S256x768, .f32⟩
  | .local _ .vmem, ⟨2, _⟩ => ⟨S4x32, .f32⟩
  | .local _ .vmem, ⟨3, _⟩ => ⟨S1x256, .f32⟩
  | .local _ .vmem, ⟨4, _⟩ => ⟨S8x256, .f32⟩
  | .local _ .vmem, ⟨5, _⟩ => ⟨S4x256, .f32⟩
  | .local _ .vmem, ⟨6, _⟩ => ⟨S256x256, .bf16⟩
  | .local _ .vmem, ⟨7, _⟩ => ⟨S256x256, .f32⟩
  | .local _ .vmem, ⟨8, _⟩ => ⟨S256x256, .f32⟩
  | .local _ .vmem, ⟨9, _⟩ => ⟨S1x1x4x256x64, .f32⟩
  | .local _ .vmem, ⟨10, _⟩ => ⟨S1x1x4x256x64, .f32⟩
  | .local _ .vmem, ⟨11, _⟩ => ⟨S1x1x4x256x64, .f32⟩
  | .local _ .vmem, ⟨12, _⟩ => ⟨S1x1x4x256x64, .f32⟩
  | _, _ => ⟨S10240x3968, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_10 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x4x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S10240x3968 : Shape := ⟨2, ![10240, 3968]⟩
abbrev S4x32 : Shape := ⟨2, ![4, 32]⟩
abbrev S64 : Shape := ⟨1, ![64]⟩
abbrev S32x2x4x256x64 : Shape := ⟨5, ![32, 2, 4, 256, 64]⟩
abbrev S8192x768 : Shape := ⟨2, ![8192, 768]⟩
abbrev S32x256x768 : Shape := ⟨3, ![32, 256, 768]⟩
abbrev S32x256x256 : Shape := ⟨3, ![32, 256, 256]⟩
abbrev S32x256x4x64 : Shape := ⟨4, ![32, 256, 4, 64]⟩
abbrev S32x4x256x64 : Shape := ⟨4, ![32, 4, 256, 64]⟩
abbrev S32x4x256x32 : Shape := ⟨4, ![32, 4, 256, 32]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S1x32 : Shape := ⟨2, ![1, 32]⟩
abbrev S32 : Shape := ⟨1, ![32]⟩
abbrev S1x1x1x64 : Shape := ⟨4, ![1, 1, 1, 64]⟩
abbrev S8192x256 : Shape := ⟨2, ![8192, 256]⟩
abbrev S32x1x4x256x64 : Shape := ⟨5, ![32, 1, 4, 256, 64]⟩

abbrev nBuf : Space → Nat
  | .hbm => 110
  | .vmem => 0
  | .smem => 0
  | _ => 0

abbrev bufTy : (tb : Table) → Fin (tcTables nBuf tb) → BufTy
  | .hbm, ⟨0, _⟩ => ⟨S10240x3968, .f32⟩
  | .hbm, ⟨1, _⟩ => ⟨S4x32, .f32⟩
  | .hbm, ⟨2, _⟩ => ⟨S64, .f32⟩
  | .hbm, ⟨3, _⟩ => ⟨S32x2x4x256x64, .f32⟩
  | .hbm, ⟨4, _⟩ => ⟨S32x2x4x256x64, .f32⟩
  | .hbm, ⟨5, _⟩ => ⟨S8192x768, .f32⟩
  | .hbm, ⟨6, _⟩ => ⟨S32x256x768, .f32⟩
  | .hbm, ⟨7, _⟩ => ⟨S32x256x256, .f32⟩
  | .hbm, ⟨8, _⟩ => ⟨S32x256x4x64, .f32⟩
  | .hbm, ⟨9, _⟩ => ⟨S32x4x256x64, .f32⟩
  | .hbm, ⟨10, _⟩ => ⟨S32x256x256, .f32⟩
  | .hbm, ⟨11, _⟩ => ⟨S32x256x4x64, .f32⟩
  | .hbm, ⟨12, _⟩ => ⟨S32x4x256x64, .f32⟩
  | .hbm, ⟨13, _⟩ => ⟨S32x256x256, .f32⟩
  | .hbm, ⟨14, _⟩ => ⟨S32x256x4x64, .f32⟩
  | .hbm, ⟨15, _⟩ => ⟨S32x4x256x64, .f32⟩
  | .hbm, ⟨16, _⟩ => ⟨S32x4x256x32, .f32⟩
  | .hbm, ⟨17, _⟩ => ⟨S32x4x256x32, .f32⟩
  | .hbm, ⟨18, _⟩ => ⟨S32x4x256x256, .f32⟩
  | .hbm, ⟨19, _⟩ => ⟨S_, .f32⟩
  | .hbm, ⟨20, _⟩ => ⟨S32x4x256x256, .f32⟩
  | .hbm, ⟨21, _⟩ => ⟨S32x4x256x256, .f32⟩
  | .hbm, ⟨22, _⟩ => ⟨S_, .f32⟩
  | .hbm, ⟨23, _⟩ => ⟨S32x4x256, .f32⟩
  | .hbm, ⟨24, _⟩ => ⟨S_, .f32⟩
  | .hbm, ⟨25, _⟩ => ⟨S32x4x256, .f32⟩
  | .hbm, ⟨26, _⟩ => ⟨S32x4x256, .f32⟩
  | .hbm, ⟨27, _⟩ => ⟨S32x4x256x1, .f32⟩
  | .hbm, ⟨28, _⟩ => ⟨S32x4x256x256, .f32⟩
  | .hbm, ⟨29, _⟩ => ⟨S32x4x256x256, .f32⟩
  | .hbm, ⟨30, _⟩ => ⟨S32x4x256x256, .f32⟩
  | .hbm, ⟨31, _⟩ => ⟨S_, .f32⟩
  | .hbm, ⟨32, _⟩ => ⟨S32x4x256, .f32⟩
  | .hbm, ⟨33, _⟩ => ⟨S32x4x256x1, .f32⟩
  | .hbm, ⟨34, _⟩ => ⟨S32x4x256x256, .f32⟩
  | .hbm, ⟨35, _⟩ => ⟨S32x4x256x256, .f32⟩
  | .hbm, ⟨36, _⟩ => ⟨S32x4x256x32, .f32⟩
  | .hbm, ⟨37, _⟩ => ⟨S32x4x256x32, .f32⟩
  | .hbm, ⟨38, _⟩ => ⟨S32x4x256x256, .f32⟩
  | .hbm, ⟨39, _⟩ => ⟨S_, .f32⟩
  | .hbm, ⟨40, _⟩ => ⟨S32x4x256x256, .f32⟩
  | .hbm, ⟨41, _⟩ => ⟨S32x4x256x256, .f32⟩
  | .hbm, ⟨42, _⟩ => ⟨S_, .f32⟩
  | .hbm, ⟨43, _⟩ => ⟨S32x4x256, .f32⟩
  | .hbm, ⟨44, _⟩ => ⟨S_, .f32⟩
  | .hbm, ⟨45, _⟩ => ⟨S32x4x256, .f32⟩
  | .hbm, ⟨46, _⟩ => ⟨S32x4x256, .f32⟩
  | .hbm, ⟨47, _⟩ => ⟨S32x4x256x1, .f32⟩
  | .hbm, ⟨48, _⟩ => ⟨S32x4x256x256, .f32⟩
  | .hbm, ⟨49, _⟩ => ⟨S32x4x256x256, .f32⟩
  | .hbm, ⟨50, _⟩ => ⟨S32x4x256x256, .f32⟩
  | .hbm, ⟨51, _⟩ => ⟨S_, .f32⟩
  | .hbm, ⟨52, _⟩ => ⟨S32x4x256, .f32⟩
  | .hbm, ⟨53, _⟩ => ⟨S32x4x256x1, .f32⟩
  | .hbm, ⟨54, _⟩ => ⟨S32x4x256x256, .f32⟩
  | .hbm, ⟨55, _⟩ => ⟨S32x4x256x256, .f32⟩
  | .hbm, ⟨56, _⟩ => ⟨S1x32, .f32⟩
  | .hbm, ⟨57, _⟩ => ⟨S32, .f32⟩
  | .hbm, ⟨58, _⟩ => ⟨S1x32, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x32, .f32⟩
  | .hbm, ⟨65, _⟩ => ⟨S32, .f32⟩
  | .hbm, ⟨66, _⟩ => ⟨S1x32, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S32x4x256x256, .f32⟩
  | .hbm, ⟨76, _⟩ => ⟨S32x4x256x256, .f32⟩
  | .hbm, ⟨77, _⟩ => ⟨S32x4x256x256, .f32⟩
  | .hbm, ⟨78, _⟩ => ⟨S32x4x256x64, .f32⟩
  | .hbm, ⟨79, _⟩ => ⟨S32x4x256x64, .f32⟩
  | .hbm, ⟨80, _⟩ => ⟨S_, .f32⟩
  | .hbm, ⟨81, _⟩ => ⟨S32x4x256, .f32⟩
  | .hbm, ⟨82, _⟩ => ⟨S32x4x256x1, .f32⟩
  | .hbm, ⟨83, _⟩ => ⟨S_, .f32⟩
  | .hbm, ⟨84, _⟩ => ⟨S32x4x256x1, .f32⟩
  | .hbm, ⟨85, _⟩ => ⟨S32x4x256x1, .f32⟩
  | .hbm, ⟨86, _⟩ => ⟨S_, .f32⟩
  | .hbm, ⟨87, _⟩ => ⟨S32x4x256x1, .f32⟩
  | .hbm, ⟨88, _⟩ => ⟨S32x4x256x1, .f32⟩
  | .hbm, ⟨89, _⟩ => ⟨S32x4x256x1, .f32⟩
  | .hbm, ⟨90, _⟩ => ⟨S32x4x256x64, .f32⟩
  | .hbm, ⟨91, _⟩ => ⟨S32x4x256x64, .f32⟩
  | .hbm, ⟨92, _⟩ => ⟨S1x1x1x64, .f32⟩
  | .hbm, ⟨93, _⟩ => ⟨S32x4x256x64, .f32⟩
  | .hbm, ⟨94, _⟩ => ⟨S32x4x256x64, .f32⟩
  | .hbm, ⟨95, _⟩ => ⟨S32x256x4x64, .f32⟩
  | .hbm, ⟨96, _⟩ => ⟨S8192x256, .f32⟩
  | .hbm, ⟨97, _⟩ => ⟨S_, .f32⟩
  | .hbm, ⟨98, _⟩ => ⟨S8192x256, .f32⟩
  | .hbm, ⟨99, _⟩ => ⟨S8192x256, .f32⟩
  | .hbm, ⟨100, _⟩ => ⟨S32x1x4x256x64, .f32⟩
  | .hbm, ⟨101, _⟩ => ⟨S32x4x256x64, .f32⟩
  | .hbm, ⟨102, _⟩ => ⟨S32x1x4x256x64, .f32⟩
  | .hbm, ⟨103, _⟩ => ⟨S32x1x4x256x64, .f32⟩
  | .hbm, ⟨104, _⟩ => ⟨S32x2x4x256x64, .f32⟩
  | .hbm, ⟨105, _⟩ => ⟨S32x1x4x256x64, .f32⟩
  | .hbm, ⟨106, _⟩ => ⟨S32x4x256x64, .f32⟩
  | .hbm, ⟨107, _⟩ => ⟨S32x1x4x256x64, .f32⟩
  | .hbm, ⟨108, _⟩ => ⟨S32x1x4x256x64, .f32⟩
  | .hbm, ⟨109, _⟩ => ⟨S32x2x4x256x64, .f32⟩
  | _, _ => ⟨S10240x3968, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_13 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩

abbrev nD : Nat := 1
abbrev τ : Topo := Topo.v7x

variable {F : FTy → Type} [FloatOps F]
-- ==== Kernel6.lean ====
abbrev S10240x3968 : Shape := ⟨2, ![10240, 3968]⟩
abbrev S4x32 : Shape := ⟨2, ![4, 32]⟩
abbrev S64 : Shape := ⟨1, ![64]⟩
abbrev S2x4x512x64 : Shape := ⟨4, ![2, 4, 512, 64]⟩
abbrev S8x256 : Shape := ⟨2, ![8, 256]⟩
abbrev S4x256 : Shape := ⟨2, ![4, 256]⟩
abbrev S256x256 : Shape := ⟨2, ![256, 256]⟩
abbrev S16 : Shape := ⟨1, ![16]⟩
abbrev S16x64 : Shape := ⟨2, ![16, 64]⟩
abbrev S1024 : Shape := ⟨1, ![1024]⟩
abbrev S1x64 : Shape := ⟨2, ![1, 64]⟩
abbrev S8 : Shape := ⟨1, ![8]⟩
abbrev S_ : Shape := ⟨0, ![]⟩
abbrev S1024x1 : Shape := ⟨2, ![1024, 1]⟩
abbrev S1x8 : Shape := ⟨2, ![1, 8]⟩
abbrev S1024x8 : Shape := ⟨2, ![1024, 8]⟩
abbrev S1024x16 : Shape := ⟨2, ![1024, 16]⟩
abbrev S1024x32 : Shape := ⟨2, ![1024, 32]⟩
abbrev S1x1024x1x32 : Shape := ⟨4, ![1, 1024, 1, 32]⟩
abbrev S1x1024x8x32 : Shape := ⟨4, ![1, 1024, 8, 32]⟩
abbrev S1024x256 : Shape := ⟨2, ![1024, 256]⟩
abbrev S2x512x4x64 : Shape := ⟨4, ![2, 512, 4, 64]⟩
abbrev S2x512x256 : Shape := ⟨3, ![2, 512, 256]⟩
abbrev S4x64 : Shape := ⟨2, ![4, 64]⟩
abbrev S256 : Shape := ⟨1, ![256]⟩
abbrev S1x256 : Shape := ⟨2, ![1, 256]⟩
abbrev S2048x256 : Shape := ⟨2, ![2048, 256]⟩
abbrev S1024x768 : Shape := ⟨2, ![1024, 768]⟩
abbrev S1x512x256 : Shape := ⟨3, ![1, 512, 256]⟩
abbrev S1536x256 : Shape := ⟨2, ![1536, 256]⟩
abbrev S1x32 : Shape := ⟨2, ![1, 32]⟩
abbrev S1 : Shape := ⟨1, ![1]⟩
abbrev S1x1 : Shape := ⟨2, ![1, 1]⟩
abbrev S512x256 : Shape := ⟨2, ![512, 256]⟩
abbrev S2048x1536 : Shape := ⟨2, ![2048, 1536]⟩
abbrev S2048 : Shape := ⟨1, ![2048]⟩
abbrev S2048x1 : Shape := ⟨2, ![2048, 1]⟩
abbrev S256x1536 : Shape := ⟨2, ![256, 1536]⟩
abbrev S1024x1536 : Shape := ⟨2, ![1024, 1536]⟩

abbrev nBuf : Space → Nat
  | .hbm => 61
  | .vmem => 18
  | .smem => 0
  | _ => 0

abbrev bufTy : (tb : Table) → Fin (tcTables nBuf tb) → BufTy
  | .hbm, ⟨0, _⟩ => ⟨S10240x3968, .f32⟩
  | .hbm, ⟨1, _⟩ => ⟨S4x32, .f32⟩
  | .hbm, ⟨2, _⟩ => ⟨S64, .f32⟩
  | .hbm, ⟨3, _⟩ => ⟨S2x4x512x64, .f32⟩
  | .hbm, ⟨4, _⟩ => ⟨S2x4x512x64, .f32⟩
  | .hbm, ⟨5, _⟩ => ⟨S8x256, .f32⟩
  | .hbm, ⟨6, _⟩ => ⟨S4x256, .f32⟩
  | .hbm, ⟨7, _⟩ => ⟨S256x256, .bf16⟩
  | .hbm, ⟨8, _⟩ => ⟨S16, .i32⟩
  | .hbm, ⟨9, _⟩ => ⟨S16x64, .i32⟩
  | .hbm, ⟨10, _⟩ => ⟨S1024, .i32⟩
  | .hbm, ⟨11, _⟩ => ⟨S1024, .f32⟩
  | .hbm, ⟨12, _⟩ => ⟨S64, .i32⟩
  | .hbm, ⟨13, _⟩ => ⟨S1x64, .i32⟩
  | .hbm, ⟨14, _⟩ => ⟨S16x64, .i32⟩
  | .hbm, ⟨15, _⟩ => ⟨S1024, .i32⟩
  | .hbm, ⟨16, _⟩ => ⟨S1024, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S1024x1, .f32⟩
  | .hbm, ⟨32, _⟩ => ⟨S1x8, .f32⟩
  | .hbm, ⟨33, _⟩ => ⟨S1024x8, .f32⟩
  | .hbm, ⟨34, _⟩ => ⟨S1024x8, .f32⟩
  | .hbm, ⟨35, _⟩ => ⟨S1024x8, .f32⟩
  | .hbm, ⟨36, _⟩ => ⟨S1024x16, .f32⟩
  | .hbm, ⟨37, _⟩ => ⟨S1024x1, .f32⟩
  | .hbm, ⟨38, _⟩ => ⟨S1x8, .f32⟩
  | .hbm, ⟨39, _⟩ => ⟨S1024x8, .f32⟩
  | .hbm, ⟨40, _⟩ => ⟨S1024x8, .f32⟩
  | .hbm, ⟨41, _⟩ => ⟨S1024x8, .f32⟩
  | .hbm, ⟨42, _⟩ => ⟨S1024x16, .f32⟩
  | .hbm, ⟨43, _⟩ => ⟨S1024x32, .f32⟩
  | .hbm, ⟨44, _⟩ => ⟨S1024x32, .f32⟩
  | .hbm, ⟨45, _⟩ => ⟨S1x1024x1x32, .f32⟩
  | .hbm, ⟨46, _⟩ => ⟨S1x1024x8x32, .f32⟩
  | .hbm, ⟨47, _⟩ => ⟨S1024x256, .f32⟩
  | .hbm, ⟨48, _⟩ => ⟨S1024x32, .f32⟩
  | .hbm, ⟨49, _⟩ => ⟨S1x1024x1x32, .f32⟩
  | .hbm, ⟨50, _⟩ => ⟨S1x1024x8x32, .f32⟩
  | .hbm, ⟨51, _⟩ => ⟨S1024x256, .f32⟩
  | .hbm, ⟨52, _⟩ => ⟨S2x512x4x64, .f32⟩
  | .hbm, ⟨53, _⟩ => ⟨S2x512x256, .f32⟩
  | .hbm, ⟨54, _⟩ => ⟨S2x512x4x64, .f32⟩
  | .hbm, ⟨55, _⟩ => ⟨S2x512x256, .f32⟩
  | .hbm, ⟨56, _⟩ => ⟨S1x64, .f32⟩
  | .hbm, ⟨57, _⟩ => ⟨S4x64, .f32⟩
  | .hbm, ⟨58, _⟩ => ⟨S256, .f32⟩
  | .hbm, ⟨59, _⟩ => ⟨S1x256, .f32⟩
  | .hbm, ⟨60, _⟩ => ⟨S2048x256, .f32⟩
  | .local _ .vmem, ⟨0, _⟩ => ⟨S1024x768, .f32⟩
  | .local _ .vmem, ⟨1, _⟩ => ⟨S1024x768, .f32⟩
  | .local _ .vmem, ⟨2, _⟩ => ⟨S4x32, .f32⟩
  | .local _ .vmem, ⟨3, _⟩ => ⟨S1x256, .f32⟩
  | .local _ .vmem, ⟨4, _⟩ => ⟨S8x256, .f32⟩
  | .local _ .vmem, ⟨5, _⟩ => ⟨S4x256, .f32⟩
  | .local _ .vmem, ⟨6, _⟩ => ⟨S256x256, .bf16⟩
  | .local _ .vmem, ⟨7, _⟩ => ⟨S1024x256, .f32⟩
  | .local _ .vmem, ⟨8, _⟩ => ⟨S1024x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1536x256, .f32⟩
  | .local _ .vmem, ⟨17, _⟩ => ⟨S1536x256, .f32⟩
  | _, _ => ⟨S10240x3968, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S10240x3968 : Shape := ⟨2, ![10240, 3968]⟩
abbrev S4x32 : Shape := ⟨2, ![4, 32]⟩
abbrev S64 : Shape := ⟨1, ![64]⟩
abbrev S2x4x512x64 : Shape := ⟨4, ![2, 4, 512, 64]⟩
abbrev S16 : Shape := ⟨1, ![16]⟩
abbrev S16x64 : Shape := ⟨2, ![16, 64]⟩
abbrev S1024 : Shape := ⟨1, ![1024]⟩
abbrev S1x64 : Shape := ⟨2, ![1, 64]⟩
abbrev S8 : Shape := ⟨1, ![8]⟩
abbrev S_ : Shape := ⟨0, ![]⟩
abbrev S1024x1 : Shape := ⟨2, ![1024, 1]⟩
abbrev S1x8 : Shape := ⟨2, ![1, 8]⟩
abbrev S1024x8 : Shape := ⟨2, ![1024, 8]⟩
abbrev S1024x16 : Shape := ⟨2, ![1024, 16]⟩
abbrev S1024x32 : Shape := ⟨2, ![1024, 32]⟩
abbrev S2048x768 : Shape := ⟨2, ![2048, 768]⟩
abbrev S2x1024x768 : Shape := ⟨3, ![2, 1024, 768]⟩
abbrev S2x1024x256 : Shape := ⟨3, ![2, 1024, 256]⟩
abbrev S2x1024x4x64 : Shape := ⟨4, ![2, 1024, 4, 64]⟩
abbrev S2x4x1024x64 : Shape := ⟨4, ![2, 4, 1024, 64]⟩
abbrev S2x4x1024x32 : Shape := ⟨4, ![2, 4, 1024, 32]⟩
abbrev S1x1x1024x32 : Shape := ⟨4, ![1, 1, 1024, 32]⟩
abbrev S2x4x1024x8 : Shape := ⟨4, ![2, 4, 1024, 8]⟩
abbrev S2x4x512x32 : Shape := ⟨4, ![2, 4, 512, 32]⟩
abbrev S2x4x1536x32 : Shape := ⟨4, ![2, 4, 1536, 32]⟩
abbrev S2x4x1536x64 : Shape := ⟨4, ![2, 4, 1536, 64]⟩
abbrev S2x4x1024x1536 : Shape := ⟨4, ![2, 4, 1024, 1536]⟩
abbrev S2x4x1024 : Shape := ⟨3, ![2, 4, 1024]⟩
abbrev S2x4x1024x1 : Shape := ⟨4, ![2, 4, 1024, 1]⟩
abbrev S1x32 : Shape := ⟨2, ![1, 32]⟩
abbrev S32 : Shape := ⟨1, ![32]⟩
abbrev S1x1x1x64 : Shape := ⟨4, ![1, 1, 1, 64]⟩
abbrev S2048x256 : Shape := ⟨2, ![2048, 256]⟩

abbrev nBuf : Space → Nat
  | .hbm => 199
  | .vmem => 0
  | .smem => 0
  | _ => 0

abbrev hbmTy0_0 (i : Nat) : BufTy := match i % 128 with
  | 0 => ⟨S10240x3968, .f32⟩
  | 1 => ⟨S4x32, .f32⟩
  | 2 => ⟨S64, .f32⟩
  | 3 => ⟨S2x4x512x64, .f32⟩
  | 4 => ⟨S2x4x512x64, .f32⟩
  | 5 => ⟨S16, .i32⟩
  | 6 => ⟨S16x64, .i32⟩
  | 7 => ⟨S1024, .i32⟩
  | 8 => ⟨S1024, .f32⟩
  | 9 => ⟨S64, .i32⟩
  | 10 => ⟨S1x64, .i32⟩
  | 11 => ⟨S16x64, .i32⟩
  | 12 => ⟨S1024, .i32⟩
  | 13 => ⟨S1024, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S1024x1, .f32⟩
  | 29 => ⟨S1x8, .f32⟩
  | 30 => ⟨S1024x8, .f32⟩
  | 31 => ⟨S1024x8, .f32⟩
  | 32 => ⟨S1024x8, .f32⟩
  | 33 => ⟨S1024x16, .f32⟩
  | 34 => ⟨S1024x1, .f32⟩
  | 35 => ⟨S1x8, .f32⟩
  | 36 => ⟨S1024x8, .f32⟩
  | 37 => ⟨S1024x8, .f32⟩
  | 38 => ⟨S1024x8, .f32⟩
  | 39 => ⟨S1024x16, .f32⟩
  | 40 => ⟨S1024x32, .f32⟩
  | 41 => ⟨S1024x32, .f32⟩
  | 42 => ⟨S1024x32, .f32⟩
  | 43 => ⟨S2048x768, .f32⟩
  | 44 => ⟨S2x1024x768, .f32⟩
  | 45 => ⟨S2x1024x256, .f32⟩
  | 46 => ⟨S2x1024x4x64, .f32⟩
  | 47 => ⟨S2x4x1024x64, .f32⟩
  | 48 => ⟨S2x1024x256, .f32⟩
  | 49 => ⟨S2x1024x4x64, .f32⟩
  | 50 => ⟨S2x4x1024x64, .f32⟩
  | 51 => ⟨S2x1024x256, .f32⟩
  | 52 => ⟨S2x1024x4x64, .f32⟩
  | 53 => ⟨S2x4x1024x64, .f32⟩
  | 54 => ⟨S2x4x1024x32, .f32⟩
  | 55 => ⟨S1x1x1024x32, .f32⟩
  | 56 => ⟨S2x4x1024x32, .f32⟩
  | 57 => ⟨S2x4x1024x32, .f32⟩
  | 58 => ⟨S2x4x1024x8, .f32⟩
  | 59 => ⟨S2x4x1024x8, .f32⟩
  | 60 => ⟨S2x4x1024x8, .f32⟩
  | 61 => ⟨S2x4x1024x8, .f32⟩
  | 62 => ⟨S2x4x1024x8, .f32⟩
  | 63 => ⟨S2x4x1024x8, .f32⟩
  | 64 => ⟨S2x4x1024x32, .f32⟩
  | 65 => ⟨S1x1x1024x32, .f32⟩
  | 66 => ⟨S2x4x1024x32, .f32⟩
  | 67 => ⟨S2x4x1024x32, .f32⟩
  | 68 => ⟨S2x4x1024x32, .f32⟩
  | 69 => ⟨S2x4x1024x32, .f32⟩
  | 70 => ⟨S1x1x1024x32, .f32⟩
  | 71 => ⟨S2x4x1024x32, .f32⟩
  | 72 => ⟨S2x4x1024x32, .f32⟩
  | 73 => ⟨S2x4x1024x8, .f32⟩
  | 74 => ⟨S2x4x1024x8, .f32⟩
  | 75 => ⟨S2x4x1024x8, .f32⟩
  | 76 => ⟨S2x4x1024x8, .f32⟩
  | 77 => ⟨S2x4x1024x8, .f32⟩
  | 78 => ⟨S2x4x1024x8, .f32⟩
  | 79 => ⟨S2x4x1024x32, .f32⟩
  | 80 => ⟨S1x1x1024x32, .f32⟩
  | 81 => ⟨S2x4x1024x32, .f32⟩
  | 82 => ⟨S2x4x1024x32, .f32⟩
  | 83 => ⟨S2x4x1024x32, .f32⟩
  | 84 => ⟨S2x4x512x32, .f32⟩
  | 85 => ⟨S2x4x1024x32, .f32⟩
  | 86 => ⟨S1x1x1024x32, .f32⟩
  | 87 => ⟨S2x4x1024x32, .f32⟩
  | 88 => ⟨S2x4x1024x32, .f32⟩
  | 89 => ⟨S2x4x1024x8, .f32⟩
  | 90 => ⟨S2x4x1024x8, .f32⟩
  | 91 => ⟨S2x4x1024x8, .f32⟩
  | 92 => ⟨S2x4x1024x8, .f32⟩
  | 93 => ⟨S2x4x1024x8, .f32⟩
  | 94 => ⟨S2x4x1024x8, .f32⟩
  | 95 => ⟨S2x4x1024x32, .f32⟩
  | 96 => ⟨S1x1x1024x32, .f32⟩
  | 97 => ⟨S2x4x1024x32, .f32⟩
  | 98 => ⟨S2x4x1024x32, .f32⟩
  | 99 => ⟨S2x4x1024x32, .f32⟩
  | 100 => ⟨S2x4x1536x32, .f32⟩
  | 101 => ⟨S2x4x512x32, .f32⟩
  | 102 => ⟨S2x4x1024x32, .f32⟩
  | 103 => ⟨S1x1x1024x32, .f32⟩
  | 104 => ⟨S2x4x1024x32, .f32⟩
  | 105 => ⟨S2x4x1024x32, .f32⟩
  | 106 => ⟨S2x4x1024x8, .f32⟩
  | 107 => ⟨S2x4x1024x8, .f32⟩
  | 108 => ⟨S2x4x1024x8, .f32⟩
  | 109 => ⟨S2x4x1024x8, .f32⟩
  | 110 => ⟨S2x4x1024x8, .f32⟩
  | 111 => ⟨S2x4x1024x8, .f32⟩
  | 112 => ⟨S2x4x1024x32, .f32⟩
  | 113 => ⟨S1x1x1024x32, .f32⟩
  | 114 => ⟨S2x4x1024x32, .f32⟩
  | 115 => ⟨S2x4x1024x32, .f32⟩
  | 116 => ⟨S2x4x1024x32, .f32⟩
  | 117 => ⟨S2x4x1536x32, .f32⟩
  | 118 => ⟨S2x4x1536x64, .f32⟩
  | 119 => ⟨S2x4x1024x1536, .f32⟩
  | 120 => ⟨S_, .f32⟩
  | 121 => ⟨S2x4x1024x1536, .f32⟩
  | 122 => ⟨S2x4x1024x1536, .f32⟩
  | 123 => ⟨S_, .f32⟩
  | 124 => ⟨S2x4x1024, .f32⟩
  | 125 => ⟨S_, .f32⟩
  | 126 => ⟨S2x4x1024, .f32⟩
  | 127 => ⟨S2x4x1024, .f32⟩
  | _ => ⟨S10240x3968, .f32⟩

abbrev hbmTy0_1 (i : Nat) : BufTy := match i % 128 with
  | 0 => ⟨S2x4x1024x1, .f32⟩
  | 1 => ⟨S2x4x1024x1536, .f32⟩
  | 2 => ⟨S2x4x1024x1536, .f32⟩
  | 3 => ⟨S2x4x1024x1536, .f32⟩
  | 4 => ⟨S_, .f32⟩
  | 5 => ⟨S2x4x1024, .f32⟩
  | 6 => ⟨S2x4x1024x1, .f32⟩
  | 7 => ⟨S2x4x1024x1536, .f32⟩
  | 8 => ⟨S2x4x1024x1536, .f32⟩
  | 9 => ⟨S2x4x1024x1536, .f32⟩
  | 10 => ⟨S_, .f32⟩
  | 11 => ⟨S2x4x1024x1536, .f32⟩
  | 12 => ⟨S2x4x1024x1536, .f32⟩
  | 13 => ⟨S_, .f32⟩
  | 14 => ⟨S2x4x1024, .f32⟩
  | 15 => ⟨S_, .f32⟩
  | 16 => ⟨S2x4x1024, .f32⟩
  | 17 => ⟨S2x4x1024, .f32⟩
  | 18 => ⟨S2x4x1024x1, .f32⟩
  | 19 => ⟨S2x4x1024x1536, .f32⟩
  | 20 => ⟨S2x4x1024x1536, .f32⟩
  | 21 => ⟨S2x4x1024x1536, .f32⟩
  | 22 => ⟨S_, .f32⟩
  | 23 => ⟨S2x4x1024, .f32⟩
  | 24 => ⟨S2x4x1024x1, .f32⟩
  | 25 => ⟨S2x4x1024x1536, .f32⟩
  | 26 => ⟨S2x4x1024x1536, .f32⟩
  | 27 => ⟨S1x32, .f32⟩
  | 28 => ⟨S32, .f32⟩
  | 29 => ⟨S1x32, .f32⟩
  | 30 => ⟨S32, .f32⟩
  | 31 => ⟨S32, .f32⟩
  | 32 => ⟨S_, .f32⟩
  | 33 => ⟨S_, .f32⟩
  | 34 => ⟨S_, .f32⟩
  | 35 => ⟨S1x32, .f32⟩
  | 36 => ⟨S32, .f32⟩
  | 37 => ⟨S1x32, .f32⟩
  | 38 => ⟨S32, .f32⟩
  | 39 => ⟨S32, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S2x4x1024x1536, .f32⟩
  | 47 => ⟨S2x4x1024x1536, .f32⟩
  | 48 => ⟨S2x4x1024x1536, .f32⟩
  | 49 => ⟨S2x4x1024x64, .f32⟩
  | 50 => ⟨S2x4x1024x64, .f32⟩
  | 51 => ⟨S_, .f32⟩
  | 52 => ⟨S2x4x1024, .f32⟩
  | 53 => ⟨S2x4x1024x1, .f32⟩
  | 54 => ⟨S_, .f32⟩
  | 55 => ⟨S2x4x1024x1, .f32⟩
  | 56 => ⟨S2x4x1024x1, .f32⟩
  | 57 => ⟨S_, .f32⟩
  | 58 => ⟨S2x4x1024x1, .f32⟩
  | 59 => ⟨S2x4x1024x1, .f32⟩
  | 60 => ⟨S2x4x1024x1, .f32⟩
  | 61 => ⟨S2x4x1024x64, .f32⟩
  | 62 => ⟨S2x4x1024x64, .f32⟩
  | 63 => ⟨S1x1x1x64, .f32⟩
  | 64 => ⟨S2x4x1024x64, .f32⟩
  | 65 => ⟨S2x4x1024x64, .f32⟩
  | 66 => ⟨S2x1024x4x64, .f32⟩
  | 67 => ⟨S2048x256, .f32⟩
  | 68 => ⟨S_, .f32⟩
  | 69 => ⟨S2048x256, .f32⟩
  | 70 => ⟨S2048x256, .f32⟩
  | _ => ⟨S10240x3968, .f32⟩

abbrev hbmTy (i : Nat) : BufTy := match i / 128 with
  | 0 => hbmTy0_0 i
  | 1 => hbmTy0_1 i
  | _ => ⟨S10240x3968, .f32⟩

abbrev bufTy : (tb : Table) → Fin (tcTables nBuf tb) → BufTy
  | .hbm, ⟨i, _⟩ => hbmTy i
  | _, _ => ⟨S10240x3968, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_cst_3 : Ref sig .tc := ⟨.hbm, 120, rfl⟩
abbrev main_v111 : Ref sig .tc := ⟨.hbm, 121, rfl⟩
abbrev main_v112 : Ref sig .tc := ⟨.hbm, 122, rfl⟩
abbrev main_cst_4 : Ref sig .tc := ⟨.hbm, 123, rfl⟩
abbrev main_v113 : Ref sig .tc := ⟨.hbm, 124, rfl⟩
abbrev main_cst_5 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_cst_6 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_cst_7 : Ref sig .tc := ⟨.hbm, 138, rfl⟩
abbrev main_v125 : Ref sig .tc := ⟨.hbm, 139, rfl⟩
abbrev main_v126 : Ref sig .tc := ⟨.hbm, 140, rfl⟩
abbrev main_cst_8 : Ref sig .tc := ⟨.hbm, 141, rfl⟩
abbrev main_v127 : Ref sig .tc := ⟨.hbm, 142, rfl⟩
abbrev main_cst_9 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_cst_10 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_cst_11 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_cst_12 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_cst_13 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_cst_14 : Ref sig .tc := ⟨.hbm, 179, rfl⟩
abbrev main_v159 : Ref sig .tc := ⟨.hbm, 180, rfl⟩
abbrev main_v160 : Ref sig .tc := ⟨.hbm, 181, rfl⟩
abbrev main_cst_15 : Ref sig .tc := ⟨.hbm, 182, rfl⟩
abbrev main_v161 : Ref sig .tc := ⟨.hbm, 183, rfl⟩
abbrev main_v162 : Ref sig .tc := ⟨.hbm, 184, rfl⟩
abbrev main_cst_16 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_cst_17 : Ref sig .tc := ⟨.hbm, 196, rfl⟩
abbrev main_v173 : Ref sig .tc := ⟨.hbm, 197, rfl⟩
abbrev main_v174 : Ref sig .tc := ⟨.hbm, 198, rfl⟩

abbrev nD : Nat := 1
abbrev τ : Topo := Topo.v7x

variable {F : FTy → Type} [FloatOps F]
-- ==== Proof.Att.Block.lean ====
/- What one grid point of the attention call computes, as plain sums over the extended reals. -/
module

public import proofs.«01_k».proof.Proof.Gen.KernelIdeal.Skeleton
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe

/-- The eight masked copies of the queries, one above the other. -/
def stack (p0 p1 p2 p3 p4 p5 p6 p7 : FVec Ideal S256x256 .f32) : FVec Ideal S2048x256 .f32 :=
  concatenate S2048x256 0 [⟨S256x256, p0⟩, ⟨S256x256, p1⟩, ⟨S256x256, p2⟩, ⟨S256x256, p3⟩, ⟨S256x256, p4⟩, ⟨S256x256, p5⟩, ⟨S256x256, p6⟩, ⟨S256x256, p7⟩] concatenates_S256x256_S256x256_S256x256_S256x256_S256x256_S256x256_S256x256_S256x256_S2048x256_d0

/-- The scaled scores of the stacked queries against the keys. -/
def scores (q : FVec Ideal S2048x256 .f32) (k : FVec Ideal S256x256 .bf16) : FVec Ideal S2048x256 .f32 :=
  mulf (matmul dot_S2048x256_S256x256_S2048x256_1_1_0_0_n_n none (truncf .bf16 q bitsLt_bf16_f32) k (constant S2048x256 .f32 0x00000000#32))
    (broadcast S2048x256 (Scalar.ofBits .f32 0x3E3504F3#32))

/-- The exponentials of the scores less their row's largest. -/
def expo (s : FVec Ideal S2048x256 .f32) : FVec Ideal S2048x256 .f32 :=
  exp (subf s (broadcastTo S2048x256 (shapeCast S2048x1 (multiReduction .maximumf [1] S2048 s 0xFF800000#32 reduces_S2048x256_S2048 (.inl rfl) rfl) shapeCasts_S2048_S2048x1) broadcasts_S2048x1_S2048x256))

/-- Each row of exponentials over its sum. -/
def probs (e : FVec Ideal S2048x256 .f32) : FVec Ideal S2048x256 .f32 :=
  divf e (broadcastTo S2048x256 (shapeCast S2048x1 (multiReduction .add [1] S2048 e 0x00000000#32 reduces_S2048x256_S2048 (.inl rfl) rfl) shapeCasts_S2048_S2048x1) broadcasts_S2048x1_S2048x256)

/-- The four heads' differences of maps, one above the other. -/
def diffs (l : FVec Ideal S1x1 .f32) (p : FVec Ideal S2048x256 .f32) : FVec Ideal S1024x256 .f32 :=
  concatenate S1024x256 0 [
    ⟨S256x256, subf (extractStridedSlice S256x256 ![0, 0] p slices_S2048x256_o0_0_S256x256) (mulf (broadcastTo S256x256 l broadcasts_S1x1_S256x256) (extractStridedSlice S256x256 ![256, 0] p slices_S2048x256_o256_0_S256x256))⟩,
    ⟨S256x256, subf (extractStridedSlice S256x256 ![512, 0] p slices_S2048x256_o512_0_S256x256) (mulf (broadcastTo S256x256 l broadcasts_S1x1_S256x256) (extractStridedSlice S256x256 ![768, 0] p slices_S2048x256_o768_0_S256x256))⟩,
    ⟨S256x256, subf (extractStridedSlice S256x256 ![1024, 0] p slices_S2048x256_o1024_0_S256x256) (mulf (broadcastTo S256x256 l broadcasts_S1x1_S256x256) (extractStridedSlice S256x256 ![1280, 0] p slices_S2048x256_o1280_0_S256x256))⟩,
    ⟨S256x256, subf (extractStridedSlice S256x256 ![1536, 0] p slices_S2048x256_o1536_0_S256x256) (mulf (broadcastTo S256x256 l broadcasts_S1x1_S256x256) (extractStridedSlice S256x256 ![1792, 0] p slices_S2048x256_o1792_0_S256x256))⟩] concatenates_S256x256_S256x256_S256x256_S256x256_S1024x256_d0

theorem pay22_eq (v15 : FVec Ideal S1x1 .f32) (v16 : FVec Ideal S256x256 .f32) (v19 v20 : FVec Ideal S256x256 .bf16)
    (v71 v74 v77 v80 v83 v86 : FVec Ideal S256x256 .f32) (v87 v90 : FVec Ideal S1x256 .f32) :
    k0_pay22 (F := Ideal) v15 v16 v19 v20 v71 v74 v77 v80 v83 v86 v87 v90
      = matmul dot_S1024x256_S256x256_S1024x256_1_0_0_1_n_n none
          (truncf .bf16 (diffs v15 (probs (expo (scores (stack v71 v74 v77 v80 v83 v86 (k0_pay20 v16 v87) (k0_pay21 v16 v90)) v19)))) bitsLt_bf16_f32)
          v20 (constant S1024x256 .f32 0x00000000#32) := rfl

theorem stack_apply (p : Fin 8 → FVec Ideal S256x256 .f32) (r : Fin 8) (i c : Fin 256) :
    stack (p 0) (p 1) (p 2) (p 3) (p 4) (p 5) (p 6) (p 7) (ix2 ⟨r.val * 256 + i.val, by omega⟩ c) = p r (ix2 i c) := by
  fin_cases r
  all_goals
    pointwise [stack]
  all_goals
    repeat (first | rw [dif_pos (by omega)] | rw [dif_neg (by omega)])
  all_goals
    refine congrArg _ ?_
    idx_ext

theorem scores_apply (q : FVec Ideal S2048x256 .f32) (k : FVec Ideal S256x256 .bf16) (a : Fin 2048) (j : Fin 256) :
    scores q k (ix2 a j) = (∑ c : Fin 256, q (ix2 a c) * k (ix2 j c)) * Ideal.ofBits .f32 0x3E3504F3#32 := by
  pointwise [scores]

theorem expo_apply (s : FVec Ideal S2048x256 .f32) (a : Fin 2048) (j : Fin 256) :
    expo s (ix2 a j) = Ideal.exp (s (ix2 a j) - Finset.univ.fold max (Ideal.ofBits .f32 0xFF800000#32) fun k : Fin 256 => s (ix2 a k)) := by
  pointwise [expo]

theorem probs_apply (e : FVec Ideal S2048x256 .f32) (a : Fin 2048) (j : Fin 256) :
    probs e (ix2 a j) = Ideal.div (e (ix2 a j)) (∑ k : Fin 256, e (ix2 a k)) := by
  pointwise [probs]

theorem diffs_apply (l : FVec Ideal S1x1 .f32) (p : FVec Ideal S2048x256 .f32) (h : Fin 4) (i j : Fin 256) :
    diffs l p (ix2 ⟨h.val * 256 + i.val, by omega⟩ j)
      = p (ix2 ⟨2 * h.val * 256 + i.val, by omega⟩ j) - l (ix2 0 0) * p (ix2 ⟨(2 * h.val + 1) * 256 + i.val, by omega⟩ j) := by
  fin_cases h
  all_goals
    pointwise [diffs]
  all_goals
    repeat (first | rw [dif_pos (by omega)] | rw [dif_neg (by omega)])
  all_goals
    refine congrArg₂ (· - ·) (congrArg p ?_) (congrArg (l (ix2 0 0) * ·) (congrArg p ?_))
  all_goals idx_ext

/-- The heads put back side by side: each of the four row groups, its own head's columns alone, summed. -/
def comb (o : FVec Ideal S1024x256 .f32) (h0 h1 h2 h3 : FVec Ideal S1x256 .f32) : FVec Ideal S256x256 .f32 :=
  addf (addf (addf (mulf (extractStridedSlice S256x256 ![0, 0] o slices_S1024x256_o0_0_S256x256) (broadcastTo S256x256 h0 broadcasts_S1x256_S256x256))
    (mulf (extractStridedSlice S256x256 ![256, 0] o slices_S1024x256_o256_0_S256x256) (broadcastTo S256x256 h1 broadcasts_S1x256_S256x256)))
    (mulf (extractStridedSlice S256x256 ![512, 0] o slices_S1024x256_o512_0_S256x256) (broadcastTo S256x256 h2 broadcasts_S1x256_S256x256)))
    (mulf (extractStridedSlice S256x256 ![768, 0] o slices_S1024x256_o768_0_S256x256) (broadcastTo S256x256 h3 broadcasts_S1x256_S256x256))

/-- The norm of each head's 64 columns, the squares' high and low halves summed apart; the word last is the complement. -/
def normed (s : BitVec 32) (o : FVec Ideal S256x256 .f32) (b : FVec Ideal S256x256 .bf16) (w : FVec Ideal S1x256 .f32) : FVec Ideal S256x256 .f32 :=
  mulf (mulf (mulf o (rsqrt (addf (mulf (addf
      (matmul dot_S256x256_S256x256_S256x256_1_0_0_1_n_n none (truncf .bf16 (mulf o o) bitsLt_bf16_f32) b (constant S256x256 .f32 0x00000000#32))
      (matmul dot_S256x256_S256x256_S256x256_1_0_0_1_n_n none (truncf .bf16 (subf (mulf o o) (extf .f32 (truncf .bf16 (mulf o o) bitsLt_bf16_f32) bitsLt_bf16_f32)) bitsLt_bf16_f32) b (constant S256x256 .f32 0x00000000#32)))
      (broadcast S256x256 (Scalar.ofBits .f32 0x3C800000#32))) (broadcast S256x256 (Scalar.ofBits .f32 0x358637BD#32)))))
    (broadcastTo S256x256 (shapeCast S1x256 w shapeCasts_S1x256_S1x256) broadcasts_S1x256_S256x256)) (broadcast S256x256 (Scalar.ofBits .f32 s))

theorem pay1_eq (o : FVec Ideal S1024x256 .f32) (h0 h1 h2 h3 w : FVec Ideal S1x256 .f32) (b : FVec Ideal S256x256 .bf16) :
    k0_pay1 (F := Ideal) o (mulf (extractStridedSlice S256x256 ![0, 0] o slices_S1024x256_o0_0_S256x256) (broadcastTo S256x256 h0 broadcasts_S1x256_S256x256))
      (extractStridedSlice S256x256 ![256, 0] o slices_S1024x256_o256_0_S256x256) (broadcastTo S256x256 h1 broadcasts_S1x256_S256x256) h2 h3 b w
      = normed 0x3F4CCCCD#32 (comb o h0 h1 h2 h3) b w := rfl

theorem comb_apply (o : FVec Ideal S1024x256 .f32) (p : Fin 4 → FVec Ideal S1x256 .f32)
    (hp : ∀ (h : Fin 4) (c : Fin 256), p h (ix2 0 c) = if c.val / 64 = h.val then 1 else 0) (h : Fin 4) (i : Fin 256) (e : Fin 64) :
    comb o (p 0) (p 1) (p 2) (p 3) (ix2 i ⟨h.val * 64 + e.val, by omega⟩) = o (ix2 ⟨h.val * 256 + i.val, by omega⟩ ⟨h.val * 64 + e.val, by omega⟩) := by
  have he := e.isLt
  fin_cases h
  all_goals
    pointwise [comb, hp]
  · rw [show e.val / 64 = 0 by omega]; simp
  · rw [show (64 + e.val) / 64 = 1 by omega]; simp
  · rw [show (128 + e.val) / 64 = 2 by omega]; simp
  · rw [show (192 + e.val) / 64 = 3 by omega]; simp

theorem normed_apply (s : BitVec 32) (o : FVec Ideal S256x256 .f32) (b : FVec Ideal S256x256 .bf16) (w : FVec Ideal S1x256 .f32) (i c : Fin 256) :
    normed s o b w (ix2 i c) = o (ix2 i c) * Ideal.rsqrt (((∑ k : Fin 256, o (ix2 i k) * o (ix2 i k) * b (ix2 k c))
      + ∑ k : Fin 256, (o (ix2 i k) * o (ix2 i k) - o (ix2 i k) * o (ix2 i k)) * b (ix2 k c)) * Ideal.ofBits .f32 0x3C800000#32 + Ideal.ofBits .f32 0x358637BD#32)
      * w (ix2 0 c) * Ideal.ofBits .f32 s := by
  pointwise [normed]

theorem lam_apply (x1 : FVec Ideal S4x32 .f32) :
    k0_pay2 (F := Ideal) x1 (ix2 0 0) = Ideal.exp (∑ d : Fin 32, x1 (ix2 0 d) * x1 (ix2 1 d)) - Ideal.exp (∑ d : Fin 32, x1 (ix2 2 d) * x1 (ix2 3 d)) + Ideal.ofBits .f32 0x3E4CCCCD#32 := by
  pointwise [k0_pay2]

end Cert.KernelIdeal.Att

end
-- ==== Proof.Att.Math.lean ====
/- Differential attention of one batch entry, over the extended reals, and that it is real where its arguments are. -/
module

public import Idealize.ShloMosaic.Lib.Pointwise

@[expose] public section

set_option maxRecDepth 16384

noncomputable section

namespace Cert.Att

open Idealize.ShloMosaic

/-- The scores' factor, the maximum's start, the `λ` offset and its complement of the first layer and of the second, the norm's `ε`: the words the programs print. -/
abbrev wScale : EReal := Ideal.ofBits .f32 0x3E3504F3#32
abbrev wStart : EReal := Ideal.ofBits .f32 0xFF800000#32
abbrev wLam : EReal := Ideal.ofBits .f32 0x3E4CCCCD#32
abbrev wRest : EReal := Ideal.ofBits .f32 0x3F4CCCCD#32
abbrev wLam1 : EReal := Ideal.ofBits .f32 0x3EB60549#32
abbrev wRest1 : EReal := Ideal.ofBits .f32 0x3F24FD5C#32
abbrev wEps : EReal := Ideal.ofBits .f32 0x358637BD#32
abbrev w64 : EReal := Ideal.ofBits .f32 0x42800000#32
abbrev wInv64 : EReal := Ideal.ofBits .f32 0x3C800000#32

section
variable (z s : EReal) (X : Fin 256 → Fin 768 → EReal) (L : Fin 4 → Fin 32 → EReal) (w : Fin 64 → EReal)

/-- The score of query row `i` against key row `j` in map `r` (head `r / 2`, half `r % 2`). -/
def score (r : Fin 8) (i j : Fin 256) : EReal :=
  (∑ d : Fin 32, X i ⟨r.val * 32 + d.val, by omega⟩ * X j ⟨256 + (r.val * 32 + d.val), by omega⟩) * wScale

/-- Its exponential, less the row's largest. -/
def expo (r : Fin 8) (i j : Fin 256) : EReal :=
  Ideal.exp (score X r i j - Finset.univ.fold max wStart fun k : Fin 256 => score X r i k)

/-- The map: each exponential over its row's sum. -/
def prob (r : Fin 8) (i j : Fin 256) : EReal := Ideal.div (expo X r i j) (∑ k : Fin 256, expo X r i k)

/-- The weight of the second map, its layer's offset being `z`. -/
def lam : EReal := Ideal.exp (∑ d : Fin 32, L 0 d * L 1 d) - Ideal.exp (∑ d : Fin 32, L 2 d * L 3 d) + z

/-- Head `h` of the attention's value, before its norm. -/
def head (h : Fin 4) (i : Fin 256) (e : Fin 64) : EReal :=
  ∑ j : Fin 256, (prob X ⟨2 * h.val, by omega⟩ i j - lam z L * prob X ⟨2 * h.val + 1, by omega⟩ i j) * X j ⟨512 + (h.val * 64 + e.val), by omega⟩

/-- The result: the head over its root mean square, times the norm's weights, times the complement `s`. -/
def out (h : Fin 4) (i : Fin 256) (e : Fin 64) : EReal :=
  head z X L h i e * Ideal.rsqrt ((∑ k : Fin 64, head z X L h i k * head z X L h i k) * wInv64 + wEps) * w e * s

end

/-! ## Real values -/

/-- Neither infinity. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.sum {ι : Type} (s : Finset ι) (f : ι → EReal) (h : ∀ k, Fin' (f k)) : Fin' (∑ k ∈ s, f k) := by
  classical
  induction s using Finset.induction_on with
  | empty => exact ⟨0, by simp⟩
  | insert a s ha ih => rw [Finset.sum_insert ha]; exact (h a).add ih
theorem Fin'.larger {x y : EReal} (hx : Fin' x) (hy : Fin' y) : Fin' (max x y) := by
  rcases max_choice x y with e | e <;> rw [e] <;> assumption

theorem start_eq : wStart = ⊥ := by
  show Ideal.ieee 8 23 (0xFF800000#32) = ⊥
  simp [Ideal.ieee]

theorem Fin'.fold {n : Nat} (f : Fin (n + 1) → EReal) (h : ∀ k, Fin' (f k)) : Fin' (Finset.univ.fold max wStart f) := by
  classical
  have key : ∀ s : Finset (Fin (n + 1)), s.Nonempty → Fin' (s.fold max wStart f) := by
    intro s hs
    induction hs using Finset.Nonempty.cons_induction with
    | singleton a => rw [Finset.fold_singleton, start_eq]; simpa using h a
    | cons a s ha hs ih => rw [Finset.fold_cons]; exact (h a).larger ih
  exact key _ Finset.univ_nonempty

/-- A positive real. -/
def Pos (x : EReal) : Prop := ∃ r : ℝ, 0 < r ∧ x = (r : EReal)

theorem Fin'.exp {x : EReal} (hx : Fin' x) : Pos (Ideal.exp x) := by
  obtain ⟨a, rfl⟩ := hx; exact ⟨Real.exp a, Real.exp_pos a, rfl⟩
theorem Pos.fin {x : EReal} (hx : Pos x) : Fin' x := let ⟨r, _, e⟩ := hx; ⟨r, e⟩
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]
theorem Pos.sum {n : Nat} (f : Fin (n + 1) → EReal) (h : ∀ k, Pos (f k)) : Pos (∑ k, f k) := by
  choose g hg he using h
  refine ⟨∑ k, g k, Finset.sum_pos (fun k _ => hg k) Finset.univ_nonempty, ?_⟩
  rw [Finset.sum_congr rfl fun k _ => he k, coe_sum]
theorem Fin'.div {x y : EReal} (hx : Fin' x) (hy : Pos y) : Fin' (Ideal.div x y) := by
  obtain ⟨a, rfl⟩ := hx; obtain ⟨b, hb, rfl⟩ := hy
  have hne : ((b : ℝ) : EReal) ≠ 0 := by exact_mod_cast hb.ne'
  unfold Ideal.div
  rw [if_neg hne]
  exact ⟨a * b⁻¹, by rw [EReal.coe_mul, EReal.coe_inv]⟩

theorem fin_word (b : BitVec 32) (h : (b.extractLsb' 23 8).toNat ≠ 255) : Fin' (Ideal.ofBits .f32 b) := by
  show Fin' (Ideal.ieee 8 23 b)
  unfold Ideal.ieee
  simp only
  rw [if_neg (by simpa using h)]
  split_ifs
  all_goals exact ⟨_, rfl⟩

section
variable {z : EReal} {X : Fin 256 → Fin 768 → EReal} {L : Fin 4 → Fin 32 → EReal}

theorem fin_score (hX : ∀ i c, Fin' (X i c)) (r : Fin 8) (i j : Fin 256) : Fin' (score X r i j) :=
  (Fin'.sum _ _ fun _ => (hX _ _).mul (hX _ _)).mul (fin_word _ (by decide))
theorem pos_expo (hX : ∀ i c, Fin' (X i c)) (r : Fin 8) (i j : Fin 256) : Pos (expo X r i j) :=
  ((fin_score hX r i j).sub (Fin'.fold (n := 255) _ fun k => fin_score hX r i k)).exp
theorem fin_prob (hX : ∀ i c, Fin' (X i c)) (r : Fin 8) (i j : Fin 256) : Fin' (prob X r i j) :=
  (pos_expo hX r i j).fin.div (Pos.sum (n := 255) _ fun k => pos_expo hX r i k)
theorem fin_lam (hz : Fin' z) (hL : ∀ a d, Fin' (L a d)) : Fin' (lam z L) :=
  ((Fin'.sum _ _ fun _ => (hL _ _).mul (hL _ _)).exp.fin.sub (Fin'.sum _ _ fun _ => (hL _ _).mul (hL _ _)).exp.fin).add hz
theorem fin_head (hz : Fin' z) (hX : ∀ i c, Fin' (X i c)) (hL : ∀ a d, Fin' (L a d)) (h : Fin 4) (i : Fin 256) (e : Fin 64) : Fin' (head z X L h i e) :=
  Fin'.sum _ _ fun _ => ((fin_prob hX _ _ _).sub ((fin_lam hz hL).mul (fin_prob hX _ _ _))).mul (hX _ _)
end

/-- A real number less itself is zero: what the kernel's low half of a split square holds. -/
theorem sub_self_fin {x : EReal} (hx : Fin' x) : x - x = 0 := by
  obtain ⟨a, rfl⟩ := hx; rw [← EReal.coe_sub, sub_self]; rfl

/-! ## Division by 64 -/

theorem w64_eq : w64 = ((64 : ℝ) : EReal) := by
  show Ideal.ieee 8 23 (0x42800000#32) = _
  simp [Ideal.ieee]; rw [← EReal.coe_mul]; norm_num
theorem wInv64_eq : wInv64 = (((64 : ℝ)⁻¹ : ℝ) : EReal) := by
  show Ideal.ieee 8 23 (0x3C800000#32) = _
  simp [Ideal.ieee]; rw [← EReal.coe_mul]; norm_num
theorem div64 (x : EReal) : Ideal.div x w64 = x * wInv64 := by
  unfold Ideal.div
  rw [w64_eq, wInv64_eq, if_neg (by norm_num), EReal.coe_inv]

/-- A sum over the columns a mask leaves: the 32 columns of map `r`, -/
theorem sum_map (r : Fin 8) (f : Fin 256 → EReal) (g : Fin 256 → EReal) (hg : ∀ c, g c = if c.val / 32 = r.val then f c else 0) :
    ∑ c, g c = ∑ d : Fin 32, f ⟨r.val * 32 + d.val, by omega⟩ := by
  rw [Fin.sum_univ_tiles 8 32 rfl, Finset.sum_eq_single r]
  · refine Finset.sum_congr rfl fun d _ => ?_
    rw [hg, if_pos (by simp only; omega)]
  · intro b _ hb
    refine Finset.sum_eq_zero fun d _ => ?_
    have : b.val ≠ r.val := fun h => hb (Fin.ext h)
    rw [hg, if_neg (by simp only; omega)]
  · intro h; exact absurd (Finset.mem_univ _) h
/-- the 64 columns of head `h`. -/
theorem sum_head (h : Fin 4) (f : Fin 256 → EReal) (g : Fin 256 → EReal) (hg : ∀ c, g c = if c.val / 64 = h.val then f c else 0) :
    ∑ c, g c = ∑ d : Fin 64, f ⟨h.val * 64 + d.val, by omega⟩ := by
  rw [Fin.sum_univ_tiles 4 64 rfl, Finset.sum_eq_single h]
  · refine Finset.sum_congr rfl fun d _ => ?_
    rw [hg, if_pos (by simp only; omega)]
  · intro b _ hb
    refine Finset.sum_eq_zero fun d _ => ?_
    have : b.val ≠ h.val := fun h => hb (Fin.ext h)
    rw [hg, if_neg (by simp only; omega)]
  · intro h; exact absurd (Finset.mem_univ _) h

/-- A maximum already started at `b` is not changed by `b`. -/
theorem max_start {n : Nat} (b : EReal) (f : Fin n → EReal) : max b (Finset.univ.fold max b f) = Finset.univ.fold max b f :=
  max_eq_right ((Finset.le_fold_max _).2 (.inl le_rfl))

/-- The columns of the queries, keys and values among an entry's 768. -/
def qcol (c : Fin 256) : Fin 768 := ⟨c.val, by omega⟩
def kcol (c : Fin 256) : Fin 768 := ⟨256 + c.val, by omega⟩
def vcol (c : Fin 256) : Fin 768 := ⟨512 + c.val, by omega⟩
/-- Column `e` of head `h`. -/
def hcol (h : Fin 4) (e : Fin 64) : Fin 256 := ⟨h.val * 64 + e.val, by omega⟩

end Cert.Att

end
-- ==== Proof.Att.Whole.lean ====
/- One grid point of the attention call is differential attention of its batch entry, where the arguments are real. -/
module

public import proofs.«01_k».proof.Proof.Att.Block
public import proofs.«01_k».proof.Proof.Att.Math

@[expose] public section

set_option maxRecDepth 16384

noncomputable section

namespace Cert.KernelIdeal.Att

open Cert.KernelIdeal Cert.KernelIdeal.Gen Idealize.ShloMosaic Idealize.ShloMosaic.TcCoe

section
variable (q k v : FVec Ideal S256x256 .f32) (l : FVec Ideal S1x1 .f32) (z : EReal) (s : BitVec 32) (g : Fin 8 → FVec Ideal S1x256 .f32)
  (p : Fin 4 → FVec Ideal S1x256 .f32) (b : FVec Ideal S256x256 .bf16) (w : FVec Ideal S1x256 .f32)
  (X : Fin 256 → Fin 768 → EReal) (L : Fin 4 → Fin 32 → EReal) (W : Fin 64 → EReal)
  (hq : ∀ i c : Fin 256, q (ix2 i c) = X i ⟨c.val, by omega⟩) (hk : ∀ i c : Fin 256, k (ix2 i c) = X i ⟨256 + c.val, by omega⟩)
  (hv : ∀ i c : Fin 256, v (ix2 i c) = X i ⟨512 + c.val, by omega⟩) (hl : l (ix2 0 0) = Cert.Att.lam z L)
  (hg : ∀ (r : Fin 8) (c : Fin 256), g r (ix2 0 c) = if c.val / 32 = r.val then 1 else 0)
  (hp : ∀ (h : Fin 4) (c : Fin 256), p h (ix2 0 c) = if c.val / 64 = h.val then 1 else 0)
  (hb : ∀ a c : Fin 256, b (ix2 a c) = if a.val / 64 = c.val / 64 then 1 else 0)
  (hw : ∀ (h : Fin 4) (e : Fin 64), w (ix2 0 ⟨h.val * 64 + e.val, by omega⟩) = W e)

/-- The queries under map `r`'s mask. -/
def masked (r : Fin 8) : FVec Ideal S256x256 .f32 := mulf q (broadcastTo S256x256 (g r) broadcasts_S1x256_S256x256)

theorem masked_apply (r : Fin 8) (i c : Fin 256) : masked q g r (ix2 i c) = q (ix2 i c) * g r (ix2 0 c) := by
  pointwise [masked]

/-- The stacked masked queries, and what follows from them. -/
abbrev stacked : FVec Ideal S2048x256 .f32 := stack (masked q g 0) (masked q g 1) (masked q g 2) (masked q g 3) (masked q g 4) (masked q g 5) (masked q g 6) (masked q g 7)
abbrev maps : FVec Ideal S2048x256 .f32 := probs (expo (scores (stacked q g) (truncf .bf16 k bitsLt_bf16_f32)))
abbrev values : FVec Ideal S1024x256 .f32 :=
  matmul dot_S1024x256_S256x256_S1024x256_1_0_0_1_n_n none (truncf .bf16 (diffs l (maps q k g)) bitsLt_bf16_f32)
    (truncf .bf16 v bitsLt_bf16_f32) (constant S1024x256 .f32 0x00000000#32)

include hq hk hg in
theorem score_eq (r : Fin 8) (i j : Fin 256) :
    scores (stacked q g) (truncf .bf16 k bitsLt_bf16_f32) (ix2 ⟨r.val * 256 + i.val, by omega⟩ j) = Cert.Att.score X r i j := by
  rw [scores_apply]
  unfold Cert.Att.score
  congr 1
  refine Cert.Att.sum_map r (fun c => X i ⟨c.val, by omega⟩ * X j ⟨256 + c.val, by omega⟩) _ fun c => ?_
  rw [stacked, stack_apply (masked q g), masked_apply, hg, hq]
  show X i ⟨c.val, _⟩ * _ * k (ix2 j c) = _
  rw [hk]
  split_ifs
  · rw [mul_one]
  · rw [mul_zero, zero_mul]

include hq hk hg in
theorem expo_eq (r : Fin 8) (i j : Fin 256) :
    expo (scores (stacked q g) (truncf .bf16 k bitsLt_bf16_f32)) (ix2 ⟨r.val * 256 + i.val, by omega⟩ j) = Cert.Att.expo X r i j := by
  rw [expo_apply]
  simp only [score_eq q k g X hq hk hg]
  rfl

include hq hk hg in
theorem prob_eq (r : Fin 8) (i j : Fin 256) : maps q k g (ix2 ⟨r.val * 256 + i.val, by omega⟩ j) = Cert.Att.prob X r i j := by
  rw [maps, probs_apply]
  simp only [expo_eq q k g X hq hk hg]
  rfl

theorem values_sum (d : FVec Ideal S1024x256 .f32) (a : Fin 1024) (e : Fin 256) :
    matmul dot_S1024x256_S256x256_S1024x256_1_0_0_1_n_n none (truncf .bf16 d bitsLt_bf16_f32)
      (truncf .bf16 v bitsLt_bf16_f32) (constant S1024x256 .f32 0x00000000#32) (ix2 a e) = ∑ j : Fin 256, d (ix2 a j) * v (ix2 j e) := by
  pointwise

theorem lam_eq (x1 : FVec Ideal S4x32 .f32) (hL : ∀ (a : Fin 4) (d : Fin 32), x1 (ix2 a d) = L a d) :
    k0_pay2 (F := Ideal) x1 (ix2 0 0) = Cert.Att.lam Cert.Att.wLam L := by
  rw [lam_apply]; simp only [hL]; rfl

include hq hk hv hl hg in
theorem head_eq (h : Fin 4) (i : Fin 256) (e : Fin 64) :
    values q k v l g (ix2 ⟨h.val * 256 + i.val, by omega⟩ ⟨h.val * 64 + e.val, by omega⟩) = Cert.Att.head z X L h i e := by
  rw [values, values_sum]
  unfold Cert.Att.head
  refine Finset.sum_congr rfl fun j _ => ?_
  rw [diffs_apply, hv, hl, prob_eq q k g X hq hk hg ⟨2 * h.val, by omega⟩ i j, prob_eq q k g X hq hk hg ⟨2 * h.val + 1, by omega⟩ i j]

/-- A column of the 256 is a head and a column of its 64. -/
theorem column (c : Fin 256) : ∃ (h : Fin 4) (e : Fin 64), c = Cert.Att.hcol h e :=
  ⟨⟨c.val / 64, by omega⟩, ⟨c.val % 64, by omega⟩, Fin.ext (by simp only [Cert.Att.hcol]; omega)⟩

include hq hk hv hl hg hp hb hw in
theorem block (hz : Cert.Att.Fin' z) (hX : ∀ i c, Cert.Att.Fin' (X i c)) (hLr : ∀ a d, Cert.Att.Fin' (L a d)) (h : Fin 4) (i : Fin 256) (e : Fin 64) :
    normed s (comb (values q k v l g) (p 0) (p 1) (p 2) (p 3)) b w (ix2 i ⟨h.val * 64 + e.val, by omega⟩) = Cert.Att.out z (Ideal.ofBits .f32 s) X L W h i e := by
  have ho : ∀ (h : Fin 4) (e : Fin 64), comb (values q k v l g) (p 0) (p 1) (p 2) (p 3) (ix2 i ⟨h.val * 64 + e.val, by omega⟩) = Cert.Att.head z X L h i e :=
    fun h e => (comb_apply _ p hp h i e).trans (head_eq q k v l z g X L hq hk hv hl hg h i e)
  generalize comb (values q k v l g) (p 0) (p 1) (p 2) (p 3) = o at ho ⊢
  have hf : ∀ c : Fin 256, Cert.Att.Fin' (o (ix2 i c)) := by
    intro c; obtain ⟨h, e, rfl⟩ := column c; rw [show o (ix2 i (Cert.Att.hcol h e)) = _ from ho h e]; exact Cert.Att.fin_head hz hX hLr h i e
  rw [normed_apply, ho, hw]
  have hlow : (∑ c : Fin 256, (o (ix2 i c) * o (ix2 i c) - o (ix2 i c) * o (ix2 i c)) * b (ix2 c ⟨h.val * 64 + e.val, by omega⟩)) = 0 :=
    Finset.sum_eq_zero fun c _ => by rw [Cert.Att.sub_self_fin ((hf c).mul (hf c)), zero_mul]
  have hhigh : (∑ c : Fin 256, o (ix2 i c) * o (ix2 i c) * b (ix2 c ⟨h.val * 64 + e.val, by omega⟩)) = ∑ d : Fin 64, Cert.Att.head z X L h i d * Cert.Att.head z X L h i d := by
    rw [Cert.Att.sum_head h (fun c => o (ix2 i c) * o (ix2 i c))]
    · exact Finset.sum_congr rfl fun d _ => by rw [ho]
    · intro c
      rw [hb, show (h.val * 64 + e.val) / 64 = h.val by omega]
      split_ifs
      · rw [mul_one]
      · rw [mul_zero]
  rw [hlow, hhigh, add_zero]
  rfl
end

/-- The same with the columns named. -/
theorem block_named (q k v : FVec Ideal S256x256 .f32) (l : FVec Ideal S1x1 .f32) (z : EReal) (s : BitVec 32) (g : Fin 8 → FVec Ideal S1x256 .f32)
    (p : Fin 4 → FVec Ideal S1x256 .f32) (b : FVec Ideal S256x256 .bf16) (w : FVec Ideal S1x256 .f32)
    (X : Fin 256 → Fin 768 → EReal) (L : Fin 4 → Fin 32 → EReal) (W : Fin 64 → EReal)
    (hq : ∀ i c : Fin 256, q (ix2 i c) = X i (Cert.Att.qcol c)) (hk : ∀ i c : Fin 256, k (ix2 i c) = X i (Cert.Att.kcol c))
    (hv : ∀ i c : Fin 256, v (ix2 i c) = X i (Cert.Att.vcol c)) (hl : l (ix2 0 0) = Cert.Att.lam z L)
    (hg : ∀ (r : Fin 8) (c : Fin 256), g r (ix2 0 c) = if c.val / 32 = r.val then 1 else 0)
    (hp : ∀ (h : Fin 4) (c : Fin 256), p h (ix2 0 c) = if c.val / 64 = h.val then 1 else 0)
    (hb : ∀ a c : Fin 256, b (ix2 a c) = if a.val / 64 = c.val / 64 then 1 else 0)
    (hw : ∀ (h : Fin 4) (e : Fin 64), w (ix2 0 (Cert.Att.hcol h e)) = W e)
    (hz : Cert.Att.Fin' z) (hX : ∀ i c, Cert.Att.Fin' (X i c)) (hLr : ∀ a d, Cert.Att.Fin' (L a d)) (h : Fin 4) (i : Fin 256) (e : Fin 64) :
    normed s (comb (values q k v l g) (p 0) (p 1) (p 2) (p 3)) b w (ix2 i (Cert.Att.hcol h e)) = Cert.Att.out z (Ideal.ofBits .f32 s) X L W h i e :=
  block q k v l z s g p b w X L W hq hk hv hl hg hp hb hw hz hX hLr h i e

/-- The stored payload at its loads, the masks given one by one. -/
theorem block_pay (q k v : FVec Ideal S256x256 .f32) (x1 : FVec Ideal S4x32 .f32) (g0 g1 g2 g3 g4 g5 g6 g7 : FVec Ideal S1x256 .f32)
    (p0 p1 p2 p3 : FVec Ideal S1x256 .f32) (b : FVec Ideal S256x256 .bf16) (w : FVec Ideal S1x256 .f32)
    (X : Fin 256 → Fin 768 → EReal) (L : Fin 4 → Fin 32 → EReal) (W : Fin 64 → EReal)
    (hX : ∀ i c, Cert.Att.Fin' (X i c)) (hLr : ∀ a d, Cert.Att.Fin' (L a d))
    (hq : ∀ i c : Fin 256, q (ix2 i c) = X i (Cert.Att.qcol c)) (hk : ∀ i c : Fin 256, k (ix2 i c) = X i (Cert.Att.kcol c))
    (hv : ∀ i c : Fin 256, v (ix2 i c) = X i (Cert.Att.vcol c)) (hL : ∀ (a : Fin 4) (d : Fin 32), x1 (ix2 a d) = L a d)
    (hg0 : ∀ c : Fin 256, g0 (ix2 0 c) = if c.val / 32 = 0 then 1 else 0)
    (hg1 : ∀ c : Fin 256, g1 (ix2 0 c) = if c.val / 32 = 1 then 1 else 0)
    (hg2 : ∀ c : Fin 256, g2 (ix2 0 c) = if c.val / 32 = 2 then 1 else 0)
    (hg3 : ∀ c : Fin 256, g3 (ix2 0 c) = if c.val / 32 = 3 then 1 else 0)
    (hg4 : ∀ c : Fin 256, g4 (ix2 0 c) = if c.val / 32 = 4 then 1 else 0)
    (hg5 : ∀ c : Fin 256, g5 (ix2 0 c) = if c.val / 32 = 5 then 1 else 0)
    (hg6 : ∀ c : Fin 256, g6 (ix2 0 c) = if c.val / 32 = 6 then 1 else 0)
    (hg7 : ∀ c : Fin 256, g7 (ix2 0 c) = if c.val / 32 = 7 then 1 else 0)
    (hp0 : ∀ c : Fin 256, p0 (ix2 0 c) = if c.val / 64 = 0 then 1 else 0)
    (hp1 : ∀ c : Fin 256, p1 (ix2 0 c) = if c.val / 64 = 1 then 1 else 0)
    (hp2 : ∀ c : Fin 256, p2 (ix2 0 c) = if c.val / 64 = 2 then 1 else 0)
    (hp3 : ∀ c : Fin 256, p3 (ix2 0 c) = if c.val / 64 = 3 then 1 else 0)
    (hb : ∀ a c : Fin 256, b (ix2 a c) = if a.val / 64 = c.val / 64 then 1 else 0)
    (hw : ∀ (h : Fin 4) (e : Fin 64), w (ix2 0 (Cert.Att.hcol h e)) = W e) (h : Fin 4) (i : Fin 256) (e : Fin 64) :
    k0_pay1 (F := Ideal) (k0_pay22 (k0_pay2 (F := Ideal) x1) q (k0_pay3 (F := Ideal) k) (k0_pay4 (F := Ideal) v) (k0_pay16 (F := Ideal) q g0) (k0_pay17 (F := Ideal) q g1) (k0_pay18 (F := Ideal) q g2) (k0_pay19 (F := Ideal) q g3) (k0_pay20 (F := Ideal) q g4) (k0_pay21 (F := Ideal) q g5) g6 g7) (k0_pay23 (k0_pay2 (F := Ideal) x1) q (k0_pay3 (F := Ideal) k) (k0_pay4 (F := Ideal) v) (k0_pay16 (F := Ideal) q g0) (k0_pay17 (F := Ideal) q g1) (k0_pay18 (F := Ideal) q g2) (k0_pay19 (F := Ideal) q g3) (k0_pay20 (F := Ideal) q g4) (k0_pay21 (F := Ideal) q g5) g6 g7 p0) (k0_pay24 (k0_pay2 (F := Ideal) x1) q (k0_pay3 (F := Ideal) k) (k0_pay4 (F := Ideal) v) (k0_pay16 (F := Ideal) q g0) (k0_pay17 (F := Ideal) q g1) (k0_pay18 (F := Ideal) q g2) (k0_pay19 (F := Ideal) q g3) (k0_pay20 (F := Ideal) q g4) (k0_pay21 (F := Ideal) q g5) g6 g7) (k0_pay25 (F := Ideal) p1) p2 p3 b w (ix2 i (Cert.Att.hcol h e))
      = Cert.Att.out Cert.Att.wLam Cert.Att.wRest X L W h i e :=
  block q k v (k0_pay2 (F := Ideal) x1) Cert.Att.wLam 0x3F4CCCCD#32 ![g0, g1, g2, g3, g4, g5, g6, g7] ![p0, p1, p2, p3] b w X L W hq hk hv (lam_eq L x1 hL)
    (fun r c => by fin_cases r; exacts [hg0 c, hg1 c, hg2 c, hg3 c, hg4 c, hg5 c, hg6 c, hg7 c])
    (fun r c => by fin_cases r; exacts [hp0 c, hp1 c, hp2 c, hp3 c]) hb hw (Cert.Att.fin_word _ (by decide)) hX hLr h i e

end Cert.KernelIdeal.Att

end
-- ==== Proof.Att.Lit.lean ====
/- The three constant arrays the attention call is given: row `r` of the first marks the 32 columns of one map, row `h` of the
   second the 64 columns of one head, and the third marks the pairs of columns that belong to the same head. -/
module

public import proofs.«01_k».proof.KernelIdeal
public import Idealize.ShloMosaic.Lib.Pointwise

@[expose] public section

set_option maxRecDepth 16384

noncomputable section

namespace Cert.KernelIdeal.Lit

open Cert.KernelIdeal Idealize.ShloMosaic

theorem lit0_words : ∀ (r : Fin 8) (c : Fin 256), lit0t (r.val * 256 + c.val)
    = if c.val / 32 = r.val then 0x3F800000#32 else 0x00000000#32 := by
  decide +kernel

theorem lit1_words : ∀ (h : Fin 4) (c : Fin 256), lit1t (h.val * 256 + c.val)
    = if c.val / 64 = h.val then 0x3F800000#32 else 0x00000000#32 := by
  decide +kernel

/-! The third array has 65536 entries in 512 runs of 128; a run is one of three: ones then zeros, zeros then ones, zeros. -/

theorem run_one_zero (i r : Nat) (h : i % 128 = r) : lit2t0_0 i = if r < 64 then 0x3F80#16 else 0x0000#16 := by
  have hr : r < 128 := by omega
  unfold lit2t0_0; rw [h]; interval_cases r <;> rfl

theorem run_zero_one (i r : Nat) (h : i % 128 = r) : lit2t0_128 i = if 64 ≤ r then 0x3F80#16 else 0x0000#16 := by
  have hr : r < 128 := by omega
  unfold lit2t0_128; rw [h]; interval_cases r <;> rfl

theorem run_zero (i r : Nat) (h : i % 128 = r) : lit2t0_1 i = 0x0000#16 := by
  have hr : r < 128 := by omega
  unfold lit2t0_1; rw [h]; interval_cases r <;> rfl

theorem rows_0 (i q : Nat) (h : i / 128 % 128 = q) : lit2t1_0 i = if q % 2 = 0 then lit2t0_0 i else lit2t0_1 i := by
  have hq : q < 128 := by omega
  unfold lit2t1_0; rw [h]; interval_cases q <;> rfl

theorem rows_1 (i q : Nat) (h : i / 128 % 128 = q) : lit2t1_1 i = if q % 2 = 0 then lit2t0_128 i else lit2t0_1 i := by
  have hq : q < 128 := by omega
  unfold lit2t1_1; rw [h]; interval_cases q <;> rfl

theorem rows_2 (i q : Nat) (h : i / 128 % 128 = q) : lit2t1_2 i = if q % 2 = 0 then lit2t0_1 i else lit2t0_0 i := by
  have hq : q < 128 := by omega
  unfold lit2t1_2; rw [h]; interval_cases q <;> rfl

theorem rows_3 (i q : Nat) (h : i / 128 % 128 = q) : lit2t1_3 i = if q % 2 = 0 then lit2t0_1 i else lit2t0_128 i := by
  have hq : q < 128 := by omega
  unfold lit2t1_3; rw [h]; interval_cases q <;> rfl

theorem lit2_words (a c : Fin 256) : lit2t (a.val * 256 + c.val) = if a.val / 64 = c.val / 64 then 0x3F80#16 else 0x0000#16 := by
  have ha := a.isLt
  have hc := c.isLt
  have key : ∀ g, (a.val * 256 + c.val) / 16384 = g → lit2t (a.val * 256 + c.val)
      = if a.val / 64 = c.val / 64 then 0x3F80#16 else 0x0000#16 := by
    intro g hg
    have hg4 : g < 4 := by omega
    unfold lit2t; rw [hg]
    interval_cases g
    · show lit2t1_0 _ = _
      rw [rows_0 _ _ rfl, run_one_zero _ _ rfl, run_zero _ _ rfl]
      split_ifs <;> first | rfl | (exfalso; omega)
    · show lit2t1_1 _ = _
      rw [rows_1 _ _ rfl, run_zero_one _ _ rfl, run_zero _ _ rfl]
      split_ifs <;> first | rfl | (exfalso; omega)
    · show lit2t1_2 _ = _
      rw [rows_2 _ _ rfl, run_one_zero _ _ rfl, run_zero _ _ rfl]
      split_ifs <;> first | rfl | (exfalso; omega)
    · show lit2t1_3 _ = _
      rw [rows_3 _ _ rfl, run_zero_one _ _ rfl, run_zero _ _ rfl]
      split_ifs <;> first | rfl | (exfalso; omega)
  exact key _ rfl

theorem at8 (r : Fin 8) (c : Fin 256) : lit0 (S8x256.rowMajor (ix2 r c)) = lit0t (r.val * 256 + c.val) := by
  show lit0t (S8x256.rowMajor (ix2 r c)).val = _
  rw [rowMajor_val2 _ 256 rfl]; rfl

theorem at4 (r : Fin 4) (c : Fin 256) : lit1 (S4x256.rowMajor (ix2 r c)) = lit1t (r.val * 256 + c.val) := by
  show lit1t (S4x256.rowMajor (ix2 r c)).val = _
  rw [rowMajor_val2 _ 256 rfl]; rfl

theorem at256 (r c : Fin 256) : lit2 (S256x256.rowMajor (ix2 r c)) = lit2t (r.val * 256 + c.val) := by
  show lit2t (S256x256.rowMajor (ix2 r c)).val = _
  rw [rowMajor_val2 _ 256 rfl]; rfl

/-- Entry `(r, c)` of the map masks: 1 where column `c` is one of map `r`'s 32, else 0. -/
theorem mask_maps (r : Fin 8) (c : Fin 256) :
    (FloatOps.ofBits (F := Ideal) .f32 (lit0 (S8x256.rowMajor (ix2 r c))) : EReal) = if c.val / 32 = r.val then 1 else 0 := by
  rw [at8, lit0_words]
  split_ifs
  · exact Ideal.ofBits_one_f32
  · exact Ideal.ofBits_zero_f32

/-- Entry `(h, c)` of the head masks: 1 where column `c` is one of head `h`'s 64, else 0. -/
theorem mask_heads (h : Fin 4) (c : Fin 256) :
    (FloatOps.ofBits (F := Ideal) .f32 (lit1 (S4x256.rowMajor (ix2 h c))) : EReal) = if c.val / 64 = h.val then 1 else 0 := by
  rw [at4, lit1_words]
  split_ifs
  · exact Ideal.ofBits_one_f32
  · exact Ideal.ofBits_zero_f32

/-- Entry `(a, c)` of the pairs: 1 where columns `a` and `c` are of one head, else 0. -/
theorem mask_pairs (a c : Fin 256) :
    (FloatOps.ofBits (F := Ideal) .bf16 (lit2 (S256x256.rowMajor (ix2 a c))) : EReal) = if a.val / 64 = c.val / 64 then 1 else 0 := by
  rw [at256, lit2_words]
  split_ifs
  · exact Ideal.ofBits_one_bf16
  · exact Ideal.ofBits_zero_bf16

end Cert.KernelIdeal.Lit

end
-- ==== Proof.Att.Final.lean ====
/- The attention call's result arrays: each grid point writes its batch entry's blocks. -/
module

public import proofs.«01_k».proof.Proof.Att.Whole
public import proofs.«01_k».proof.Proof.Att.Lit
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val, 4] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0, 0, 0, 0] ∧ win0_8.index t = ![t.val, 0, 0, 0, 0] :=
  (by decide +kernel : ∀ t : Fin grid0.N, _)

abbrev proj (c : Dev nD) : FVec Ideal S10240x3968 .f32 := m ((c.tc : Thread nD τ).loc main_arg0)
abbrev lamv (c : Dev nD) : FVec Ideal S4x32 .f32 := m ((c.tc : Thread nD τ).loc main_arg1)
abbrev nw (c : Dev nD) : FVec Ideal S64 .f32 := m ((c.tc : Thread nD τ).loc main_arg2)

theorem lt32 (t : Fin cfg0.N) : t.val < 32 := lt_of_lt_of_eq t.isLt N_0

theorem read0 (c : Dev nD) (t : Fin cfg0.N) (i : Fin 256) (a : Fin 768) :
    X0_0 m c t (ix2 i a) = proj m c (ix2 ⟨t.val * 256 + i.val, by have := lt32 t; omega⟩ ⟨3072 + a.val, by omega⟩) := by
  unfold X0_0 Pipeline.Window.fill
  rw [dif_pos (moved0_0 t _)]
  blk_ext [iblk, V, idx t]

theorem read1 (c : Dev nD) (t : Fin cfg0.N) (a : Fin 4) (d : Fin 32) : iblk m c 1 t (ix2 a d) = lamv m c (ix2 a d) := by
  blk_ext [iblk, V, idx t]

theorem spread (w : FVec Ideal S64 .f32) (h : Fin 4) (e : Fin 64) :
    broadcastInDim S1x256 ![1] bcast_S256_S1x256_1 (shapeCast S256 (broadcastInDim S4x64 ![0, 1] bcast_S1x64_S4x64_0_1 (shapeCast S1x64 w shapeCasts_S64_S1x64)) shapeCasts_S4x64_S256)
      (ix2 0 ⟨h.val * 64 + e.val, by omega⟩) = w (ix1 e) := by
  pointwise

theorem read2 (c : Dev nD) (t : Fin cfg0.N) (h : Fin 4) (e : Fin 64) : iblk m c 2 t (ix2 0 ⟨h.val * 64 + e.val, by omega⟩) = nw m c (ix1 e) := by
  have e0 : iblk m c 2 t (ix2 0 ⟨h.val * 64 + e.val, by omega⟩) = V m c main_v3 (ix2 0 ⟨h.val * 64 + e.val, by omega⟩) := by
    blk_ext [iblk, idx t]
  rw [e0]
  entry_read
  exact spread (nw m c) h e

theorem read3 (c : Dev nD) (t : Fin cfg0.N) (r : Fin 8) (a : Fin 256) : iblk m c 3 t (ix2 r a) = if a.val / 32 = r.val then (1 : EReal) else 0 := by
  have e0 : iblk m c 3 t (ix2 r a) = V m c main_cst (ix2 r a) := by blk_ext [iblk, idx t]
  rw [e0]
  entry_read
  exact Lit.mask_maps r a

theorem read4 (c : Dev nD) (t : Fin cfg0.N) (h : Fin 4) (a : Fin 256) : iblk m c 4 t (ix2 h a) = if a.val / 64 = h.val then (1 : EReal) else 0 := by
  have e0 : iblk m c 4 t (ix2 h a) = V m c main_cst_0 (ix2 h a) := by blk_ext [iblk, idx t]
  rw [e0]
  entry_read
  exact Lit.mask_heads h a

theorem read5 (c : Dev nD) (t : Fin cfg0.N) (a b : Fin 256) : iblk m c 5 t (ix2 a b) = if a.val / 64 = b.val / 64 then (1 : EReal) else 0 := by
  have e0 : iblk m c 5 t (ix2 a b) = V m c main_cst_1 (ix2 a b) := by blk_ext [iblk, idx t]
  rw [e0]
  entry_read
  exact Lit.mask_pairs a b

/-- The batch entry of point `t`: its 256 positions' queries, keys and values. -/
def entryX (c : Dev nD) (b : Fin 32) (i : Fin 256) (a : Fin 768) : EReal := proj m c (ix2 ⟨b.val * 256 + i.val, by omega⟩ ⟨3072 + a.val, by omega⟩)
def lamL (c : Dev nD) (a : Fin 4) (d : Fin 32) : EReal := lamv m c (ix2 a d)
def normW (c : Dev nD) (e : Fin 64) : EReal := nw m c (ix1 e)

/-- The precondition, as it is used: the queries, keys, values and map vectors are real. -/
def Real (c : Dev nD) : Prop := (∀ b i a, Cert.Att.Fin' (entryX m c b i a)) ∧ ∀ a d, Cert.Att.Fin' (lamL m c a d)

theorem left6 (c : Dev nD) (hr : Real m c) (t : Fin cfg0.N) (h : Fin 4) (i : Fin 256) (e : Fin 64) :
    (outsAt0 m c t).1 (ix2 i ⟨h.val * 64 + e.val, by omega⟩) = Cert.Att.out Cert.Att.wLam Cert.Att.wRest (entryX m c ⟨t.val, lt32 t⟩) (lamL m c) (normW m c) h i e := by
  unfold outsAt0
  frame_out
  refine block_pay _ _ _ _ _ _ _ _ _ _ _ _ _ _ _ _ _ _ _ _ _ (fun i c => hr.1 _ i c) hr.2 ?_ ?_ ?_ (read1 m c t) ?_ ?_ ?_ ?_ ?_ ?_ ?_ ?_ ?_ ?_ ?_ ?_ (read5 m c t) (fun h e => read2 m c t h e) h i e
  · intro i a; pointwise; exact read0 m c t i _
  · intro i a; pointwise; exact read0 m c t i _
  · intro i a; pointwise; exact read0 m c t i _
  · intro a; pointwise; exact read3 m c t 0 a
  · intro a; pointwise; exact read3 m c t 1 a
  · intro a; pointwise; exact read3 m c t 2 a
  · intro a; pointwise; exact read3 m c t 3 a
  · intro a; pointwise; exact read3 m c t 4 a
  · intro a; pointwise; exact read3 m c t 5 a
  · intro a; pointwise; exact read3 m c t 6 a
  · intro a; pointwise; exact read3 m c t 7 a
  · intro a; pointwise; exact read4 m c t 0 a
  · intro a; pointwise; exact read4 m c t 1 a
  · intro a; pointwise; exact read4 m c t 2 a
  · intro a; pointwise; exact read4 m c t 3 a

/-- The new keys (or values): head `h`'s columns of layer slice 0, and zero in slice 1. -/
def cacheAt (off : Nat) (hoff : off ≤ 512) (c : Dev nD) (b : Fin 32) (l : Fin 2) (h : Fin 4) (i : Fin 256) (e : Fin 64) : EReal :=
  if l.val = 0 then entryX m c b i ⟨off + (h.val * 64 + e.val), by omega⟩ else 0

theorem left7 (c : Dev nD) (t : Fin cfg0.N) (l : Fin 2) (h : Fin 4) (i : Fin 256) (e : Fin 64) :
    (outsAt0 m c t).2.1 (ix5 0 l h i e) = cacheAt m 256 (by decide) c ⟨t.val, lt32 t⟩ l h i e := by
  unfold outsAt0
  frame_out
  canon_tiles x hx using View.cover_of_tiledBy _ ![1, 1, 1, 256, 64] (by sl_kernel_rfl) _
  all_goals
    have h1 : l.val = _ := hx1
    have h2 : h.val = _ := hx2
    have h3 : i.val = _ := hx3
    have h4 : e.val = _ := hx4
    open_payloads; pointwise
  all_goals first
    | (refine (read0 m c t (x 3) _).trans ?_
       unfold cacheAt entryX
       rw [if_pos (by omega)]
       congr 1
       exact (ix2_inj ..).2 ⟨Fin.ext (by simp only; omega), Fin.ext (by simp only; omega)⟩)
    | (unfold cacheAt; rw [if_neg (by omega)])

theorem left8 (c : Dev nD) (t : Fin cfg0.N) (l : Fin 2) (h : Fin 4) (i : Fin 256) (e : Fin 64) :
    (outsAt0 m c t).2.2 (ix5 0 l h i e) = cacheAt m 512 (by decide) c ⟨t.val, lt32 t⟩ l h i e := by
  unfold outsAt0
  frame_out
  canon_tiles x hx using View.cover_of_tiledBy _ ![1, 1, 1, 256, 64] (by sl_kernel_rfl) _
  all_goals
    have h1 : l.val = _ := hx1
    have h2 : h.val = _ := hx2
    have h3 : i.val = _ := hx3
    have h4 : e.val = _ := hx4
    open_payloads; pointwise
  all_goals first
    | (refine (read0 m c t (x 3) _).trans ?_
       unfold cacheAt entryX
       rw [if_pos (by omega)]
       congr 1
       exact (ix2_inj ..).2 ⟨Fin.ext (by simp only; omega), Fin.ext (by simp only; omega)⟩)
    | (unfold cacheAt; rw [if_neg (by omega)])

/-- The first result array: the normed, scaled differential attention of every batch entry. -/
def attArr (c : Dev nD) : FVec Ideal S8192x256 .f32 := fun y =>
  Cert.Att.out Cert.Att.wLam Cert.Att.wRest (entryX m c ⟨(y 0).val / 256, Nat.div_lt_of_lt_mul (y 0).isLt⟩) (lamL m c) (normW m c)
    ⟨(y 1).val / 64, Nat.div_lt_of_lt_mul (y 1).isLt⟩ ⟨(y 0).val % 256, Nat.mod_lt _ (by decide)⟩ ⟨(y 1).val % 64, Nat.mod_lt _ (by decide)⟩
def cacheArr (off : Nat) (hoff : off ≤ 512) (c : Dev nD) : FVec Ideal S32x2x4x256x64 .f32 := fun y =>
  cacheAt m off hoff c (y 0) (y 1) (y 2) (y 3) (y 4)

theorem attArr_apply (c : Dev nD) (b : Fin 32) (i : Fin 256) (h : Fin 4) (e : Fin 64) :
    attArr m c (ix2 ⟨b.val * 256 + i.val, by omega⟩ ⟨h.val * 64 + e.val, by omega⟩) = Cert.Att.out Cert.Att.wLam Cert.Att.wRest (entryX m c b) (lamL m c) (normW m c) h i e := by
  have h1 : (⟨(b.val * 256 + i.val) / 256, by omega⟩ : Fin 32) = b := Fin.ext (by simp only; omega)
  have h2 : (⟨(h.val * 64 + e.val) / 64, by omega⟩ : Fin 4) = h := Fin.ext (by simp only; omega)
  have h3 : (⟨(b.val * 256 + i.val) % 256, by omega⟩ : Fin 256) = i := Fin.ext (by simp only; omega)
  have h4 : (⟨(h.val * 64 + e.val) % 64, by omega⟩ : Fin 64) = e := Fin.ext (by simp only; omega)
  show Cert.Att.out Cert.Att.wLam Cert.Att.wRest (entryX m c ⟨(b.val * 256 + i.val) / 256, _⟩) (lamL m c) (normW m c) ⟨(h.val * 64 + e.val) / 64, _⟩ ⟨(b.val * 256 + i.val) % 256, _⟩
    ⟨(h.val * 64 + e.val) % 64, _⟩ = _
  rw [h1, h2, h3, h4]

theorem final6 (c : Dev nD) (hr : Real m c) : (dats m 0 c).arrAt 6 (cfgs 0).N = attArr m c := by
  refine (dats m 0 c).arrAt_eq_of_covers 6 _ (by decide +kernel) fun t _ y => ?_
  blk_simp
  rw [after0_6]
  obtain ⟨i, k, rfl⟩ : ∃ (i k : Fin 256), y = ix2 i k := ⟨y 0, y 1, eq_ix2 y⟩
  obtain ⟨h, e, rfl⟩ := column k
  have e0 : (win0_6.blk t).view.emb (ix2 i (Cert.Att.hcol h e)) = ix2 ⟨t.val * 256 + i.val, by have := lt32 t; omega⟩ (Cert.Att.hcol h e) := by
    blk_ext [idx t]
  rw [e0]
  exact (left6 m c hr t h i e).trans (attArr_apply m c ⟨t.val, lt32 t⟩ i h e).symm

theorem final7 (c : Dev nD) : (dats m 0 c).arrAt 7 (cfgs 0).N = cacheArr m 256 (by decide) c := by
  refine (dats m 0 c).arrAt_eq_of_covers 7 _ (by decide +kernel) fun t _ y => ?_
  blk_simp
  rw [after0_7]
  obtain ⟨z, l, h, i, e, rfl⟩ : ∃ (z : Fin 1) (l : Fin 2) (h : Fin 4) (i : Fin 256) (e : Fin 64), y = ix5 z l h i e :=
    ⟨y 0, y 1, y 2, y 3, y 4, eq_ix5 y⟩
  have e0 : (win0_7.blk t).view.emb (ix5 z l h i e) = ix5 ⟨t.val, lt32 t⟩ l h i e := by
    blk_ext [idx t]
  rw [e0, show z = 0 from Subsingleton.elim _ _]
  exact left7 m c t l h i e

theorem final8 (c : Dev nD) : (dats m 0 c).arrAt 8 (cfgs 0).N = cacheArr m 512 (by decide) c := by
  refine (dats m 0 c).arrAt_eq_of_covers 8 _ (by decide +kernel) fun t _ y => ?_
  blk_simp
  rw [after0_8]
  obtain ⟨z, l, h, i, e, rfl⟩ : ∃ (z : Fin 1) (l : Fin 2) (h : Fin 4) (i : Fin 256) (e : Fin 64), y = ix5 z l h i e :=
    ⟨y 0, y 1, y 2, y 3, y 4, eq_ix5 y⟩
  have e0 : (win0_8.blk t).view.emb (ix5 z l h i e) = ix5 ⟨t.val, lt32 t⟩ l h i e := by
    blk_ext [idx t]
  rw [e0, show z = 0 from Subsingleton.elim _ _]
  exact left8 m c t l h i e

end Cert.KernelIdeal.Att

end
-- ==== Proof.Att.Ref.lean ====
/- The attention reference's results, read at an index. -/
module

public import proofs.«01_k».proof.Proof.Gen.ReferenceIdeal.Run
public import proofs.«01_k».proof.Proof.Att.Math
public import Idealize.ShloMosaic.Lib.Pointwise

@[expose] public section

set_option maxRecDepth 16384

noncomputable section

namespace Cert.ReferenceIdeal.Att

open Cert.ReferenceIdeal Cert.ReferenceIdeal.Gen Idealize.ShloMosaic Idealize.ShloMosaic.TcCoe Idealize.SL.Sem

section
variable (a0 : FVec Ideal S10240x3968 .f32) (a1 : FVec Ideal S4x32 .f32) (a2 : FVec Ideal S64 .f32)

abbrev qkv : FVec Ideal S32x256x768 .f32 :=
  shapeCast _ (extractStridedSlice S8192x768 ![0, 3072] a0 slices_S10240x3968_S8192x768_0_3072) shapeCasts_S8192x768_S32x256x768
def dq : FVec Ideal S32x4x256x64 .f32 := transpose S32x4x256x64 [0, 2, 1, 3] (shapeCast _ (extractStridedSlice S32x256x256 ![0, 0, 0] (qkv a0) slices_S32x256x768_S32x256x256_0_0_0) shapeCasts_S32x256x256_S32x256x4x64) transposes_S32x256x4x64_S32x4x256x64_0_2_1_3
def dk : FVec Ideal S32x4x256x64 .f32 := transpose S32x4x256x64 [0, 2, 1, 3] (shapeCast _ (extractStridedSlice S32x256x256 ![0, 0, 256] (qkv a0) slices_S32x256x768_S32x256x256_0_0_256) shapeCasts_S32x256x256_S32x256x4x64) transposes_S32x256x4x64_S32x4x256x64_0_2_1_3
def dv : FVec Ideal S32x4x256x64 .f32 := transpose S32x4x256x64 [0, 2, 1, 3] (shapeCast _ (extractStridedSlice S32x256x256 ![0, 0, 512] (qkv a0) slices_S32x256x768_S32x256x256_0_0_512) shapeCasts_S32x256x256_S32x256x4x64) transposes_S32x256x4x64_S32x4x256x64_0_2_1_3

def score1 (q k : FVec Ideal S32x4x256x64 .f32) : FVec Ideal S32x4x256x256 .f32 :=
  mulf (Host.dotGeneral dot_S32x4x256x32_S32x4x256x32_S32x4x256x256_3_3_2_2_01_01 none (extractStridedSlice S32x4x256x32 ![0, 0, 0, 0] q slices_S32x4x256x64_S32x4x256x32_0_0_0_0) (extractStridedSlice S32x4x256x32 ![0, 0, 0, 0] k slices_S32x4x256x64_S32x4x256x32_0_0_0_0)) (broadcastInDim S32x4x256x256 ![] bcast_S_S32x4x256x256 (constant S_ .f32 0x3E3504F3#32))
def score2 (q k : FVec Ideal S32x4x256x64 .f32) : FVec Ideal S32x4x256x256 .f32 :=
  mulf (Host.dotGeneral dot_S32x4x256x32_S32x4x256x32_S32x4x256x256_3_3_2_2_01_01 none (extractStridedSlice S32x4x256x32 ![0, 0, 0, 32] q slices_S32x4x256x64_S32x4x256x32_0_0_0_32) (extractStridedSlice S32x4x256x32 ![0, 0, 0, 32] k slices_S32x4x256x64_S32x4x256x32_0_0_0_32)) (broadcastInDim S32x4x256x256 ![] bcast_S_S32x4x256x256 (constant S_ .f32 0x3E3504F3#32))
def top (s : FVec Ideal S32x4x256x256 .f32) : FVec Ideal S32x4x256 .f32 :=
  Host.reduce FloatOps.maximumf s (constant S_ .f32 0xFF800000#32) reducesTo_S32x4x256x256_S32x4x256_d3 h_S_
def lift (t : FVec Ideal S32x4x256 .f32) : FVec Ideal S32x4x256 .f32 :=
  maximumf (broadcastInDim S32x4x256 ![] bcast_S_S32x4x256 (constant S_ .f32 0xFF800000#32)) t
def shifted (s : FVec Ideal S32x4x256x256 .f32) (t : FVec Ideal S32x4x256 .f32) : FVec Ideal S32x4x256x256 .f32 :=
  Host.exp (subf s (broadcastInDim S32x4x256x256 ![0, 1, 2, 3] bcast_S32x4x256x1_S32x4x256x256_0_1_2_3 (broadcastInDim S32x4x256x1 ![0, 1, 2] bcast_S32x4x256_S32x4x256x1_0_1_2 t)))
def expo (s : FVec Ideal S32x4x256x256 .f32) : FVec Ideal S32x4x256x256 .f32 := shifted s (lift (top s))
def prob (e : FVec Ideal S32x4x256x256 .f32) : FVec Ideal S32x4x256x256 .f32 :=
  Host.divf e (broadcastInDim S32x4x256x256 ![0, 1, 2, 3] bcast_S32x4x256x1_S32x4x256x256_0_1_2_3 (broadcastInDim S32x4x256x1 ![0, 1, 2] bcast_S32x4x256_S32x4x256x1_0_1_2 (Host.reduceAdd e (constant S_ .f32 0x00000000#32) reducesTo_S32x4x256x256_S32x4x256_d3 h_S_)))
def lam (z : BitVec 32) : FVec Ideal S_ .f32 :=
  addf (subf (Host.exp (Host.reduceAdd (mulf (shapeCast _ (extractStridedSlice S1x32 ![0, 0] a1 slices_S4x32_S1x32_0_0) shapeCasts_S1x32_S32) (shapeCast _ (extractStridedSlice S1x32 ![1, 0] a1 slices_S4x32_S1x32_1_0) shapeCasts_S1x32_S32)) (constant S_ .f32 0x00000000#32) reducesTo_S32_S_d0 h_S_)) (Host.exp (Host.reduceAdd (mulf (shapeCast _ (extractStridedSlice S1x32 ![2, 0] a1 slices_S4x32_S1x32_2_0) shapeCasts_S1x32_S32) (shapeCast _ (extractStridedSlice S1x32 ![3, 0] a1 slices_S4x32_S1x32_3_0) shapeCasts_S1x32_S32)) (constant S_ .f32 0x00000000#32) reducesTo_S32_S_d0 h_S_))) (constant S_ .f32 z)
def head (l : FVec Ideal S_ .f32) (p1 p2 : FVec Ideal S32x4x256x256 .f32) (v : FVec Ideal S32x4x256x64 .f32) : FVec Ideal S32x4x256x64 .f32 :=
  Host.dotGeneral dot_S32x4x256x256_S32x4x256x64_S32x4x256x64_3_2_2_3_01_01 none (subf p1 (mulf (broadcastInDim S32x4x256x256 ![] bcast_S_S32x4x256x256 l) p2)) v
def normed (s : BitVec 32) (o : FVec Ideal S32x4x256x64 .f32) : FVec Ideal S8192x256 .f32 :=
  mulf (shapeCast _ (transpose S32x256x4x64 [0, 2, 1, 3] (mulf (mulf o (broadcastInDim S32x4x256x64 ![0, 1, 2, 3] bcast_S32x4x256x1_S32x4x256x64_0_1_2_3 (Host.rsqrt (addf (Host.divf (broadcastInDim S32x4x256x1 ![0, 1, 2] bcast_S32x4x256_S32x4x256x1_0_1_2 (Host.reduceAdd (mulf o o) (constant S_ .f32 0x00000000#32) reducesTo_S32x4x256x64_S32x4x256_d3 h_S_)) (broadcastInDim S32x4x256x1 ![] bcast_S_S32x4x256x1 (constant S_ .f32 0x42800000#32))) (broadcastInDim S32x4x256x1 ![] bcast_S_S32x4x256x1 (constant S_ .f32 0x358637BD#32)))))) (broadcastInDim S32x4x256x64 ![0, 1, 2, 3] bcast_S1x1x1x64_S32x4x256x64_0_1_2_3 (broadcastInDim S1x1x1x64 ![3] bcast_S64_S1x1x1x64_3 a2))) transposes_S32x4x256x64_S32x256x4x64_0_2_1_3) shapeCasts_S32x256x4x64_S8192x256) (broadcastInDim S8192x256 ![] bcast_S_S8192x256 (constant S_ .f32 s))

theorem dq_apply (b : Fin 32) (h : Fin 4) (i : Fin 256) (e : Fin 64) :
    dq a0 (ix4 b h i e) = a0 (ix2 ⟨b.val * 256 + i.val, by omega⟩ ⟨3072 + (h.val * 64 + e.val), by omega⟩) := by
  pointwise [dq, qkv]
theorem dk_apply (b : Fin 32) (h : Fin 4) (i : Fin 256) (e : Fin 64) :
    dk a0 (ix4 b h i e) = a0 (ix2 ⟨b.val * 256 + i.val, by omega⟩ ⟨3072 + (256 + (h.val * 64 + e.val)), by omega⟩) := by
  pointwise [dk, qkv]
theorem dv_apply (b : Fin 32) (h : Fin 4) (i : Fin 256) (e : Fin 64) :
    dv a0 (ix4 b h i e) = a0 (ix2 ⟨b.val * 256 + i.val, by omega⟩ ⟨3072 + (512 + (h.val * 64 + e.val)), by omega⟩) := by
  pointwise [dv, qkv]
theorem score1_apply (q k : FVec Ideal S32x4x256x64 .f32) (b : Fin 32) (h : Fin 4) (i j : Fin 256) :
    score1 q k (ix4 b h i j) = (∑ d : Fin 32, q (ix4 b h i ⟨d.val, by omega⟩) * k (ix4 b h j ⟨d.val, by omega⟩)) * Cert.Att.wScale := by
  pointwise [score1]
theorem score2_apply (q k : FVec Ideal S32x4x256x64 .f32) (b : Fin 32) (h : Fin 4) (i j : Fin 256) :
    score2 q k (ix4 b h i j) = (∑ d : Fin 32, q (ix4 b h i ⟨32 + d.val, by omega⟩) * k (ix4 b h j ⟨32 + d.val, by omega⟩)) * Cert.Att.wScale := by
  pointwise [score2]
theorem top_apply (s : FVec Ideal S32x4x256x256 .f32) (b : Fin 32) (h : Fin 4) (i : Fin 256) :
    top s (ix3 b h i) = Finset.univ.fold max Cert.Att.wStart fun k : Fin 256 => s (ix4 b h i k) := by
  pointwise [top, Cert.Att.wStart]
theorem lift_apply (t : FVec Ideal S32x4x256 .f32) (j : S32x4x256.Idx) : lift t j = max Cert.Att.wStart (t j) := rfl
theorem shifted_apply (s : FVec Ideal S32x4x256x256 .f32) (t : FVec Ideal S32x4x256 .f32) (b : Fin 32) (h : Fin 4) (i j : Fin 256) :
    shifted s t (ix4 b h i j) = Ideal.exp (s (ix4 b h i j) - t (ix3 b h i)) := by
  pointwise [shifted]
theorem expo_apply (s : FVec Ideal S32x4x256x256 .f32) (b : Fin 32) (h : Fin 4) (i j : Fin 256) :
    expo s (ix4 b h i j) = Ideal.exp (s (ix4 b h i j) - Finset.univ.fold max Cert.Att.wStart fun k : Fin 256 => s (ix4 b h i k)) := by
  rw [expo, shifted_apply, lift_apply, top_apply]
  exact congrArg (fun y => Ideal.exp (s (ix4 b h i j) - y)) (Cert.Att.max_start _ _)
theorem prob_apply (e : FVec Ideal S32x4x256x256 .f32) (b : Fin 32) (h : Fin 4) (i j : Fin 256) :
    prob e (ix4 b h i j) = Ideal.div (e (ix4 b h i j)) (∑ k : Fin 256, e (ix4 b h i k)) := by
  pointwise [prob]
theorem lam_apply (z : BitVec 32) (o : S_.Idx) : lam a1 z o = Cert.Att.lam (Ideal.ofBits .f32 z) fun a d => a1 (ix2 a d) := by
  pointwise [lam, Cert.Att.lam]
theorem head_apply (l : FVec Ideal S_ .f32) (p1 p2 : FVec Ideal S32x4x256x256 .f32) (v : FVec Ideal S32x4x256x64 .f32) (b : Fin 32) (h : Fin 4) (i : Fin 256) (e : Fin 64) :
    head l p1 p2 v (ix4 b h i e) = ∑ j : Fin 256, (p1 (ix4 b h i j) - l ix0 * p2 (ix4 b h i j)) * v (ix4 b h j e) := by
  pointwise [head]
theorem normed_apply (s : BitVec 32) (o : FVec Ideal S32x4x256x64 .f32) (b : Fin 32) (h : Fin 4) (i : Fin 256) (e : Fin 64) :
    normed a2 s o (ix2 ⟨b.val * 256 + i.val, by omega⟩ ⟨h.val * 64 + e.val, by omega⟩)
      = o (ix4 b h i e) * Ideal.rsqrt (Ideal.div (∑ k : Fin 64, o (ix4 b h i k) * o (ix4 b h i k)) Cert.Att.w64 + Cert.Att.wEps) * a2 (ix1 e) * Ideal.ofBits .f32 s := by
  pointwise [normed]
end

section
variable (a0 : FVec Ideal S10240x3968 .f32) (a1 : FVec Ideal S4x32 .f32) (a2 : FVec Ideal S64 .f32)

/-- A batch entry's queries, keys and values; the map vectors; the norm's weights. -/
def entryX (b : Fin 32) (i : Fin 256) (a : Fin 768) : EReal := a0 (ix2 ⟨b.val * 256 + i.val, by omega⟩ ⟨3072 + a.val, by omega⟩)
def lamL (a : Fin 4) (d : Fin 32) : EReal := a1 (ix2 a d)
def normW (e : Fin 64) : EReal := a2 (ix1 e)

theorem score1_eq (b : Fin 32) (h : Fin 4) (i j : Fin 256) :
    score1 (dq a0) (dk a0) (ix4 b h i j) = Cert.Att.score (entryX a0 b) ⟨2 * h.val, by omega⟩ i j := by
  rw [score1_apply]
  unfold Cert.Att.score
  congr 1
  refine Finset.sum_congr rfl fun d _ => ?_
  rw [dq_apply, dk_apply]
  unfold entryX
  exact congrArg₂ (· * ·) (congrArg _ ((ix2_inj ..).2 ⟨rfl, Fin.ext (by simp only; omega)⟩)) (congrArg _ ((ix2_inj ..).2 ⟨rfl, Fin.ext (by simp only; omega)⟩))

theorem score2_eq (b : Fin 32) (h : Fin 4) (i j : Fin 256) :
    score2 (dq a0) (dk a0) (ix4 b h i j) = Cert.Att.score (entryX a0 b) ⟨2 * h.val + 1, by omega⟩ i j := by
  rw [score2_apply]
  unfold Cert.Att.score
  congr 1
  refine Finset.sum_congr rfl fun d _ => ?_
  rw [dq_apply, dk_apply]
  unfold entryX
  exact congrArg₂ (· * ·) (congrArg _ ((ix2_inj ..).2 ⟨rfl, Fin.ext (by simp only; omega)⟩)) (congrArg _ ((ix2_inj ..).2 ⟨rfl, Fin.ext (by simp only; omega)⟩))

theorem head_eq (z : BitVec 32) (b : Fin 32) (h : Fin 4) (i : Fin 256) (e : Fin 64) :
    head (lam a1 z) (prob (expo (score1 (dq a0) (dk a0)))) (prob (expo (score2 (dq a0) (dk a0)))) (dv a0) (ix4 b h i e)
      = Cert.Att.head (Ideal.ofBits .f32 z) (entryX a0 b) (lamL a1) h i e := by
  rw [head_apply]
  unfold Cert.Att.head
  refine Finset.sum_congr rfl fun j _ => ?_
  simp only [prob_apply, expo_apply, score1_eq, score2_eq, lam_apply, dv_apply]
  rfl

/-- The attention of the reference, at a layer's offset `z` and complement `s`. -/
def att (z s : BitVec 32) : FVec Ideal S8192x256 .f32 :=
  normed a2 s (head (lam a1 z) (prob (expo (score1 (dq a0) (dk a0)))) (prob (expo (score2 (dq a0) (dk a0)))) (dv a0))

theorem att_apply (z s : BitVec 32) (b : Fin 32) (i : Fin 256) (h : Fin 4) (e : Fin 64) :
    att a0 a1 a2 z s (ix2 ⟨b.val * 256 + i.val, by omega⟩ ⟨h.val * 64 + e.val, by omega⟩)
      = Cert.Att.out (Ideal.ofBits .f32 z) (Ideal.ofBits .f32 s) (entryX a0 b) (lamL a1) (normW a2) h i e := by
  rw [att, normed_apply, head_eq]
  simp only [head_eq]
  rw [Cert.Att.div64]
  rfl
end

def cache (d : FVec Ideal S32x4x256x64 .f32) : FVec Ideal S32x2x4x256x64 .f32 :=
  concatenate S32x2x4x256x64 1 [⟨S32x1x4x256x64, (broadcastInDim S32x1x4x256x64 ![0, 2, 3, 4] bcast_S32x4x256x64_S32x1x4x256x64_0_2_3_4 d)⟩, ⟨S32x1x4x256x64, (broadcastInDim S32x1x4x256x64 ![0, 2, 3, 4] bcast_S32x4x256x64_S32x1x4x256x64_0_2_3_4 (broadcastInDim S32x4x256x64 ![] bcast_S_S32x4x256x64 (constant S_ .f32 0x00000000#32)))⟩] concatenates_S32x1x4x256x64_S32x1x4x256x64_S32x2x4x256x64_d1

theorem cache_apply (d : FVec Ideal S32x4x256x64 .f32) (b : Fin 32) (l : Fin 2) (h : Fin 4) (i : Fin 256) (e : Fin 64) :
    cache d (ix5 b l h i e) = if l.val = 0 then d (ix4 b h i e) else 0 := by
  fin_cases l
  · pointwise [cache]
  · pointwise [cache]

section
variable (m : (ℓ : Loc nD τ sig) → Buf (Elt Ideal) ℓ) (c : Dev nD)

abbrev proj : FVec Ideal S10240x3968 .f32 := m ((c.tc : Thread nD τ).loc main_arg0)
abbrev lamv : FVec Ideal S4x32 .f32 := m ((c.tc : Thread nD τ).loc main_arg1)
abbrev nw : FVec Ideal S64 .f32 := m ((c.tc : Thread nD τ).loc main_arg2)

theorem res_eq : Value.res_main_v79 m c = att (proj m c) (lamv m c) (nw m c) 0x3E4CCCCD#32 0x3F4CCCCD#32 := rfl
end

end Cert.ReferenceIdeal.Att

end
-- ==== Proof.Att.Claim.lean ====
/- The attention call and its reference, over the extended reals: equal results where the queries, keys, values and map vectors are real. -/
module

public import proofs.«01_k».proof.Defs
public import proofs.«01_k».proof.Proof.Att.Final
public import proofs.«01_k».proof.Proof.Att.Ref
public import proofs.«01_k».proof.Proof.Gen.Pre_finite
public import Idealize.ShloMosaic.Lib.ReduceAll
public import Idealize.ShloMosaic.Adequacy
public import Idealize.ShloMosaic.Init

@[expose] public section

set_option maxRecDepth 16384

noncomputable section

namespace Cert.Proof.Att

open Idealize.ShloMosaic Idealize.ShloMosaic.TcCoe Idealize.SL.Sem

theorem ofBool_one {p : Prop} [Decidable p] (h : BitVec.ofBool (decide p) = 1#1) : p := by
  by_contra hp
  rw [decide_eq_false hp] at h
  exact absurd h (by decide)

theorem andi_one : ∀ {a b : BitVec 1}, IntOp.andi a b = 1#1 → a = 1#1 ∧ b = 1#1 := by decide

/-- An entry strictly between two bounds is real. -/
theorem real_of_between (x b t : EReal)
    (h : IntOp.andi (FloatOps.cmpf (F := Ideal) (φ := .f32) .olt x t) (FloatOps.cmpf (F := Ideal) (φ := .f32) .ogt x b) = 1#1) : Cert.Att.Fin' x := by
  obtain ⟨h1, h2⟩ := andi_one h
  have l1 : x < t := ofBool_one h1
  have l2 : b < x := ofBool_one h2
  exact ⟨x.toReal, (EReal.coe_toReal (ne_top_of_lt l1) (ne_bot_of_gt l2)).symm⟩

theorem pre_real (a0 : FVec Ideal Cert.Pre_finite.S10240x3968 .f32) (a1 : FVec Ideal Cert.Pre_finite.S4x32 .f32) (a2 : FVec Ideal Cert.Pre_finite.S64 .f32)
    (h : Cert.Pre_finite.fn (F := Ideal) a0 a1 a2 = fun _ => 1#1) :
    (∀ (i : Fin 8192) (a : Fin 768), Cert.Att.Fin' (a0 (ix2 ⟨i.val, by omega⟩ ⟨3072 + a.val, by omega⟩))) ∧ ∀ (a : Fin 4) (d : Fin 32), Cert.Att.Fin' (a1 (ix2 a d)) := by
  have h1 := andi_one (congrFun h ix0)
  haveI : Subsingleton Cert.Pre_finite.S_.Idx := ⟨fun a b => funext fun i => i.elim0⟩
  refine ⟨fun i a => ?_, fun a d => ?_⟩
  · have e := Host.reduce_andi_all _ _ _ _ _ h1.1 (ix2 i a)
    pointwise at e
    exact real_of_between _ _ _ e
  · exact real_of_between _ _ _ (Host.reduce_andi_all _ _ _ _ _ h1.2 (ix2 a d))

theorem real_of_pre (m : (ℓ : Loc Cert.KernelIdeal.nD Cert.KernelIdeal.τ Cert.KernelIdeal.sig) → Buf (Elt Ideal) ℓ) (h : Cert.Pre_KernelIdeal_finite m)
    (c : Dev Cert.KernelIdeal.nD) : Cert.KernelIdeal.Att.Real m c := by
  obtain ⟨h1, h2⟩ := pre_real _ _ _ (h c)
  exact ⟨fun b i a => h1 ⟨b.val * 256 + i.val, by omega⟩ a, h2⟩

theorem algebraic : Cert.algebraic_KernelIdeal_ReferenceIdeal_pre_finite := by
  intro m g m' g' hpre hag
  refine ⟨fun c => Cert.KernelIdeal.Att.attArr m c, fun c => Cert.KernelIdeal.Att.cacheArr m 256 (by decide) c,
    fun c => Cert.KernelIdeal.Att.cacheArr m 512 (by decide) c, ?_, ?_⟩
  · refine (θ_run _ _ _).mono (fun r h c => ?_) (Cert.KernelIdeal.Value.run_blocks m g)
    obtain ⟨h1, h2, h3, h4⟩ := h c
    exact ⟨h1.trans (Cert.KernelIdeal.Att.final6 m c (real_of_pre m hpre c)), h2.trans (Cert.KernelIdeal.Att.final7 m c),
      h3.trans (Cert.KernelIdeal.Att.final8 m c), h4⟩
  · refine (θ_run _ _ _).mono (fun r h c => ?_) (Cert.ReferenceIdeal.Value.run m' g')
    obtain ⟨h1, h2, h3, h4⟩ := h c
    have eX : Cert.ReferenceIdeal.Att.entryX (Cert.ReferenceIdeal.Att.proj m' c) = Cert.KernelIdeal.Att.entryX m c := by
      funext b i a; exact congrFun (hag c).1 _
    have eL : Cert.ReferenceIdeal.Att.lamL (Cert.ReferenceIdeal.Att.lamv m' c) = Cert.KernelIdeal.Att.lamL m c := by
      funext a d; exact congrFun (hag c).2.1 _
    have eW : Cert.ReferenceIdeal.Att.normW (Cert.ReferenceIdeal.Att.nw m' c) = Cert.KernelIdeal.Att.normW m c := by
      funext e; exact congrFun (hag c).2.2 _
    refine ⟨h1.trans ?_, h2.trans ?_, h3.trans ?_, h4⟩
    · funext y
      obtain ⟨b, i, h, e, rfl⟩ : ∃ (b : Fin 32) (i : Fin 256) (h : Fin 4) (e : Fin 64),
          y = ix2 (⟨b.val * 256 + i.val, by omega⟩ : Fin 8192) (⟨h.val * 64 + e.val, by omega⟩ : Fin 256) := by
        have h0 : (y 0).val < 8192 := (y 0).isLt
        have h1 : (y 1).val < 256 := (y 1).isLt
        refine ⟨⟨(y 0).val / 256, by omega⟩, ⟨(y 0).val % 256, by omega⟩, ⟨(y 1).val / 64, by omega⟩, ⟨(y 1).val % 64, by omega⟩, (eq_ix2 y).trans ?_⟩
        exact (ix2_inj ..).2 ⟨Fin.ext (by simp only; omega), Fin.ext (by simp only; omega)⟩
      rw [Cert.ReferenceIdeal.Att.res_eq]
      refine (Cert.ReferenceIdeal.Att.att_apply _ _ _ _ _ b i h e).trans ?_
      rw [eX, eL, eW]
      exact (Cert.KernelIdeal.Att.attArr_apply m c b i h e).symm
    · funext y
      obtain ⟨b, l, h, i, e, rfl⟩ : ∃ (b : Fin 32) (l : Fin 2) (h : Fin 4) (i : Fin 256) (e : Fin 64), y = ix5 b l h i e :=
        ⟨y 0, y 1, y 2, y 3, y 4, eq_ix5 y⟩
      refine (Cert.ReferenceIdeal.Att.cache_apply (Cert.ReferenceIdeal.Att.dk (Cert.ReferenceIdeal.Att.proj m' c)) b l h i e).trans ?_
      rw [Cert.ReferenceIdeal.Att.dk_apply]
      show _ = Cert.KernelIdeal.Att.cacheAt m 256 _ c b l h i e
      unfold Cert.KernelIdeal.Att.cacheAt
      rw [← eX]
      rfl
    · funext y
      obtain ⟨b, l, h, i, e, rfl⟩ : ∃ (b : Fin 32) (l : Fin 2) (h : Fin 4) (i : Fin 256) (e : Fin 64), y = ix5 b l h i e :=
        ⟨y 0, y 1, y 2, y 3, y 4, eq_ix5 y⟩
      refine (Cert.ReferenceIdeal.Att.cache_apply (Cert.ReferenceIdeal.Att.dv (Cert.ReferenceIdeal.Att.proj m' c)) b l h i e).trans ?_
      rw [Cert.ReferenceIdeal.Att.dv_apply]
      show _ = Cert.KernelIdeal.Att.cacheAt m 512 _ c b l h i e
      unfold Cert.KernelIdeal.Att.cacheAt
      rw [← eX]
      rfl

end Cert.Proof.Att

end
-- ==== Proof.Att1.Block.lean ====
/- What one grid point of the second layer's attention call computes: the first layer's terms at its own offset and complement. -/
module

public import proofs.«01_k».proof.Proof.Att.Whole
public import proofs.«01_k».proof.Proof.Gen.Kernel5Ideal.Skeleton

@[expose] public section

set_option maxRecDepth 16384

noncomputable section

namespace Cert.Kernel5Ideal.Att

open Cert.Kernel5Ideal Cert.Kernel5Ideal.Gen Idealize.ShloMosaic Idealize.ShloMosaic.TcCoe
open Cert.KernelIdeal.Att (masked stack scores probs diffs comb normed values)

theorem lam_eq (L : Fin 4 → Fin 32 → EReal) (x1 : FVec Ideal S4x32 .f32) (hL : ∀ (a : Fin 4) (d : Fin 32), x1 (ix2 a d) = L a d) :
    k0_pay2 (F := Ideal) x1 (ix2 0 0) = Cert.Att.lam Cert.Att.wLam1 L := by
  have e : k0_pay2 (F := Ideal) x1 (ix2 0 0) = Ideal.exp (∑ d : Fin 32, x1 (ix2 0 d) * x1 (ix2 1 d)) - Ideal.exp (∑ d : Fin 32, x1 (ix2 2 d) * x1 (ix2 3 d)) + Ideal.ofBits .f32 0x3EB60549#32 := by
    pointwise [k0_pay2]
  rw [e]; simp only [hL]; rfl

/-- The heads put side by side are the first layer's, at this layer's weight of the second map. -/
theorem pay17_eq (q k v : FVec Ideal S256x256 .f32) (l : FVec Ideal S1x1 .f32) (g : Fin 8 → FVec Ideal S1x256 .f32) (p : Fin 4 → FVec Ideal S1x256 .f32) :
    k0_pay17 (F := Ideal) l (k0_pay4 (F := Ideal) v) (k0_pay15 (F := Ideal) q (k0_pay3 (F := Ideal) k) (g 0) (g 1) (g 2) (g 3) (g 4) (g 5) (g 6) (g 7))
        (k0_pay16 (F := Ideal) q (k0_pay3 (F := Ideal) k) (g 0) (g 1) (g 2) (g 3) (g 4) (g 5) (g 6) (g 7)) (p 0) (p 1) (p 2) (p 3)
      = comb (values q k v l g) (p 0) (p 1) (p 2) (p 3) := rfl

theorem pay1_eq (o : FVec Ideal S256x256 .f32) (b : FVec Ideal S256x256 .bf16) (w : FVec Ideal S1x256 .f32) :
    k0_pay1 (F := Ideal) o (mulf o o) b w = normed 0x3F24FD5C#32 o b w := rfl

/-- The stored payload at its loads, the masks given one by one. -/
theorem block_pay (q k v : FVec Ideal S256x256 .f32) (x1 : FVec Ideal S4x32 .f32) (g0 g1 g2 g3 g4 g5 g6 g7 : FVec Ideal S1x256 .f32)
    (p0 p1 p2 p3 : FVec Ideal S1x256 .f32) (b : FVec Ideal S256x256 .bf16) (w : FVec Ideal S1x256 .f32)
    (X : Fin 256 → Fin 768 → EReal) (L : Fin 4 → Fin 32 → EReal) (W : Fin 64 → EReal)
    (hX : ∀ i c, Cert.Att.Fin' (X i c)) (hLr : ∀ a d, Cert.Att.Fin' (L a d))
    (hq : ∀ i c : Fin 256, q (ix2 i c) = X i (Cert.Att.qcol c)) (hk : ∀ i c : Fin 256, k (ix2 i c) = X i (Cert.Att.kcol c))
    (hv : ∀ i c : Fin 256, v (ix2 i c) = X i (Cert.Att.vcol c)) (hL : ∀ (a : Fin 4) (d : Fin 32), x1 (ix2 a d) = L a d)
    (hg0 : ∀ c : Fin 256, g0 (ix2 0 c) = if c.val / 32 = 0 then 1 else 0)
    (hg1 : ∀ c : Fin 256, g1 (ix2 0 c) = if c.val / 32 = 1 then 1 else 0)
    (hg2 : ∀ c : Fin 256, g2 (ix2 0 c) = if c.val / 32 = 2 then 1 else 0)
    (hg3 : ∀ c : Fin 256, g3 (ix2 0 c) = if c.val / 32 = 3 then 1 else 0)
    (hg4 : ∀ c : Fin 256, g4 (ix2 0 c) = if c.val / 32 = 4 then 1 else 0)
    (hg5 : ∀ c : Fin 256, g5 (ix2 0 c) = if c.val / 32 = 5 then 1 else 0)
    (hg6 : ∀ c : Fin 256, g6 (ix2 0 c) = if c.val / 32 = 6 then 1 else 0)
    (hg7 : ∀ c : Fin 256, g7 (ix2 0 c) = if c.val / 32 = 7 then 1 else 0)
    (hp0 : ∀ c : Fin 256, p0 (ix2 0 c) = if c.val / 64 = 0 then 1 else 0)
    (hp1 : ∀ c : Fin 256, p1 (ix2 0 c) = if c.val / 64 = 1 then 1 else 0)
    (hp2 : ∀ c : Fin 256, p2 (ix2 0 c) = if c.val / 64 = 2 then 1 else 0)
    (hp3 : ∀ c : Fin 256, p3 (ix2 0 c) = if c.val / 64 = 3 then 1 else 0)
    (hb : ∀ a c : Fin 256, b (ix2 a c) = if a.val / 64 = c.val / 64 then 1 else 0)
    (hw : ∀ (h : Fin 4) (e : Fin 64), w (ix2 0 (Cert.Att.hcol h e)) = W e) (h : Fin 4) (i : Fin 256) (e : Fin 64) :
    k0_pay1 (F := Ideal) (k0_pay17 (k0_pay2 (F := Ideal) x1) (k0_pay4 (F := Ideal) v) (k0_pay15 (F := Ideal) q (k0_pay3 (F := Ideal) k) g0 g1 g2 g3 g4 g5 g6 g7) (k0_pay16 (F := Ideal) q (k0_pay3 (F := Ideal) k) g0 g1 g2 g3 g4 g5 g6 g7) p0 p1 p2 p3)
      (k0_pay18 (k0_pay2 (F := Ideal) x1) (k0_pay4 (F := Ideal) v) (k0_pay15 (F := Ideal) q (k0_pay3 (F := Ideal) k) g0 g1 g2 g3 g4 g5 g6 g7) (k0_pay16 (F := Ideal) q (k0_pay3 (F := Ideal) k) g0 g1 g2 g3 g4 g5 g6 g7) p0 p1 p2 p3) b w (ix2 i (Cert.Att.hcol h e))
      = Cert.Att.out Cert.Att.wLam1 Cert.Att.wRest1 X L W h i e :=
  Cert.KernelIdeal.Att.block_named q k v (k0_pay2 (F := Ideal) x1) Cert.Att.wLam1 0x3F24FD5C#32 ![g0, g1, g2, g3, g4, g5, g6, g7] ![p0, p1, p2, p3] b w X L W hq hk hv (lam_eq L x1 hL)
    (fun r c => by fin_cases r; exacts [hg0 c, hg1 c, hg2 c, hg3 c, hg4 c, hg5 c, hg6 c, hg7 c])
    (fun r c => by fin_cases r; exacts [hp0 c, hp1 c, hp2 c, hp3 c]) hb hw (Cert.Att.fin_word _ (by decide)) hX hLr h i e

end Cert.Kernel5Ideal.Att

end
-- ==== Proof.Att1.Lit.lean ====
/- The second layer's attention call is given the same three constant arrays as the first layer's. -/
module

public import proofs.«01_k».proof.Kernel5Ideal
public import proofs.«01_k».proof.Proof.Att.Lit

@[expose] public section

set_option maxRecDepth 16384

noncomputable section

namespace Cert.Kernel5Ideal.Lit

open Cert.Kernel5Ideal Idealize.ShloMosaic

theorem mask_maps (r : Fin 8) (c : Fin 256) :
    (FloatOps.ofBits (F := Ideal) .f32 (lit0 (S8x256.rowMajor (ix2 r c))) : EReal) = if c.val / 32 = r.val then 1 else 0 :=
  Cert.KernelIdeal.Lit.mask_maps r c

theorem mask_heads (h : Fin 4) (c : Fin 256) :
    (FloatOps.ofBits (F := Ideal) .f32 (lit1 (S4x256.rowMajor (ix2 h c))) : EReal) = if c.val / 64 = h.val then 1 else 0 :=
  Cert.KernelIdeal.Lit.mask_heads h c

theorem mask_pairs (a c : Fin 256) :
    (FloatOps.ofBits (F := Ideal) .bf16 (lit2 (S256x256.rowMajor (ix2 a c))) : EReal) = if a.val / 64 = c.val / 64 then 1 else 0 :=
  Cert.KernelIdeal.Lit.mask_pairs a c

end Cert.Kernel5Ideal.Lit

end
-- ==== Proof.Att1.Final.lean ====
/- The second layer's attention call's result arrays: each grid point writes its batch entry's blocks; the caches keep the first layer's slice. -/
module

public import proofs.«01_k».proof.Proof.Att1.Block
public import proofs.«01_k».proof.Proof.Att1.Lit
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.Kernel5Ideal.Att

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val, 4] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 1, 0, 0, 0] ∧ win0_8.index t = ![t.val, 1, 0, 0, 0] :=
  (by decide +kernel : ∀ t : Fin grid0.N, _)

abbrev proj (c : Dev nD) : FVec Ideal S10240x3968 .f32 := m ((c.tc : Thread nD τ).loc main_arg0)
abbrev lamv (c : Dev nD) : FVec Ideal S4x32 .f32 := m ((c.tc : Thread nD τ).loc main_arg1)
abbrev nw (c : Dev nD) : FVec Ideal S64 .f32 := m ((c.tc : Thread nD τ).loc main_arg2)

theorem lt32 (t : Fin cfg0.N) : t.val < 32 := lt_of_lt_of_eq t.isLt N_0

theorem read0 (c : Dev nD) (t : Fin cfg0.N) (i : Fin 256) (a : Fin 768) :
    X0_0 m c t (ix2 i a) = proj m c (ix2 ⟨t.val * 256 + i.val, by have := lt32 t; omega⟩ ⟨3072 + a.val, by omega⟩) := by
  unfold X0_0 Pipeline.Window.fill
  rw [dif_pos (moved0_0 t _)]
  blk_ext [iblk, V, idx t]

theorem read1 (c : Dev nD) (t : Fin cfg0.N) (a : Fin 4) (d : Fin 32) : iblk m c 1 t (ix2 a d) = lamv m c (ix2 a d) := by
  blk_ext [iblk, V, idx t]

theorem spread (w : FVec Ideal S64 .f32) (h : Fin 4) (e : Fin 64) :
    broadcastInDim S1x256 ![1] bcast_S256_S1x256_1 (shapeCast S256 (broadcastInDim S4x64 ![0, 1] bcast_S1x64_S4x64_0_1 (shapeCast S1x64 w shapeCasts_S64_S1x64)) shapeCasts_S4x64_S256)
      (ix2 0 ⟨h.val * 64 + e.val, by omega⟩) = w (ix1 e) := by
  pointwise

theorem read2 (c : Dev nD) (t : Fin cfg0.N) (h : Fin 4) (e : Fin 64) : iblk m c 2 t (ix2 0 ⟨h.val * 64 + e.val, by omega⟩) = nw m c (ix1 e) := by
  have e0 : iblk m c 2 t (ix2 0 ⟨h.val * 64 + e.val, by omega⟩) = V m c main_v3 (ix2 0 ⟨h.val * 64 + e.val, by omega⟩) := by
    blk_ext [iblk, idx t]
  rw [e0]
  entry_read
  exact spread (nw m c) h e

theorem read3 (c : Dev nD) (t : Fin cfg0.N) (r : Fin 8) (a : Fin 256) : iblk m c 3 t (ix2 r a) = if a.val / 32 = r.val then (1 : EReal) else 0 := by
  have e0 : iblk m c 3 t (ix2 r a) = V m c main_cst (ix2 r a) := by blk_ext [iblk, idx t]
  rw [e0]
  entry_read
  exact Lit.mask_maps r a

theorem read4 (c : Dev nD) (t : Fin cfg0.N) (h : Fin 4) (a : Fin 256) : iblk m c 4 t (ix2 h a) = if a.val / 64 = h.val then (1 : EReal) else 0 := by
  have e0 : iblk m c 4 t (ix2 h a) = V m c main_cst_0 (ix2 h a) := by blk_ext [iblk, idx t]
  rw [e0]
  entry_read
  exact Lit.mask_heads h a

theorem read5 (c : Dev nD) (t : Fin cfg0.N) (a b : Fin 256) : iblk m c 5 t (ix2 a b) = if a.val / 64 = b.val / 64 then (1 : EReal) else 0 := by
  have e0 : iblk m c 5 t (ix2 a b) = V m c main_cst_1 (ix2 a b) := by blk_ext [iblk, idx t]
  rw [e0]
  entry_read
  exact Lit.mask_pairs a b

/-- The batch entry of point `t`: its 256 positions' queries, keys and values. -/
def entryX (c : Dev nD) (b : Fin 32) (i : Fin 256) (a : Fin 768) : EReal := proj m c (ix2 ⟨b.val * 256 + i.val, by omega⟩ ⟨3072 + a.val, by omega⟩)
def lamL (c : Dev nD) (a : Fin 4) (d : Fin 32) : EReal := lamv m c (ix2 a d)
def normW (c : Dev nD) (e : Fin 64) : EReal := nw m c (ix1 e)

/-- The precondition, as it is used: the queries, keys, values and map vectors are real. -/
def Real (c : Dev nD) : Prop := (∀ b i a, Cert.Att.Fin' (entryX m c b i a)) ∧ ∀ a d, Cert.Att.Fin' (lamL m c a d)

theorem left6 (c : Dev nD) (hr : Real m c) (t : Fin cfg0.N) (h : Fin 4) (i : Fin 256) (e : Fin 64) :
    (outsAt0 m c t).1 (ix2 i ⟨h.val * 64 + e.val, by omega⟩) = Cert.Att.out Cert.Att.wLam1 Cert.Att.wRest1 (entryX m c ⟨t.val, lt32 t⟩) (lamL m c) (normW m c) h i e := by
  unfold outsAt0
  frame_out
  refine block_pay _ _ _ _ _ _ _ _ _ _ _ _ _ _ _ _ _ _ _ _ _ (fun i c => hr.1 _ i c) hr.2 ?_ ?_ ?_ (read1 m c t) ?_ ?_ ?_ ?_ ?_ ?_ ?_ ?_ ?_ ?_ ?_ ?_ (read5 m c t) (fun h e => read2 m c t h e) h i e
  · intro i a; pointwise; exact read0 m c t i _
  · intro i a; pointwise; exact read0 m c t i _
  · intro i a; pointwise; exact read0 m c t i _
  · intro a; pointwise; exact read3 m c t 0 a
  · intro a; pointwise; exact read3 m c t 1 a
  · intro a; pointwise; exact read3 m c t 2 a
  · intro a; pointwise; exact read3 m c t 3 a
  · intro a; pointwise; exact read3 m c t 4 a
  · intro a; pointwise; exact read3 m c t 5 a
  · intro a; pointwise; exact read3 m c t 6 a
  · intro a; pointwise; exact read3 m c t 7 a
  · intro a; pointwise; exact read4 m c t 0 a
  · intro a; pointwise; exact read4 m c t 1 a
  · intro a; pointwise; exact read4 m c t 2 a
  · intro a; pointwise; exact read4 m c t 3 a

/-- The new keys (or values): head `h`'s columns of the second layer's slice. -/
def newAt (off : Nat) (hoff : off ≤ 512) (c : Dev nD) (b : Fin 32) (h : Fin 4) (i : Fin 256) (e : Fin 64) : EReal :=
  entryX m c b i ⟨off + (h.val * 64 + e.val), by omega⟩

theorem left7 (c : Dev nD) (t : Fin cfg0.N) (h : Fin 4) (i : Fin 256) (e : Fin 64) :
    (outsAt0 m c t).2.1 (ix5 0 0 h i e) = newAt m 256 (by decide) c ⟨t.val, lt32 t⟩ h i e := by
  unfold outsAt0
  frame_out
  canon_tiles x hx using View.cover_of_tiledBy _ ![1, 1, 1, 256, 64] (by sl_kernel_rfl) _
  all_goals
    have h2 : h.val = _ := hx2
    have h3 : i.val = _ := hx3
    have h4 : e.val = _ := hx4
    open_payloads; pointwise
  all_goals
    refine (read0 m c t (x 3) _).trans ?_
    unfold newAt entryX
    congr 1
    exact (ix2_inj ..).2 ⟨Fin.ext (by simp only; omega), Fin.ext (by simp only; omega)⟩

theorem left8 (c : Dev nD) (t : Fin cfg0.N) (h : Fin 4) (i : Fin 256) (e : Fin 64) :
    (outsAt0 m c t).2.2 (ix5 0 0 h i e) = newAt m 512 (by decide) c ⟨t.val, lt32 t⟩ h i e := by
  unfold outsAt0
  frame_out
  canon_tiles x hx using View.cover_of_tiledBy _ ![1, 1, 1, 256, 64] (by sl_kernel_rfl) _
  all_goals
    have h2 : h.val = _ := hx2
    have h3 : i.val = _ := hx3
    have h4 : e.val = _ := hx4
    open_payloads; pointwise
  all_goals
    refine (read0 m c t (x 3) _).trans ?_
    unfold newAt entryX
    congr 1
    exact (ix2_inj ..).2 ⟨Fin.ext (by simp only; omega), Fin.ext (by simp only; omega)⟩

/-- The first result array: the normed, scaled differential attention of every batch entry. -/
def attArr (c : Dev nD) : FVec Ideal S8192x256 .f32 := fun y =>
  Cert.Att.out Cert.Att.wLam1 Cert.Att.wRest1 (entryX m c ⟨(y 0).val / 256, Nat.div_lt_of_lt_mul (y 0).isLt⟩) (lamL m c) (normW m c)
    ⟨(y 1).val / 64, Nat.div_lt_of_lt_mul (y 1).isLt⟩ ⟨(y 0).val % 256, Nat.mod_lt _ (by decide)⟩ ⟨(y 1).val % 64, Nat.mod_lt _ (by decide)⟩
/-- A cache after the call: the second layer's slice is the new one, the first layer's is as it was. -/
def cacheArr (off : Nat) (hoff : off ≤ 512) (c : Dev nD) (prev : FVec Ideal S32x2x4x256x64 .f32) : FVec Ideal S32x2x4x256x64 .f32 := fun y =>
  if (y 1).val / 1 = 1 then newAt m off hoff c (y 0) (y 2) (y 3) (y 4) else prev y

theorem attArr_apply (c : Dev nD) (b : Fin 32) (i : Fin 256) (h : Fin 4) (e : Fin 64) :
    attArr m c (ix2 ⟨b.val * 256 + i.val, by omega⟩ ⟨h.val * 64 + e.val, by omega⟩) = Cert.Att.out Cert.Att.wLam1 Cert.Att.wRest1 (entryX m c b) (lamL m c) (normW m c) h i e := by
  have h1 : (⟨(b.val * 256 + i.val) / 256, by omega⟩ : Fin 32) = b := Fin.ext (by simp only; omega)
  have h2 : (⟨(h.val * 64 + e.val) / 64, by omega⟩ : Fin 4) = h := Fin.ext (by simp only; omega)
  have h3 : (⟨(b.val * 256 + i.val) % 256, by omega⟩ : Fin 256) = i := Fin.ext (by simp only; omega)
  have h4 : (⟨(h.val * 64 + e.val) % 64, by omega⟩ : Fin 64) = e := Fin.ext (by simp only; omega)
  show Cert.Att.out Cert.Att.wLam1 Cert.Att.wRest1 (entryX m c ⟨(b.val * 256 + i.val) / 256, _⟩) (lamL m c) (normW m c) ⟨(h.val * 64 + e.val) / 64, _⟩ ⟨(b.val * 256 + i.val) % 256, _⟩
    ⟨(h.val * 64 + e.val) % 64, _⟩ = _
  rw [h1, h2, h3, h4]

theorem final6 (c : Dev nD) (hr : Real m c) : (dats m 0 c).arrAt 6 (cfgs 0).N = attArr m c := by
  refine (dats m 0 c).arrAt_eq_of_covers 6 _ (by decide +kernel) fun t _ y => ?_
  blk_simp
  rw [after0_6]
  obtain ⟨i, k, rfl⟩ : ∃ (i k : Fin 256), y = ix2 i k := ⟨y 0, y 1, eq_ix2 y⟩
  obtain ⟨h, e, rfl⟩   := Cert.KernelIdeal.Att.column k
  have e0 : (win0_6.blk t).view.emb (ix2 i (Cert.Att.hcol h e)) = ix2 ⟨t.val * 256 + i.val, by have := lt32 t; omega⟩ (Cert.Att.hcol h e) := by
    blk_ext [idx t]
  rw [e0]
  exact (left6 m c hr t h i e).trans (attArr_apply m c ⟨t.val, lt32 t⟩ i h e).symm

theorem final7 (c : Dev nD) : (dats m 0 c).arrAt 7 (cfgs 0).N = cacheArr m 256 (by decide) c (m ((c.tc : Thread nD τ).loc main_arg3)) := by
  have key := (dats m 0 c).arrAt_eq_of_coversWhere 7 (fun y : S32x2x4x256x64.Idx => newAt m 256 (by decide) c (y 0) (y 2) (y 3) (y 4)) (fun β => β (1 : Fin 5) = 1) (by decide +kernel)
    (P := fun y : S32x2x4x256x64.Idx => (y 1).val / 1 = 1) (fun t _ y => ?_) (fun j => Iff.rfl)
  · refine key.trans ?_
    have hV : (dats m 0 c).A 7 = m ((c.tc : Thread nD τ).loc main_arg3) := by
      rw [A_eq]
      entry_read
      rfl
    rw [hV]
    rfl
  · blk_simp
    rw [after0_7]
    obtain ⟨z, z', h, i, e, rfl⟩ : ∃ (z z' : Fin 1) (h : Fin 4) (i : Fin 256) (e : Fin 64), y = ix5 z z' h i e :=
      ⟨y 0, y 1, y 2, y 3, y 4, eq_ix5 y⟩
    have e0 : (win0_7.blk t).view.emb (ix5 z z' h i e) = ix5 ⟨t.val, lt32 t⟩ 1 h i e := by
      blk_ext [idx t]
    rw [e0, show z = 0 from Subsingleton.elim _ _, show z' = 0 from Subsingleton.elim _ _]
    exact left7 m c t h i e

theorem final8 (c : Dev nD) : (dats m 0 c).arrAt 8 (cfgs 0).N = cacheArr m 512 (by decide) c (m ((c.tc : Thread nD τ).loc main_arg4)) := by
  have key := (dats m 0 c).arrAt_eq_of_coversWhere 8 (fun y : S32x2x4x256x64.Idx => newAt m 512 (by decide) c (y 0) (y 2) (y 3) (y 4)) (fun β => β (1 : Fin 5) = 1) (by decide +kernel)
    (P := fun y : S32x2x4x256x64.Idx => (y 1).val / 1 = 1) (fun t _ y => ?_) (fun j => Iff.rfl)
  · refine key.trans ?_
    have hV : (dats m 0 c).A 8 = m ((c.tc : Thread nD τ).loc main_arg4) := by
      rw [A_eq]
      entry_read
      rfl
    rw [hV]
    rfl
  · blk_simp
    rw [after0_8]
    obtain ⟨z, z', h, i, e, rfl⟩ : ∃ (z z' : Fin 1) (h : Fin 4) (i : Fin 256) (e : Fin 64), y = ix5 z z' h i e :=
      ⟨y 0, y 1, y 2, y 3, y 4, eq_ix5 y⟩
    have e0 : (win0_8.blk t).view.emb (ix5 z z' h i e) = ix5 ⟨t.val, lt32 t⟩ 1 h i e := by
      blk_ext [idx t]
    rw [e0, show z = 0 from Subsingleton.elim _ _, show z' = 0 from Subsingleton.elim _ _]
    exact left8 m c t h i e

end Cert.Kernel5Ideal.Att

end
-- ==== Proof.Att1.Ref.lean ====
/- The second layer's attention reference: the same attention at the layer's offset, and caches that keep the first layer's slice. -/
module

public import proofs.«01_k».proof.Proof.Gen.Reference5Ideal.Run
public import proofs.«01_k».proof.Proof.Att.Ref

@[expose] public section

set_option maxRecDepth 16384

noncomputable section

namespace Cert.Reference5Ideal.Att

open Cert.Reference5Ideal Cert.Reference5Ideal.Gen Idealize.ShloMosaic Idealize.ShloMosaic.TcCoe Idealize.SL.Sem

/-- A cache whose first slice is the one of `p` and whose second is `d`. -/
def cache (p : FVec Ideal S32x2x4x256x64 .f32) (d : FVec Ideal S32x4x256x64 .f32) : FVec Ideal S32x2x4x256x64 .f32 :=
  concatenate S32x2x4x256x64 1 [⟨S32x1x4x256x64, (broadcastInDim S32x1x4x256x64 ![0, 2, 3, 4] bcast_S32x4x256x64_S32x1x4x256x64_0_2_3_4 (shapeCast _ (extractStridedSlice S32x1x4x256x64 ![0, 0, 0, 0, 0] p slices_S32x2x4x256x64_S32x1x4x256x64_0_0_0_0_0) shapeCasts_S32x1x4x256x64_S32x4x256x64))⟩, ⟨S32x1x4x256x64, (broadcastInDim S32x1x4x256x64 ![0, 2, 3, 4] bcast_S32x4x256x64_S32x1x4x256x64_0_2_3_4 d)⟩] concatenates_S32x1x4x256x64_S32x1x4x256x64_S32x2x4x256x64_d1

theorem cache_apply (p : FVec Ideal S32x2x4x256x64 .f32) (d : FVec Ideal S32x4x256x64 .f32) (b : Fin 32) (l : Fin 2) (h : Fin 4) (i : Fin 256) (e : Fin 64) :
    cache p d (ix5 b l h i e) = if l.val = 1 then d (ix4 b h i e) else p (ix5 b l h i e) := by
  fin_cases l
  · pointwise [cache]
  · pointwise [cache]

variable (m : (ℓ : Loc nD τ sig) → Buf (Elt Ideal) ℓ) (c : Dev nD)

abbrev proj : FVec Ideal S10240x3968 .f32 := m ((c.tc : Thread nD τ).loc main_arg0)
abbrev lamv : FVec Ideal S4x32 .f32 := m ((c.tc : Thread nD τ).loc main_arg1)
abbrev nw : FVec Ideal S64 .f32 := m ((c.tc : Thread nD τ).loc main_arg2)
abbrev prevK : FVec Ideal S32x2x4x256x64 .f32 := m ((c.tc : Thread nD τ).loc main_arg3)
abbrev prevV : FVec Ideal S32x2x4x256x64 .f32 := m ((c.tc : Thread nD τ).loc main_arg4)

theorem res_eq : Value.res_main_v79 m c = Cert.ReferenceIdeal.Att.att (proj m c) (lamv m c) (nw m c) 0x3EB60549#32 0x3F24FD5C#32 := rfl

end Cert.Reference5Ideal.Att

end
-- ==== Proof.Att1.Claim.lean ====
/- The second layer's attention call and its reference, over the extended reals. -/
module

public import proofs.«01_k».proof.Defs
public import proofs.«01_k».proof.Proof.Att1.Final
public import proofs.«01_k».proof.Proof.Att1.Ref
public import proofs.«01_k».proof.Proof.Att.Claim
public import proofs.«01_k».proof.Proof.Gen.Kernel5.Frame
public import proofs.«01_k».proof.Proof.Gen.Pre_finite5

@[expose] public section

set_option maxRecDepth 16384

noncomputable section

namespace Cert.Proof.Att1

open Idealize.ShloMosaic Idealize.ShloMosaic.TcCoe Idealize.SL.Sem

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_ideal_pre : Cert.quiescent_Kernel5Ideal_pre_finite5 := fun m ρ _ => Cert.Kernel5Ideal.Gen.frame m ρ
theorem frame_ref : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)
theorem frame_ref_pre : Cert.quiescent_Reference5Ideal_pre_finite5 := fun m ρ _ => frame_ref m ρ trivial

theorem real_of_pre (m : (ℓ : Loc Cert.Kernel5Ideal.nD Cert.Kernel5Ideal.τ Cert.Kernel5Ideal.sig) → Buf (Elt Ideal) ℓ) (h : Cert.Pre_Kernel5Ideal_finite5 m)
    (c : Dev Cert.Kernel5Ideal.nD) : Cert.Kernel5Ideal.Att.Real m c := by
  obtain ⟨h1, h2⟩ := Att.pre_real (Cert.Kernel5Ideal.Att.proj m c) (Cert.Kernel5Ideal.Att.lamv m c) (Cert.Kernel5Ideal.Att.nw m c) (h c)
  exact ⟨fun b i a => h1 ⟨b.val * 256 + i.val, by omega⟩ a, h2⟩

theorem algebraic : Cert.algebraic_Kernel5Ideal_Reference5Ideal_pre_finite5 := by
  intro m g m' g' hpre hag
  refine ⟨fun c => Cert.Kernel5Ideal.Att.attArr m c,
    fun c => Cert.Kernel5Ideal.Att.cacheArr m 256 (by decide) c (m ((c.tc : Thread Cert.Kernel5Ideal.nD Cert.Kernel5Ideal.τ).loc Cert.Kernel5Ideal.main_arg3)),
    fun c => Cert.Kernel5Ideal.Att.cacheArr m 512 (by decide) c (m ((c.tc : Thread Cert.Kernel5Ideal.nD Cert.Kernel5Ideal.τ).loc Cert.Kernel5Ideal.main_arg4)), ?_, ?_⟩
  · refine (θ_run _ _ _).mono (fun r h c => ?_) (Cert.Kernel5Ideal.Value.run_blocks m g)
    obtain ⟨h1, h2, h3, h4⟩ := h c
    exact ⟨h1.trans (Cert.Kernel5Ideal.Att.final6 m c (real_of_pre m hpre c)), h2.trans (Cert.Kernel5Ideal.Att.final7 m c),
      h3.trans (Cert.Kernel5Ideal.Att.final8 m c), h4⟩
  · refine (θ_run _ _ _).mono (fun r h c => ?_) (Cert.Reference5Ideal.Value.run m' g')
    obtain ⟨h1, h2, h3, h4⟩ := h c
    have eX : Cert.ReferenceIdeal.Att.entryX (Cert.Reference5Ideal.Att.proj m' c) = Cert.Kernel5Ideal.Att.entryX m c := by
      funext b i a; exact congrFun (hag c).1 _
    have eL : Cert.ReferenceIdeal.Att.lamL (Cert.Reference5Ideal.Att.lamv m' c) = Cert.Kernel5Ideal.Att.lamL m c := by
      funext a d; exact congrFun (hag c).2.1 _
    have eW : Cert.ReferenceIdeal.Att.normW (Cert.Reference5Ideal.Att.nw m' c) = Cert.Kernel5Ideal.Att.normW m c := by
      funext e; exact congrFun (hag c).2.2.1 _
    refine ⟨h1.trans ?_, h2.trans ?_, h3.trans ?_, h4⟩
    · funext y
      obtain ⟨b, i, h, e, rfl⟩ : ∃ (b : Fin 32) (i : Fin 256) (h : Fin 4) (e : Fin 64),
          y = ix2 (⟨b.val * 256 + i.val, by omega⟩ : Fin 8192) (⟨h.val * 64 + e.val, by omega⟩ : Fin 256) := by
        have h0 : (y 0).val < 8192 := (y 0).isLt
        have h1 : (y 1).val < 256 := (y 1).isLt
        refine ⟨⟨(y 0).val / 256, by omega⟩, ⟨(y 0).val % 256, by omega⟩, ⟨(y 1).val / 64, by omega⟩, ⟨(y 1).val % 64, by omega⟩, (eq_ix2 y).trans ?_⟩
        exact (ix2_inj ..).2 ⟨Fin.ext (by simp only; omega), Fin.ext (by simp only; omega)⟩
      rw [Cert.Reference5Ideal.Att.res_eq]
      refine (Cert.ReferenceIdeal.Att.att_apply _ _ _ _ _ b i h e).trans ?_
      rw [eX, eL, eW]
      exact (Cert.Kernel5Ideal.Att.attArr_apply m c b i h e).symm
    · funext y
      obtain ⟨b, l, h, i, e, rfl⟩ : ∃ (b : Fin 32) (l : Fin 2) (h : Fin 4) (i : Fin 256) (e : Fin 64), y = ix5 b l h i e :=
        ⟨y 0, y 1, y 2, y 3, y 4, eq_ix5 y⟩
      refine (Cert.Reference5Ideal.Att.cache_apply (Cert.Reference5Ideal.Att.prevK m' c) (Cert.ReferenceIdeal.Att.dk (Cert.Reference5Ideal.Att.proj m' c)) b l h i e).trans ?_
      rw [Cert.ReferenceIdeal.Att.dk_apply]
      show _ = if l.val / 1 = 1 then Cert.Kernel5Ideal.Att.newAt m 256 _ c b h i e else _
      rw [Nat.div_one]
      refine if_congr Iff.rfl ?_ (congrFun (hag c).2.2.2.1 _)
      unfold Cert.Kernel5Ideal.Att.newAt
      rw [← eX]
      rfl
    · funext y
      obtain ⟨b, l, h, i, e, rfl⟩ : ∃ (b : Fin 32) (l : Fin 2) (h : Fin 4) (i : Fin 256) (e : Fin 64), y = ix5 b l h i e :=
        ⟨y 0, y 1, y 2, y 3, y 4, eq_ix5 y⟩
      refine (Cert.Reference5Ideal.Att.cache_apply (Cert.Reference5Ideal.Att.prevV m' c) (Cert.ReferenceIdeal.Att.dv (Cert.Reference5Ideal.Att.proj m' c)) b l h i e).trans ?_
      rw [Cert.ReferenceIdeal.Att.dv_apply]
      show _ = if l.val / 1 = 1 then Cert.Kernel5Ideal.Att.newAt m 512 _ c b h i e else _
      rw [Nat.div_one]
      refine if_congr Iff.rfl ?_ (congrFun (hag c).2.2.2.2 _)
      unfold Cert.Kernel5Ideal.Att.newAt
      rw [← eX]
      rfl

end Cert.Proof.Att1

end
-- ==== Proof.Lat.Math.lean ====
/- Differential attention of one query row against 1536 keys, over the extended reals, and that it is real where its arguments are. -/
module

public import proofs.«01_k».proof.Proof.Att.Math

@[expose] public section

set_option maxRecDepth 16384

noncomputable section

namespace Cert.Lat

open Idealize.ShloMosaic Cert.Att

section
variable (z s : EReal) (x : Fin 256 → EReal) (K V : Fin 1536 → Fin 256 → EReal) (L : Fin 4 → Fin 32 → EReal) (w : Fin 64 → EReal)

/-- Column `d` of map `r`. -/
def mcol (r : Fin 8) (d : Fin 32) : Fin 256 := ⟨r.val * 32 + d.val, by omega⟩
/-- The two maps of head `h`. -/
def fst (h : Fin 4) : Fin 8 := ⟨2 * h.val, by omega⟩
def snd (h : Fin 4) : Fin 8 := ⟨2 * h.val + 1, by omega⟩

/-- The score of the query row against key row `j` in map `r`. -/
def score (r : Fin 8) (j : Fin 1536) : EReal := (∑ d : Fin 32, x (mcol r d) * K j (mcol r d)) * wScale

/-- Its exponential, less the row's largest. -/
def expo (r : Fin 8) (j : Fin 1536) : EReal :=
  Ideal.exp (score x K r j - Finset.univ.fold max wStart fun k : Fin 1536 => score x K r k)

/-- The map: each exponential over the row's sum. -/
def prob (r : Fin 8) (j : Fin 1536) : EReal := Ideal.div (expo x K r j) (∑ k : Fin 1536, expo x K r k)

/-- Head `h` of the attention's value, before its norm. -/
def head (h : Fin 4) (e : Fin 64) : EReal :=
  ∑ j : Fin 1536, (prob x K (fst h) j - lam z L * prob x K (snd h) j) * V j (hcol h e)

/-- The result: the head over its root mean square, times the norm's weights, times the complement `s`. -/
def out (h : Fin 4) (e : Fin 64) : EReal :=
  head z x K V L h e * Ideal.rsqrt ((∑ k : Fin 64, head z x K V L h k * head z x K V L h k) * wInv64 + wEps) * w e * s
end

section
variable {z : EReal} {x : Fin 256 → EReal} {K V : Fin 1536 → Fin 256 → EReal} {L : Fin 4 → Fin 32 → EReal}

theorem fin_score (hx : ∀ c, Fin' (x c)) (hK : ∀ j c, Fin' (K j c)) (r : Fin 8) (j : Fin 1536) : Fin' (score x K r j) :=
  (Fin'.sum _ _ fun _ => (hx _).mul (hK _ _)).mul (fin_word _ (by decide))
theorem pos_expo (hx : ∀ c, Fin' (x c)) (hK : ∀ j c, Fin' (K j c)) (r : Fin 8) (j : Fin 1536) : Pos (expo x K r j) :=
  ((fin_score hx hK r j).sub (Fin'.fold (n := 1535) _ fun k => fin_score hx hK r k)).exp
theorem fin_prob (hx : ∀ c, Fin' (x c)) (hK : ∀ j c, Fin' (K j c)) (r : Fin 8) (j : Fin 1536) : Fin' (prob x K r j) :=
  (pos_expo hx hK r j).fin.div (Pos.sum (n := 1535) _ fun k => pos_expo hx hK r k)
theorem fin_head (hz : Fin' z) (hx : ∀ c, Fin' (x c)) (hK : ∀ j c, Fin' (K j c)) (hV : ∀ j c, Fin' (V j c)) (hL : ∀ a d, Fin' (L a d)) (h : Fin 4) (e : Fin 64) :
    Fin' (head z x K V L h e) :=
  Fin'.sum _ _ fun _ => ((fin_prob hx hK _ _).sub ((fin_lam hz hL).mul (fin_prob hx hK _ _))).mul (hV _ _)
end

/-! ## The turn of a position -/

/-- The column paired with `c`: eight on in the first half of each sixteen, eight back in the second. -/
def pair (c : Fin 256) : Fin 256 := if h : c.val % 16 < 8 then ⟨c.val + 8, by omega⟩ else ⟨c.val - 8, by omega⟩

/-- Entry `c` of a row turned by its position's angles. -/
def turn (y C S : Fin 256 → EReal) (c : Fin 256) : EReal :=
  y c * C c + (if c.val % 16 < 8 then -y (pair c) else y (pair c)) * S c

theorem neg_fin {a : EReal} (h : Fin' a) : Fin' (-a) := by
  obtain ⟨r, rfl⟩ := h; exact ⟨-r, (EReal.coe_neg r).symm⟩

theorem fin_turn {y C S : Fin 256 → EReal} (hy : ∀ c, Fin' (y c)) (hC : ∀ c, Fin' (C c)) (hS : ∀ c, Fin' (S c)) (c : Fin 256) : Fin' (turn y C S c) := by
  unfold turn
  split_ifs
  · exact ((hy _).mul (hC _)).add ((neg_fin (hy _)).mul (hS _))
  · exact ((hy _).mul (hC _)).add ((hy _).mul (hS _))

end Cert.Lat

end
-- ==== Proof.Lat.Block.lean ====
/- What one query tile of the latent attention call computes, as plain sums over the extended reals. -/
module

public import proofs.«01_k».proof.Proof.Gen.Kernel6Ideal.Skeleton
public import proofs.«01_k».proof.Proof.Att.Whole
public import proofs.«01_k».proof.Proof.Lat.Math
public import Idealize.ShloMosaic.Lib.KernelVsHost

@[expose] public section

set_option maxRecDepth 16384

noncomputable section

namespace Cert.Kernel6Ideal.Lat

open Cert.Kernel6Ideal Cert.Kernel6Ideal.Gen Idealize.ShloMosaic Idealize.ShloMosaic.TcCoe
open Cert.KernelIdeal.Att (masked stack stack_apply masked_apply comb comb_apply normed normed_apply column)
open Cert.Lat (mcol fst snd turn pair)
open Cert.Att (hcol Fin')

/-- The scaled scores of the stacked queries against the keys. -/
def scores (q : FVec Ideal S2048x256 .f32) (k : FVec Ideal S1536x256 .bf16) : FVec Ideal S2048x1536 .f32 :=
  mulf (matmul dot_S2048x256_S1536x256_S2048x1536_1_1_0_0_n_n none (truncf .bf16 q bitsLt_bf16_f32) k (constant S2048x1536 .f32 0x00000000#32))
    (broadcast S2048x1536 (Scalar.ofBits .f32 0x3E3504F3#32))

/-- The exponentials of the scores less their row's largest. -/
def expo (s : FVec Ideal S2048x1536 .f32) : FVec Ideal S2048x1536 .f32 :=
  exp (subf s (broadcastTo S2048x1536 (shapeCast S2048x1 (multiReduction .maximumf [1] S2048 s 0xFF800000#32 reduces_S2048x1536_S2048 (.inl rfl) rfl) shapeCasts_S2048_S2048x1) broadcasts_S2048x1_S2048x1536))

/-- Each row of exponentials over its sum. -/
def probs (e : FVec Ideal S2048x1536 .f32) : FVec Ideal S2048x1536 .f32 :=
  divf e (broadcastTo S2048x1536 (shapeCast S2048x1 (multiReduction .add [1] S2048 e 0x00000000#32 reduces_S2048x1536_S2048 (.inl rfl) rfl) shapeCasts_S2048_S2048x1) broadcasts_S2048x1_S2048x1536)

/-- The four heads' differences of maps, one above the other. -/
def diffs (l : FVec Ideal S1x1 .f32) (p : FVec Ideal S2048x1536 .f32) : FVec Ideal S1024x1536 .f32 :=
  concatenate S1024x1536 0 [
    ⟨S256x1536, subf (extractStridedSlice S256x1536 ![0, 0] p slices_S2048x1536_o0_0_S256x1536) (mulf (broadcastTo S256x1536 l broadcasts_S1x1_S256x1536) (extractStridedSlice S256x1536 ![256, 0] p slices_S2048x1536_o256_0_S256x1536))⟩,
    ⟨S256x1536, subf (extractStridedSlice S256x1536 ![512, 0] p slices_S2048x1536_o512_0_S256x1536) (mulf (broadcastTo S256x1536 l broadcasts_S1x1_S256x1536) (extractStridedSlice S256x1536 ![768, 0] p slices_S2048x1536_o768_0_S256x1536))⟩,
    ⟨S256x1536, subf (extractStridedSlice S256x1536 ![1024, 0] p slices_S2048x1536_o1024_0_S256x1536) (mulf (broadcastTo S256x1536 l broadcasts_S1x1_S256x1536) (extractStridedSlice S256x1536 ![1280, 0] p slices_S2048x1536_o1280_0_S256x1536))⟩,
    ⟨S256x1536, subf (extractStridedSlice S256x1536 ![1536, 0] p slices_S2048x1536_o1536_0_S256x1536) (mulf (broadcastTo S256x1536 l broadcasts_S1x1_S256x1536) (extractStridedSlice S256x1536 ![1792, 0] p slices_S2048x1536_o1792_0_S256x1536))⟩] concatenates_S256x1536_S256x1536_S256x1536_S256x1536_S1024x1536_d0

/-- The maps' differences against the values. -/
def values (d : FVec Ideal S1024x1536 .f32) (v : FVec Ideal S1536x256 .bf16) : FVec Ideal S1024x256 .f32 :=
  matmul dot_S1024x1536_S1536x256_S1024x256_1_0_0_1_n_n none (truncf .bf16 d bitsLt_bf16_f32) v (constant S1024x256 .f32 0x00000000#32)

theorem scores_apply (q : FVec Ideal S2048x256 .f32) (k : FVec Ideal S1536x256 .bf16) (a : Fin 2048) (j : Fin 1536) :
    scores q k (ix2 a j) = (∑ c : Fin 256, q (ix2 a c) * k (ix2 j c)) * Cert.Att.wScale := by
  pointwise [scores]

theorem expo_apply (s : FVec Ideal S2048x1536 .f32) (a : Fin 2048) (j : Fin 1536) :
    expo s (ix2 a j) = Ideal.exp (s (ix2 a j) - Finset.univ.fold max Cert.Att.wStart fun k : Fin 1536 => s (ix2 a k)) := by
  pointwise [expo]

theorem probs_apply (e : FVec Ideal S2048x1536 .f32) (a : Fin 2048) (j : Fin 1536) :
    probs e (ix2 a j) = Ideal.div (e (ix2 a j)) (∑ k : Fin 1536, e (ix2 a k)) := by
  pointwise [probs]

theorem values_apply (d : FVec Ideal S1024x1536 .f32) (v : FVec Ideal S1536x256 .bf16) (a : Fin 1024) (e : Fin 256) :
    values d v (ix2 a e) = ∑ j : Fin 1536, d (ix2 a j) * v (ix2 j e) := by
  pointwise [values]

/-- Row `i` of the copy of map `r`, and of head `h`. -/
def mrow (r : Fin 8) (i : Fin 256) : Fin 2048 := ⟨r.val * 256 + i.val, by omega⟩
def hrow (h : Fin 4) (i : Fin 256) : Fin 1024 := ⟨h.val * 256 + i.val, by omega⟩

theorem diffs_apply (l : FVec Ideal S1x1 .f32) (p : FVec Ideal S2048x1536 .f32) (h : Fin 4) (i : Fin 256) (j : Fin 1536) :
    diffs l p (ix2 (hrow h i) j) = p (ix2 (mrow (fst h) i) j) - l (ix2 0 0) * p (ix2 (mrow (snd h) i) j) := by
  unfold hrow mrow fst snd
  fin_cases h
  all_goals
    pointwise [diffs]
  all_goals
    repeat (first | rw [dif_pos (by omega)] | rw [dif_neg (by omega)])
  all_goals
    refine congrArg₂ (· - ·) (congrArg p ?_) (congrArg (l (ix2 0 0) * ·) (congrArg p ?_))
  all_goals idx_ext

/-! ## The tile -/

/-- The tile's stored array, of its queries, all keys and values, the weight of the second map, the masks and the norm's row. -/
def tile (l : FVec Ideal S1x1 .f32) (k v : FVec Ideal S1536x256 .bf16) (q : FVec Ideal S256x256 .f32) (g : Fin 8 → FVec Ideal S1x256 .f32)
    (p : Fin 4 → FVec Ideal S1x256 .f32) (b : FVec Ideal S256x256 .bf16) (w : FVec Ideal S1x256 .f32) : FVec Ideal S256x256 .f32 :=
  normed 0x3F4CCCCD#32 (comb (values (diffs l (probs (expo (scores (stack (masked q g 0) (masked q g 1) (masked q g 2) (masked q g 3) (masked q g 4) (masked q g 5) (masked q g 6) (masked q g 7)) k)))) v)
    (p 0) (p 1) (p 2) (p 3)) b w

section
variable (l : FVec Ideal S1x1 .f32) (k v : FVec Ideal S1536x256 .bf16) (q : FVec Ideal S256x256 .f32) (g : Fin 8 → FVec Ideal S1x256 .f32)
    (p : Fin 4 → FVec Ideal S1x256 .f32) (b : FVec Ideal S256x256 .bf16) (w : FVec Ideal S1x256 .f32)

theorem tile0_eq :
    k0_pay27 (F := Ideal) (k0_pay26 (F := Ideal) v
      (k0_pay20 (F := Ideal) l k q (k0_pay16 (F := Ideal) q (g 0)) (k0_pay17 (F := Ideal) q (g 1)) (k0_pay18 (F := Ideal) q (g 2)) (g 3) (g 4) (g 5) (g 6) (g 7))
      (k0_pay21 (F := Ideal) l k q (k0_pay16 (F := Ideal) q (g 0)) (k0_pay17 (F := Ideal) q (g 1)) (k0_pay18 (F := Ideal) q (g 2)) (g 3) (g 4) (g 5) (g 6) (g 7))
      (k0_pay22 (F := Ideal) l k q (k0_pay16 (F := Ideal) q (g 0)) (k0_pay17 (F := Ideal) q (g 1)) (k0_pay18 (F := Ideal) q (g 2)) (g 3) (g 4) (g 5) (g 6) (g 7))
      (k0_pay23 (F := Ideal) k q (k0_pay16 (F := Ideal) q (g 0)) (k0_pay17 (F := Ideal) q (g 1)) (k0_pay18 (F := Ideal) q (g 2)) (g 3) (g 4) (g 5) (g 6) (g 7))
      (k0_pay24 (F := Ideal) k q (k0_pay16 (F := Ideal) q (g 0)) (k0_pay17 (F := Ideal) q (g 1)) (k0_pay18 (F := Ideal) q (g 2)) (g 3) (g 4) (g 5) (g 6) (g 7))
      (k0_pay25 (F := Ideal) l) (p 0) (p 1) (p 2) (p 3) b w) = tile l k v q g p b w := rfl

theorem tile1_eq :
    k0_pay32 (F := Ideal)
      (k0_pay30 (F := Ideal) l v (k0_pay28 (F := Ideal) k q (g 0) (g 1) (g 2) (g 3) (g 4) (g 5) (g 6) (g 7)) (k0_pay29 (F := Ideal) k q (g 0) (g 1) (g 2) (g 3) (g 4) (g 5) (g 6) (g 7)) (p 0) (p 1) (p 2) (p 3))
      (k0_pay31 (F := Ideal) l v (k0_pay28 (F := Ideal) k q (g 0) (g 1) (g 2) (g 3) (g 4) (g 5) (g 6) (g 7)) (k0_pay29 (F := Ideal) k q (g 0) (g 1) (g 2) (g 3) (g 4) (g 5) (g 6) (g 7)) (p 0) (p 1) (p 2) (p 3))
      b w = tile l k v q g p b w := rfl

theorem tile2_eq :
    k0_pay40 (F := Ideal)
      (k0_pay38 (F := Ideal) l k v q (k0_pay33 (F := Ideal) q (g 0)) (k0_pay34 (F := Ideal) q (g 1)) (k0_pay35 (F := Ideal) q (g 2)) (k0_pay36 (F := Ideal) q (g 3)) (k0_pay37 (F := Ideal) (g 4)) (g 5) (g 6) (g 7))
      (k0_pay39 (F := Ideal) l k v q (k0_pay33 (F := Ideal) q (g 0)) (k0_pay34 (F := Ideal) q (g 1)) (k0_pay35 (F := Ideal) q (g 2)) (k0_pay36 (F := Ideal) q (g 3)) (k0_pay37 (F := Ideal) (g 4)) (g 5) (g 6) (g 7))
      (p 0) (p 1) (p 2) (p 3) b w = tile l k v q g p b w := rfl

theorem tile3_eq :
    k0_pay1 (F := Ideal)
      (k0_pay42 (F := Ideal) l v (k0_pay41 (F := Ideal) k q (g 0) (g 1) (g 2) (g 3) (g 4) (g 5) (g 6) (g 7)) (p 0) (p 1) (p 2) (p 3)) b
      (k0_pay44 (F := Ideal) l v (k0_pay41 (F := Ideal) k q (g 0) (g 1) (g 2) (g 3) (g 4) (g 5) (g 6) (g 7)) (p 0) (p 1) (p 2) (p 3))
      (k0_pay45 (F := Ideal) l v (k0_pay41 (F := Ideal) k q (g 0) (g 1) (g 2) (g 3) (g 4) (g 5) (g 6) (g 7)) (p 0) (p 1) (p 2) (p 3))
      (constant S256x256 .f32 0x00000000#32) w = tile l k v q g p b w := rfl

variable (g0 g1 g2 g3 g4 g5 g6 g7 p0 p1 p2 p3 : FVec Ideal S1x256 .f32)

theorem tile0_at :
    k0_pay27 (F := Ideal) (k0_pay26 (F := Ideal) v
      (k0_pay20 (F := Ideal) l k q (k0_pay16 (F := Ideal) q g0) (k0_pay17 (F := Ideal) q g1) (k0_pay18 (F := Ideal) q g2) g3 g4 g5 g6 g7)
      (k0_pay21 (F := Ideal) l k q (k0_pay16 (F := Ideal) q g0) (k0_pay17 (F := Ideal) q g1) (k0_pay18 (F := Ideal) q g2) g3 g4 g5 g6 g7)
      (k0_pay22 (F := Ideal) l k q (k0_pay16 (F := Ideal) q g0) (k0_pay17 (F := Ideal) q g1) (k0_pay18 (F := Ideal) q g2) g3 g4 g5 g6 g7)
      (k0_pay23 (F := Ideal) k q (k0_pay16 (F := Ideal) q g0) (k0_pay17 (F := Ideal) q g1) (k0_pay18 (F := Ideal) q g2) g3 g4 g5 g6 g7)
      (k0_pay24 (F := Ideal) k q (k0_pay16 (F := Ideal) q g0) (k0_pay17 (F := Ideal) q g1) (k0_pay18 (F := Ideal) q g2) g3 g4 g5 g6 g7)
      (k0_pay25 (F := Ideal) l) p0 p1 p2 p3 b w) = tile l k v q ![g0, g1, g2, g3, g4, g5, g6, g7] ![p0, p1, p2, p3] b w :=
  tile0_eq l k v q ![g0, g1, g2, g3, g4, g5, g6, g7] ![p0, p1, p2, p3] b w

theorem tile1_at :
    k0_pay32 (F := Ideal)
      (k0_pay30 (F := Ideal) l v (k0_pay28 (F := Ideal) k q g0 g1 g2 g3 g4 g5 g6 g7) (k0_pay29 (F := Ideal) k q g0 g1 g2 g3 g4 g5 g6 g7) p0 p1 p2 p3)
      (k0_pay31 (F := Ideal) l v (k0_pay28 (F := Ideal) k q g0 g1 g2 g3 g4 g5 g6 g7) (k0_pay29 (F := Ideal) k q g0 g1 g2 g3 g4 g5 g6 g7) p0 p1 p2 p3)
      b w = tile l k v q ![g0, g1, g2, g3, g4, g5, g6, g7] ![p0, p1, p2, p3] b w :=
  tile1_eq l k v q ![g0, g1, g2, g3, g4, g5, g6, g7] ![p0, p1, p2, p3] b w

theorem tile2_at :
    k0_pay40 (F := Ideal)
      (k0_pay38 (F := Ideal) l k v q (k0_pay33 (F := Ideal) q g0) (k0_pay34 (F := Ideal) q g1) (k0_pay35 (F := Ideal) q g2) (k0_pay36 (F := Ideal) q g3) (k0_pay37 (F := Ideal) g4) g5 g6 g7)
      (k0_pay39 (F := Ideal) l k v q (k0_pay33 (F := Ideal) q g0) (k0_pay34 (F := Ideal) q g1) (k0_pay35 (F := Ideal) q g2) (k0_pay36 (F := Ideal) q g3) (k0_pay37 (F := Ideal) g4) g5 g6 g7)
      p0 p1 p2 p3 b w = tile l k v q ![g0, g1, g2, g3, g4, g5, g6, g7] ![p0, p1, p2, p3] b w :=
  tile2_eq l k v q ![g0, g1, g2, g3, g4, g5, g6, g7] ![p0, p1, p2, p3] b w

theorem tile3_at :
    k0_pay1 (F := Ideal)
      (k0_pay42 (F := Ideal) l v (k0_pay41 (F := Ideal) k q g0 g1 g2 g3 g4 g5 g6 g7) p0 p1 p2 p3) b
      (k0_pay44 (F := Ideal) l v (k0_pay41 (F := Ideal) k q g0 g1 g2 g3 g4 g5 g6 g7) p0 p1 p2 p3)
      (k0_pay45 (F := Ideal) l v (k0_pay41 (F := Ideal) k q g0 g1 g2 g3 g4 g5 g6 g7) p0 p1 p2 p3)
      (constant S256x256 .f32 0x00000000#32) w = tile l k v q ![g0, g1, g2, g3, g4, g5, g6, g7] ![p0, p1, p2, p3] b w :=
  tile3_eq l k v q ![g0, g1, g2, g3, g4, g5, g6, g7] ![p0, p1, p2, p3] b w
end

section
variable (l : FVec Ideal S1x1 .f32) (k v : FVec Ideal S1536x256 .bf16) (q : FVec Ideal S256x256 .f32) (g : Fin 8 → FVec Ideal S1x256 .f32)
    (p : Fin 4 → FVec Ideal S1x256 .f32) (b : FVec Ideal S256x256 .bf16) (w : FVec Ideal S1x256 .f32)
    (X : Fin 256 → Fin 256 → EReal) (K V : Fin 1536 → Fin 256 → EReal) (L : Fin 4 → Fin 32 → EReal) (W : Fin 64 → EReal)
    (hq : ∀ i c, q (ix2 i c) = X i c) (hk : ∀ (j : Fin 1536) (c : Fin 256), (k : FVec Ideal S1536x256 .bf16) (ix2 j c) = K j c)
    (hv : ∀ (j : Fin 1536) (c : Fin 256), v (ix2 j c) = V j c) (hl : l (ix2 0 0) = Cert.Att.lam Cert.Att.wLam L)
    (hg : ∀ (r : Fin 8) (c : Fin 256), g r (ix2 0 c) = if c.val / 32 = r.val then 1 else 0)
    (hp : ∀ (h : Fin 4) (c : Fin 256), p h (ix2 0 c) = if c.val / 64 = h.val then 1 else 0)
    (hb : ∀ a c : Fin 256, b (ix2 a c) = if a.val / 64 = c.val / 64 then 1 else 0)
    (hw : ∀ (h : Fin 4) (e : Fin 64), w (ix2 0 (hcol h e)) = W e)

abbrev stacked : FVec Ideal S2048x256 .f32 := stack (masked q g 0) (masked q g 1) (masked q g 2) (masked q g 3) (masked q g 4) (masked q g 5) (masked q g 6) (masked q g 7)

include hq hk hg in
theorem score_eq (r : Fin 8) (i : Fin 256) (j : Fin 1536) : scores (stacked q g) k (ix2 (mrow r i) j) = Cert.Lat.score (X i) K r j := by
  rw [scores_apply]
  unfold Cert.Lat.score
  congr 1
  refine Cert.Att.sum_map r (fun c => X i c * K j c) _ fun c => ?_
  rw [stacked, mrow, stack_apply (masked q g), masked_apply, hg, hq, hk]
  split_ifs
  · rw [mul_one]
  · rw [mul_zero, zero_mul]

include hq hk hg in
theorem prob_eq (r : Fin 8) (i : Fin 256) (j : Fin 1536) : probs (expo (scores (stacked q g) k)) (ix2 (mrow r i) j) = Cert.Lat.prob (X i) K r j := by
  rw [probs_apply]
  simp only [expo_apply, score_eq k q g X K hq hk hg]
  rfl

include hq hk hv hl hg in
theorem head_eq (h : Fin 4) (i : Fin 256) (e : Fin 64) :
    values (diffs l (probs (expo (scores (stacked q g) k)))) v (ix2 (hrow h i) (hcol h e)) = Cert.Lat.head Cert.Att.wLam (X i) K V L h e := by
  rw [values_apply]
  unfold Cert.Lat.head
  refine Finset.sum_congr rfl fun j _ => ?_
  rw [diffs_apply, hv, hl, prob_eq k q g X K hq hk hg, prob_eq k q g X K hq hk hg]

include hq hk hv hl hg hp hb hw in
theorem tile_apply (hX : ∀ i c, Fin' (X i c)) (hK : ∀ j c, Fin' (K j c)) (hV : ∀ j c, Fin' (V j c)) (hL : ∀ a d, Fin' (L a d)) (h : Fin 4) (i : Fin 256) (e : Fin 64) :
    tile l k v q g p b w (ix2 i (hcol h e)) = Cert.Lat.out Cert.Att.wLam Cert.Att.wRest (X i) K V L W h e := by
  unfold tile
  have ho : ∀ (h : Fin 4) (e : Fin 64), comb (values (diffs l (probs (expo (scores (stacked q g) k)))) v) (p 0) (p 1) (p 2) (p 3) (ix2 i (hcol h e)) = Cert.Lat.head Cert.Att.wLam (X i) K V L h e :=
    fun h e => (comb_apply _ p hp h i e).trans (head_eq l k v q g X K V L hq hk hv hl hg h i e)
  generalize comb (values (diffs l (probs (expo (scores (stacked q g) k)))) v) (p 0) (p 1) (p 2) (p 3) = o at ho ⊢
  have hf : ∀ c : Fin 256, Fin' (o (ix2 i c)) := by
    intro c; obtain ⟨h, e, rfl⟩ := column c; rw [ho]; exact Cert.Lat.fin_head (Cert.Att.fin_word _ (by decide)) (hX i) hK hV hL h e
  rw [normed_apply, ho, hw]
  have hlow : (∑ c : Fin 256, (o (ix2 i c) * o (ix2 i c) - o (ix2 i c) * o (ix2 i c)) * b (ix2 c (hcol h e))) = 0 :=
    Finset.sum_eq_zero fun c _ => by rw [Cert.Att.sub_self_fin ((hf c).mul (hf c)), zero_mul]
  have hhigh : (∑ c : Fin 256, o (ix2 i c) * o (ix2 i c) * b (ix2 c (hcol h e))) = ∑ d : Fin 64, Cert.Lat.head Cert.Att.wLam (X i) K V L h d * Cert.Lat.head Cert.Att.wLam (X i) K V L h d := by
    rw [Cert.Att.sum_head h (fun c => o (ix2 i c) * o (ix2 i c))]
    · exact Finset.sum_congr rfl fun d _ => congrArg₂ (· * ·) (ho h d) (ho h d)
    · intro c
      rw [hb, show (hcol h e).val / 64 = h.val by unfold hcol; simp only; omega]
      split_ifs
      · rw [mul_one]
      · rw [mul_zero]
  rw [hlow, hhigh, add_zero]
  rfl
end

theorem lam_eq (L : Fin 4 → Fin 32 → EReal) (x1 : FVec Ideal S4x32 .f32) (hL : ∀ (a : Fin 4) (d : Fin 32), x1 (ix2 a d) = L a d) :
    k0_pay2 (F := Ideal) x1 (ix2 0 0) = Cert.Att.lam Cert.Att.wLam L :=
  Cert.KernelIdeal.Att.lam_eq L x1 hL

/-! ## The turn of queries and keys -/

theorem lane (i : Fin 1024) (c : Fin 256) : k0_pay10 (ix2 i c) = BitVec.ofBool (decide (c.val % 16 < 8)) := by
  revert c
  have key : ∀ c : Fin 256, k0_pay10 (ix2 0 c) = BitVec.ofBool (decide (c.val % 16 < 8)) := by decide +kernel
  exact fun c => key c

theorem on8 (x : FVec Ideal S1024x256 .f32) (i : Fin 1024) (c : Fin 256) (hc : c.val % 16 < 8) :
    dynamicRotate 1 248#32 none x rotates_S1024x256_d1 (ix2 i c) = x (ix2 i (pair c)) := by
  refine dynamicRotate_apply _ _ _ _ _ _ fun b => ?_
  unfold pair
  fin_cases b
  · rfl
  · show (dite _ _ _ : Fin 256).val = (c.val + 256 - 248) % 256
    rw [dif_pos hc]; simp only; omega

theorem back8 (x : FVec Ideal S1024x256 .f32) (i : Fin 1024) (c : Fin 256) (hc : ¬ c.val % 16 < 8) :
    dynamicRotate 1 8#32 none x rotates_S1024x256_d1 (ix2 i c) = x (ix2 i (pair c)) := by
  refine dynamicRotate_apply _ _ _ _ _ _ fun b => ?_
  unfold pair
  fin_cases b
  · rfl
  · show (dite _ _ _ : Fin 256).val = (c.val + 256 - 8) % 256
    rw [dif_neg hc]; simp only; omega

theorem turn_apply (x C S : FVec Ideal S1024x256 .f32) (i : Fin 1024) (c : Fin 256) :
    k0_pay11 (F := Ideal) x C S k0_pay10 248#32 (ix2 i c) = turn (fun c => x (ix2 i c)) (fun c => C (ix2 i c)) (fun c => S (ix2 i c)) c := by
  unfold turn
  have e : k0_pay11 (F := Ideal) x C S k0_pay10 248#32 (ix2 i c)
      = x (ix2 i c) * C (ix2 i c) + (if k0_pay10 (ix2 i c) = 1#1 then 0 - dynamicRotate 1 248#32 none x rotates_S1024x256_d1 (ix2 i c)
        else dynamicRotate 1 8#32 none x rotates_S1024x256_d1 (ix2 i c)) * S (ix2 i c) := by
    pointwise [k0_pay11]
    rfl
  rw [e, lane]
  by_cases hc : c.val % 16 < 8
  · rw [if_pos hc, decide_eq_true hc, if_pos (by decide), on8 x i c hc, zero_sub]
  · rw [if_neg hc, decide_eq_false hc, if_neg (by decide), back8 x i c hc]

theorem turn8_eq (x C S : FVec Ideal S1024x256 .f32) :
    k0_pay8 (F := Ideal) x C S k0_pay5 k0_pay6 k0_pay7 = k0_pay11 (F := Ideal) x C S k0_pay10 248#32 := rfl

end Cert.Kernel6Ideal.Lat

end
-- ==== Proof.Lat.Rows.lean ====
/- The latent attention's rows: the turned queries and keys, the cached rows before them, and the angles they are turned by. -/
module

public import proofs.«01_k».proof.Proof.Gen.Kernel6Ideal.Skeleton
public import proofs.«01_k».proof.Proof.Lat.Math
public import Idealize.ShloMosaic.Lib.Pointwise

@[expose] public section

set_option maxRecDepth 16384

noncomputable section

namespace Cert.Lat

open Cert.Kernel6Ideal Cert.Kernel6Ideal.Gen Idealize.ShloMosaic Idealize.ShloMosaic.TcCoe
open Cert.Att (Fin')

/-! ## The angles -/

/-- The eight frequencies. -/
def freq : FVec Ideal S8 .f32 :=
  Host.powf (broadcastInDim S8 ![] bcast_S_S8 (constant S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- A position's coordinate times each frequency. -/
def angles (n : FVec Ideal S1024 .f32) : FVec Ideal S1024x8 .f32 :=
  mulf (broadcastInDim S1024x8 ![0, 1] bcast_S1024x1_S1024x8_0_1 (broadcastInDim S1024x1 ![0] bcast_S1024_S1024x1_0 n)) (broadcastInDim S1024x8 ![0, 1] bcast_S1x8_S1024x8_0_1 (broadcastInDim S1x8 ![1] bcast_S8_S1x8_1 freq))

def down : FVec Ideal S1024 .f32 := sitofp .f32 (shapeCast S1024 (broadcastInDim S16x64 ![0] bcast_S16_S16x64_0 (iotaInDim S16 32 0)) shapeCasts_S16x64_S1024)
def across : FVec Ideal S1024 .f32 := sitofp .f32 (shapeCast S1024 (broadcastInDim S16x64 ![0, 1] bcast_S1x64_S16x64_0_1 (shapeCast S1x64 (iotaInDim S64 32 0) shapeCasts_S64_S1x64)) shapeCasts_S16x64_S1024)

/-- The 32 angles of each of the 1024 positions. -/
def ang : FVec Ideal S1024x32 .f32 :=
  concatenate S1024x32 1 [⟨S1024x16, (concatenate S1024x16 1 [⟨S1024x8, angles down⟩, ⟨S1024x8, angles down⟩] concatenates_S1024x8_S1024x8_S1024x16_d1)⟩, ⟨S1024x16, (concatenate S1024x16 1 [⟨S1024x8, angles across⟩, ⟨S1024x8, angles across⟩] concatenates_S1024x8_S1024x8_S1024x16_d1)⟩] concatenates_S1024x16_S1024x16_S1024x32_d1

theorem pow_fin {a b : EReal} (ha : Fin' a) (hb : Fin' b) : Fin' (Ideal.pow a b) := by
  obtain ⟨x, rfl⟩ := ha; obtain ⟨y, rfl⟩ := hb; exact ⟨Real.rpow x y, rfl⟩

theorem freq_fin (k : Fin 8) : Fin' (freq (ix1 k)) := by
  have e : freq (ix1 k) = Ideal.pow (Ideal.ofBits .f32 0x461C4000#32) (Ideal.div (-(Ideal.ofBits .f32 0x00000000#32 + Ideal.ofBits .f32 0x40000000#32 * (((BitVec.ofNat 32 k.val).toInt : ℝ) : EReal))) (Ideal.ofBits .f32 0x41800000#32)) := by
    pointwise [freq]
    rfl
  rw [e]
  refine pow_fin (Cert.Att.fin_word _ (by decide)) (Cert.Att.Fin'.div (neg_fin ((Cert.Att.fin_word _ (by decide)).add ((Cert.Att.fin_word _ (by decide)).mul ⟨_, rfl⟩))) ?_)
  refine ⟨16, by norm_num, ?_⟩
  show Ideal.ieee 8 23 (0x41800000#32) = _
  simp [Ideal.ieee]; rw [← EReal.coe_mul]; norm_num

theorem angles_fin (n : FVec Ideal S1024 .f32) (hn : ∀ i, Fin' (n (ix1 i))) (i : Fin 1024) (k : Fin 8) : Fin' (angles n (ix2 i k)) := by
  have e : angles n (ix2 i k) = n (ix1 i) * freq (ix1 k) := by pointwise [angles]
  rw [e]
  exact (hn i).mul (freq_fin k)

theorem down_fin (i : Fin 1024) : Fin' (down (ix1 i)) := ⟨_, rfl⟩
theorem across_fin (i : Fin 1024) : Fin' (across (ix1 i)) := ⟨_, rfl⟩

theorem ang_fin (i : Fin 1024) (d : Fin 32) : Fin' (ang (ix2 i d)) := by
  obtain ⟨p, q, rfl⟩ : ∃ (p : Fin 4) (q : Fin 8), d = ⟨p.val * 8 + q.val, by omega⟩ := ⟨⟨d.val / 8, by omega⟩, ⟨d.val % 8, by omega⟩, Fin.ext (by simp only; omega)⟩
  have e : ang (ix2 i ⟨p.val * 8 + q.val, by omega⟩) = if p.val < 2 then angles down (ix2 i q) else angles across (ix2 i q) := by
    fin_cases p
    all_goals
      pointwise [ang]
    all_goals
      repeat (first | rw [dif_pos (by omega)] | rw [dif_neg (by omega)])
    all_goals first | rfl | exact congrArg _ ((ix2_inj ..).2 ⟨rfl, Fin.ext (by simp only; omega)⟩)
  rw [e]
  split_ifs
  · exact angles_fin _ down_fin _ _
  · exact angles_fin _ across_fin _ _

def C (i : Fin 1024) (c : Fin 256) : EReal := Ideal.cos (ang (ix2 i ⟨c.val % 32, Nat.mod_lt _ (by decide)⟩))
def S (i : Fin 1024) (c : Fin 256) : EReal := Ideal.sin (ang (ix2 i ⟨c.val % 32, Nat.mod_lt _ (by decide)⟩))

theorem C_fin (i : Fin 1024) (c : Fin 256) : Fin' (C i c) := by
  unfold C; obtain ⟨r, hr⟩ := ang_fin i ⟨c.val % 32, Nat.mod_lt _ (by decide)⟩; rw [hr]; exact ⟨Real.cos r, rfl⟩
theorem S_fin (i : Fin 1024) (c : Fin 256) : Fin' (S i c) := by
  unfold S; obtain ⟨r, hr⟩ := ang_fin i ⟨c.val % 32, Nat.mod_lt _ (by decide)⟩; rw [hr]; exact ⟨Real.sin r, rfl⟩

/-! ## The rows -/

section
variable (a0 : FVec Ideal S10240x3968 .f32) (ck cv : FVec Ideal S2x4x512x64 .f32)

/-- The sampled sequence `b`'s queries, keys and values. -/
def entry (b : Fin 2) (i : Fin 1024) (a : Fin 768) : EReal := a0 (ix2 ⟨8192 + (b.val * 1024 + i.val), by omega⟩ ⟨3072 + a.val, by omega⟩)
def qraw (b : Fin 2) (i : Fin 1024) (c : Fin 256) : EReal := entry a0 b i ⟨c.val, by omega⟩
def kraw (b : Fin 2) (i : Fin 1024) (c : Fin 256) : EReal := entry a0 b i ⟨256 + c.val, by omega⟩
def vraw (b : Fin 2) (i : Fin 1024) (c : Fin 256) : EReal := entry a0 b i ⟨512 + c.val, by omega⟩
/-- A cache's row: its four heads side by side. -/
def cached (b : Fin 2) (j : Fin 512) (c : Fin 256) : EReal := ck (ix4 b ⟨c.val / 64, by omega⟩ j ⟨c.val % 64, by omega⟩)

def qrow (b : Fin 2) (i : Fin 1024) : Fin 256 → EReal := turn (qraw a0 b i) (C i) (S i)
def knew (b : Fin 2) (i : Fin 1024) : Fin 256 → EReal := turn (kraw a0 b i) (C i) (S i)
/-- The 1536 key rows and value rows: the cache's, then the sequence's own. -/
def krow (b : Fin 2) (j : Fin 1536) : Fin 256 → EReal := if h : j.val < 512 then cached ck b ⟨j.val, h⟩ else knew a0 b ⟨j.val - 512, by omega⟩
def vrow (b : Fin 2) (j : Fin 1536) : Fin 256 → EReal := if h : j.val < 512 then cached cv b ⟨j.val, h⟩ else vraw a0 b ⟨j.val - 512, by omega⟩

/-- The precondition, as it is used: queries, keys, values and caches are real. -/
def Real : Prop := (∀ b i a, Fin' (entry a0 b i a)) ∧ (∀ y, Fin' (ck y)) ∧ ∀ y, Fin' (cv y)

variable {a0 ck cv} (hr : Real a0 ck cv)
include hr
theorem qrow_fin (b i c) : Fin' (qrow a0 b i c) := fin_turn (fun _ => hr.1 ..) (C_fin i) (S_fin i) c
theorem krow_fin (b j c) : Fin' (krow a0 ck b j c) := by
  unfold krow
  split_ifs
  · exact hr.2.1 _
  · exact fin_turn (fun _ => hr.1 ..) (C_fin _) (S_fin _) c
theorem vrow_fin (b j c) : Fin' (vrow a0 cv b j c) := by
  unfold vrow
  split_ifs
  · exact hr.2.2 _
  · exact hr.1 ..
end

end Cert.Lat

end
-- ==== Proof.Lat.Read.lean ====
/- What the latent attention call's windows hold at a grid point. -/
module

public import proofs.«01_k».proof.Proof.Lat.Block
public import proofs.«01_k».proof.Proof.Lat.Rows
public import proofs.«01_k».proof.Proof.Att1.Final
public import proofs.«01_k».proof.Proof.Gen.Kernel6Ideal.Value
public import Idealize.ShloMosaic.Lib.Pipeline.ValueKit
public import Idealize.ShloMosaic.Lib.Claim

@[expose] public section

set_option maxRecDepth 16384

noncomputable section

namespace Cert.Kernel6Ideal.Lat

open Cert.Kernel6Ideal Cert.Kernel6Ideal.Gen Idealize.ShloMosaic Idealize.ShloMosaic.TcCoe Idealize.SL.Sem
open Idealize.ShloMosaic.Pipeline (Dat)
open Cert.Att (hcol Fin')

variable (m : (ℓ : Loc nD τ sig) → Buf (Elt Ideal) ℓ) (ρ : Dev nD → PrngReg)

theorem idx : ∀ t : Fin cfg0.N, win0_0.index t = ![8 + t.val, 4] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0, 0]
    ∧ win0_9.index t = ![t.val, 0, 0] ∧ win0_10.index t = ![t.val, 0] :=
  (by decide +kernel : ∀ t : Fin grid0.N, _)

abbrev proj (c : Dev nD) : FVec Ideal S10240x3968 .f32 := m ((c.tc : Thread nD τ).loc main_arg0)
abbrev lamv (c : Dev nD) : FVec Ideal S4x32 .f32 := m ((c.tc : Thread nD τ).loc main_arg1)
abbrev nw (c : Dev nD) : FVec Ideal S64 .f32 := m ((c.tc : Thread nD τ).loc main_arg2)
abbrev ck (c : Dev nD) : FVec Ideal S2x4x512x64 .f32 := m ((c.tc : Thread nD τ).loc main_arg3)
abbrev cv (c : Dev nD) : FVec Ideal S2x4x512x64 .f32 := m ((c.tc : Thread nD τ).loc main_arg4)

theorem lt2 (t : Fin cfg0.N) : t.val < 2 := lt_of_lt_of_eq t.isLt N_0

theorem read0 (c : Dev nD) (t : Fin cfg0.N) (i : Fin 1024) (a : Fin 768) :
    X0_0 m c t (ix2 i a) = Cert.Lat.entry (proj m c) ⟨t.val, lt2 t⟩ i a := by
  have e0 : X0_0 m c t (ix2 i a) = proj m c (ix2 ⟨(8 + t.val) * 1024 + i.val, by have := lt2 t; omega⟩ ⟨4 * 768 + a.val, by omega⟩) := by
    unfold X0_0 Pipeline.Window.fill
    rw [dif_pos (moved0_0 t _)]
    blk_ext [iblk, V, idx t]
  rw [e0]
  exact congrArg _ ((ix2_inj ..).2 ⟨Fin.ext (by simp only; omega), Fin.ext (by simp only)⟩)

theorem read1 (c : Dev nD) (t : Fin cfg0.N) (a : Fin 4) (d : Fin 32) : iblk m c 1 t (ix2 a d) = lamv m c (ix2 a d) := by
  blk_ext [iblk, V, idx t]

theorem read2 (c : Dev nD) (t : Fin cfg0.N) (h : Fin 4) (e : Fin 64) : iblk m c 2 t (ix2 0 (hcol h e)) = nw m c (ix1 e) := by
  have e0 : iblk m c 2 t (ix2 0 (hcol h e)) = V m c main_v47 (ix2 0 (hcol h e)) := by
    blk_ext [iblk, idx t]
  rw [e0]
  entry_read
  exact Cert.Kernel5Ideal.Att.spread (nw m c) h e

theorem read3 (c : Dev nD) (t : Fin cfg0.N) (r : Fin 8) (a : Fin 256) : iblk m c 3 t (ix2 r a) = if a.val / 32 = r.val then (1 : EReal) else 0 := by
  have e0 : iblk m c 3 t (ix2 r a) = V m c main_cst (ix2 r a) := by blk_ext [iblk, idx t]
  rw [e0]
  entry_read
  exact Cert.Kernel5Ideal.Lit.mask_maps r a

theorem read4 (c : Dev nD) (t : Fin cfg0.N) (h : Fin 4) (a : Fin 256) : iblk m c 4 t (ix2 h a) = if a.val / 64 = h.val then (1 : EReal) else 0 := by
  have e0 : iblk m c 4 t (ix2 h a) = V m c main_cst_0 (ix2 h a) := by blk_ext [iblk, idx t]
  rw [e0]
  entry_read
  exact Cert.Kernel5Ideal.Lit.mask_heads h a

theorem read5 (c : Dev nD) (t : Fin cfg0.N) (a b : Fin 256) : iblk m c 5 t (ix2 a b) = if a.val / 64 = b.val / 64 then (1 : EReal) else 0 := by
  have e0 : iblk m c 5 t (ix2 a b) = V m c main_cst_1 (ix2 a b) := by blk_ext [iblk, idx t]
  rw [e0]
  entry_read
  exact Cert.Kernel5Ideal.Lit.mask_pairs a b

/-- A table of 32 columns laid eight times side by side. -/
theorem eight (x : FVec Ideal S1024x32 .f32) (i : Fin 1024) (a : Fin 256) :
    shapeCast S1024x256 (broadcastInDim S1x1024x8x32 ![0, 1, 2, 3] bcast_S1x1024x1x32_S1x1024x8x32_0_1_2_3 (shapeCast S1x1024x1x32 x shapeCasts_S1024x32_S1x1024x1x32)) shapeCasts_S1x1024x8x32_S1024x256 (ix2 i a)
      = x (ix2 i ⟨a.val % 32, Nat.mod_lt _ (by decide)⟩) := by
  pointwise

theorem read6 (c : Dev nD) (t : Fin cfg0.N) (i : Fin 1024) (a : Fin 256) : iblk m c 6 t (ix2 i a) = Cert.Lat.C i a := by
  have e0 : iblk m c 6 t (ix2 i a) = V m c main_v35 (ix2 i a) := by blk_ext [iblk, idx t]
  rw [e0]
  entry_read
  exact eight (Host.cos Cert.Lat.ang) i a

theorem read7 (c : Dev nD) (t : Fin cfg0.N) (i : Fin 1024) (a : Fin 256) : iblk m c 7 t (ix2 i a) = Cert.Lat.S i a := by
  have e0 : iblk m c 7 t (ix2 i a) = V m c main_v39 (ix2 i a) := by blk_ext [iblk, idx t]
  rw [e0]
  entry_read
  exact eight (Host.sin Cert.Lat.ang) i a

/-- A cache with its heads side by side. -/
theorem beside (x : FVec Ideal S2x4x512x64 .f32) (b : Fin 2) (j : Fin 512) (a : Fin 256) :
    shapeCast S2x512x256 (transpose S2x512x4x64 [0, 2, 1, 3] x transposes_S2x4x512x64_S2x512x4x64_0_2_1_3) shapeCasts_S2x512x4x64_S2x512x256 (ix3 b j a) = Cert.Lat.cached x b j a := by
  unfold Cert.Lat.cached
  pointwise

theorem read8 (c : Dev nD) (t : Fin cfg0.N) (j : Fin 512) (a : Fin 256) : iblk m c 8 t (ix3 0 j a) = Cert.Lat.cached (ck m c) ⟨t.val, lt2 t⟩ j a := by
  have e0 : iblk m c 8 t (ix3 0 j a) = V m c main_v41 (ix3 ⟨t.val, lt2 t⟩ j a) := by blk_ext [iblk, idx t]
  rw [e0]
  entry_read
  exact beside (ck m c) _ j a

theorem read9 (c : Dev nD) (t : Fin cfg0.N) (j : Fin 512) (a : Fin 256) : iblk m c 9 t (ix3 0 j a) = Cert.Lat.cached (cv m c) ⟨t.val, lt2 t⟩ j a := by
  have e0 : iblk m c 9 t (ix3 0 j a) = V m c main_v43 (ix3 ⟨t.val, lt2 t⟩ j a) := by blk_ext [iblk, idx t]
  rw [e0]
  entry_read
  exact beside (cv m c) _ j a

end Cert.Kernel6Ideal.Lat

end
-- ==== Proof.Lat.Scratch.lean ====
/- What the latent attention call's scratch arrays hold at a grid point. -/
module

public import proofs.«01_k».proof.Proof.Lat.Read

@[expose] public section

set_option maxRecDepth 16384

noncomputable section

namespace Cert.Kernel6Ideal.Lat

open Cert.Kernel6Ideal Cert.Kernel6Ideal.Gen Idealize.ShloMosaic Idealize.ShloMosaic.TcCoe Idealize.SL.Sem
open Idealize.ShloMosaic.Pipeline (Dat)
open Cert.Att (hcol Fin')

/-! ## What the scratch arrays read back -/

section
variable {κ : Kind} {sp : Space} {sg : RefSig} {φ : EltTy} {Val : EltTy → Type} [∀ e, Nonempty (Val e)]

/-- Two blocks of rows stored one below the other, read back whole. -/
theorem two_blocks (v : View sg κ sp S1536x256 φ) (hP : ∀ a, ![512, 0] a + ![1024, 256] a ≤ S1536x256.size a) (hQ : ∀ a, ![0, 0] a + ![512, 256] a ≤ S1536x256.size a)
    (hB : ∀ a, ![0, 0] a + ![1536, 256] a ≤ S1536x256.size a) (P : S1024x256.Idx → Val φ) (Q : S512x256.Idx → Val φ) (j : Fin 1536) (c : Fin 256) :
    v.readCov [⟨Rect.unit ![512, 0] ![1024, 256] hP, P⟩, ⟨Rect.unit ![0, 0] ![512, 256] hQ, Q⟩] (Rect.unit ![0, 0] ![1536, 256] hB : Rect S1536x256).toLoadRect (ix2 j c : S1536x256.Idx)
      = if h : j.val < 512 then Q (ix2 ⟨j.val, h⟩ c) else P (ix2 ⟨j.val - 512, by omega⟩ c) := by
  rw [View.readCov_eq_canon']
  have hj : (Rect.unit ![0, 0] ![1536, 256] hB : Rect S1536x256).toLoadRect.idx (ix2 j c : S1536x256.Idx) = (ix2 j c : S1536x256.Idx) := by
    funext a; refine Fin.ext ?_; rw [LoadRect.idx_apply]; fin_cases a <;> simp
  show View.canon _ ((Rect.unit ![0, 0] ![1536, 256] hB : Rect S1536x256).toLoadRect.idx (ix2 j c : S1536x256.Idx)) = _
  rw [hj]
  by_cases h : j.val < 512
  · rw [dif_pos h, View.canon_cons_of_not_mem]
    · have e : (ix2 j c : S1536x256.Idx) = (Rect.unit ![0, 0] ![512, 256] hQ : Rect S1536x256).emb (ix2 ⟨j.val, h⟩ c : S512x256.Idx) := by
        funext a; refine Fin.ext ?_; rw [Rect.emb_apply]; fin_cases a <;> simp
      rw [e, View.canon_cons_emb]
    · intro hm
      have hm0 := ((Rect.mem_set_unit (inb := hP)).1 hm 0).1
      have : 512 ≤ j.val := hm0
      omega
  · rw [dif_neg h]
    have e : (ix2 j c : S1536x256.Idx) = (Rect.unit ![512, 0] ![1024, 256] hP : Rect S1536x256).emb (ix2 ⟨j.val - 512, by omega⟩ c : S1024x256.Idx) := by
      funext a; refine Fin.ext ?_; rw [Rect.emb_apply]; fin_cases a <;> simp; omega
    rw [e, View.canon_cons_emb]

/-- A window of rows of an array stored whole. -/
theorem window (v : View sg κ sp S1024x256 φ) (o : Nat) (hP : ∀ a, ![0, 0] a + ![1024, 256] a ≤ S1024x256.size a) (hB : ∀ a, ![o, 0] a + ![256, 256] a ≤ S1024x256.size a)
    (ho : o + 256 ≤ 1024) (P : S1024x256.Idx → Val φ) (i c : Fin 256) :
    v.readCov [⟨Rect.unit ![0, 0] ![1024, 256] hP, P⟩] (Rect.unit ![o, 0] ![256, 256] hB : Rect S1024x256).toLoadRect (ix2 i c : S256x256.Idx) = P (ix2 ⟨o + i.val, by omega⟩ c) := by
  rw [View.readCov_eq_canon']
  have e : (Rect.unit ![o, 0] ![256, 256] hB : Rect S1024x256).toLoadRect.idx (ix2 i c : S256x256.Idx) = (Rect.unit ![0, 0] ![1024, 256] hP : Rect S1024x256).emb (ix2 ⟨o + i.val, by omega⟩ c : S1024x256.Idx) := by
    funext a; refine Fin.ext ?_; rw [LoadRect.idx_apply, Rect.emb_apply]; fin_cases a <;> simp
  show View.canon _ ((Rect.unit ![o, 0] ![256, 256] hB : Rect S1024x256).toLoadRect.idx (ix2 i c : S256x256.Idx)) = _
  rw [e, View.canon_cons_emb]
end

variable (m : (ℓ : Loc nD τ sig) → Buf (Elt Ideal) ℓ) (ρ : Dev nD → PrngReg)

/-- The scratch arrays as point `t` fills them. -/
abbrev queriesAt (c : Dev nD) (t : Fin cfg0.N) : FVec Ideal S1024x256 .f32 :=
  k0_pay8 (F := Ideal) (View.ld (X0_0 m c t) (Rect.unit ![0, 0] ![1024, 256] inb_S1024x768_S1024x256_0_0)) (k0_pay3 (F := Ideal) (iblk m c 6 t)) (k0_pay4 (F := Ideal) (iblk m c 7 t)) k0_pay5 k0_pay6 k0_pay7
abbrev keysAt (c : Dev nD) (t : Fin cfg0.N) : FVec Ideal S1024x256 .f32 :=
  k0_pay11 (F := Ideal) (View.ld (X0_0 m c t) (Rect.unit ![0, 256] ![1024, 256] inb_S1024x768_S1024x256_0_256)) (k0_pay3 (F := Ideal) (iblk m c 6 t)) (k0_pay4 (F := Ideal) (iblk m c 7 t)) k0_pay10 248#32
abbrev valuesAt (c : Dev nD) (t : Fin cfg0.N) : FVec Ideal S1024x256 .f32 :=
  k0_pay13 (F := Ideal) (View.ld (X0_0 m c t) (Rect.unit ![0, 512] ![1024, 256] inb_S1024x768_S1024x256_0_512))

theorem turn_congr {y y' C C' S S' : Fin 256 → EReal} (hy : ∀ k, y k = y' k) (hC : ∀ k, C k = C' k) (hS : ∀ k, S k = S' k) (a : Fin 256) :
    Cert.Lat.turn y C S a = Cert.Lat.turn y' C' S' a := by
  rw [funext hy, funext hC, funext hS]

theorem ld0 (x : FVec Ideal S1024x768 .f32) (i : Fin 1024) (k : Fin 256) : (View.ld (S := S1024x768) (Val := Elt Ideal) (e' := .f32) x (Rect.unit ![0, 0] ![1024, 256] inb_S1024x768_S1024x256_0_0) : FVec Ideal S1024x256 .f32) (ix2 i k) = x (ix2 i ⟨k.val, by omega⟩) := by
  pointwise
theorem ld256 (x : FVec Ideal S1024x768 .f32) (i : Fin 1024) (k : Fin 256) : (View.ld (S := S1024x768) (Val := Elt Ideal) (e' := .f32) x (Rect.unit ![0, 256] ![1024, 256] inb_S1024x768_S1024x256_0_256) : FVec Ideal S1024x256 .f32) (ix2 i k) = x (ix2 i ⟨256 + k.val, by omega⟩) := by
  pointwise
theorem ld512 (x : FVec Ideal S1024x768 .f32) (i : Fin 1024) (k : Fin 256) : (View.ld (S := S1024x768) (Val := Elt Ideal) (e' := .f32) x (Rect.unit ![0, 512] ![1024, 256] inb_S1024x768_S1024x256_0_512) : FVec Ideal S1024x256 .f32) (ix2 i k) = x (ix2 i ⟨512 + k.val, by omega⟩) := by
  pointwise
theorem pay3_apply (x : FVec Ideal S1024x256 .f32) (i : Fin 1024) (k : Fin 256) : k0_pay3 (F := Ideal) x (ix2 i k) = x (ix2 i k) := by
  pointwise [k0_pay3]
theorem pay4_apply (x : FVec Ideal S1024x256 .f32) (i : Fin 1024) (k : Fin 256) : k0_pay4 (F := Ideal) x (ix2 i k) = x (ix2 i k) := by
  pointwise [k0_pay4]
theorem pay13_apply (x : FVec Ideal S1024x256 .f32) (i : Fin 1024) (k : Fin 256) : k0_pay13 (F := Ideal) x (ix2 i k) = x (ix2 i k) := by
  pointwise [k0_pay13]
theorem pay9_apply (x : FVec Ideal S1x512x256 .f32) (j : Fin 512) (k : Fin 256) : k0_pay9 (F := Ideal) x (ix2 j k) = x (ix3 0 j k) := by
  pointwise [k0_pay9]
theorem pay12_apply (x : FVec Ideal S1x512x256 .f32) (j : Fin 512) (k : Fin 256) : k0_pay12 (F := Ideal) x (ix2 j k) = x (ix3 0 j k) := by
  pointwise [k0_pay12]

theorem queriesAt_apply (c : Dev nD) (t : Fin cfg0.N) (i : Fin 1024) (a : Fin 256) : queriesAt m c t (ix2 i a) = Cert.Lat.qrow (proj m c) ⟨t.val, lt2 t⟩ i a := by
  rw [queriesAt, turn8_eq, turn_apply]
  unfold Cert.Lat.qrow
  refine turn_congr (fun k => ?_) (fun k => ?_) (fun k => ?_) a
  · exact (ld0 _ i k).trans (read0 m c t i _)
  · exact (pay3_apply _ i k).trans (read6 m c t i k)
  · exact (pay4_apply _ i k).trans (read7 m c t i k)

theorem keysAt_apply (c : Dev nD) (t : Fin cfg0.N) (i : Fin 1024) (a : Fin 256) : keysAt m c t (ix2 i a) = Cert.Lat.knew (proj m c) ⟨t.val, lt2 t⟩ i a := by
  rw [keysAt, turn_apply]
  unfold Cert.Lat.knew
  refine turn_congr (fun k => ?_) (fun k => ?_) (fun k => ?_) a
  · exact (ld256 _ i k).trans (read0 m c t i _)
  · exact (pay3_apply _ i k).trans (read6 m c t i k)
  · exact (pay4_apply _ i k).trans (read7 m c t i k)

theorem valuesAt_apply (c : Dev nD) (t : Fin cfg0.N) (i : Fin 1024) (a : Fin 256) : valuesAt m c t (ix2 i a) = Cert.Lat.vraw (proj m c) ⟨t.val, lt2 t⟩ i a := by
  exact (pay13_apply _ i a).trans ((ld512 _ i a).trans (read0 m c t i _))

/-- The blocks of rows the scratch arrays are stored by and read by. -/
abbrev rAll : Rect S1536x256 := Rect.unit ![0, 0] ![1536, 256] inb_S1536x256_S1536x256_0_0
abbrev rOld : Rect S1536x256 := Rect.unit ![0, 0] ![512, 256] inb_S1536x256_S512x256_0_0
abbrev rNew : Rect S1536x256 := Rect.unit ![512, 0] ![1024, 256] inb_S1536x256_S1024x256_512_0
abbrev rQueries : Rect S1024x256 := Rect.unit ![0, 0] ![1024, 256] inb_S1024x256_S1024x256_0_0
abbrev rTile (o : Nat) (hB : ∀ a, ![o, 0] a + ![256, 256] a ≤ S1024x256.size a) : Rect S1024x256 := Rect.unit ![o, 0] ![256, 256] hB

abbrev queryTile (c : Dev nD) (t : Fin cfg0.N) (o : Nat) (hB : ∀ a, ![o, 0] a + ![256, 256] a ≤ S1024x256.size a) : FVec Ideal S256x256 .f32 :=
  (View.whole cc0_scratch0).readCov (Val := Elt Ideal) [⟨rQueries, queriesAt m c t⟩] (rTile o hB).toLoadRect
abbrev allKeys (c : Dev nD) (t : Fin cfg0.N) : FVec Ideal S1536x256 .f32 :=
  (View.whole cc0_scratch1).readCov (Val := Elt Ideal) [⟨rNew, keysAt m c t⟩, ⟨rOld, k0_pay9 (F := Ideal) (iblk m c 8 t)⟩] rAll.toLoadRect
abbrev allValues (c : Dev nD) (t : Fin cfg0.N) : FVec Ideal S1536x256 .f32 :=
  (View.whole cc0_scratch2).readCov (Val := Elt Ideal) [⟨rNew, valuesAt m c t⟩, ⟨rOld, k0_pay12 (F := Ideal) (iblk m c 9 t)⟩] rAll.toLoadRect

theorem pay14_apply (x : FVec Ideal S1536x256 .f32) (y : S1536x256.Idx) : k0_pay14 (F := Ideal) x y = x y := rfl
theorem pay15_apply (x : FVec Ideal S1536x256 .f32) (y : S1536x256.Idx) : k0_pay15 (F := Ideal) x y = x y := rfl

theorem queries_read (c : Dev nD) (t : Fin cfg0.N) (o : Nat) (hB : ∀ a, ![o, 0] a + ![256, 256] a ≤ S1024x256.size a) (ho : o + 256 ≤ 1024) (i a : Fin 256) :
    queryTile m c t o hB (ix2 i a) = Cert.Lat.qrow (proj m c) ⟨t.val, lt2 t⟩ ⟨o + i.val, by omega⟩ a :=
  (window (Val := Elt Ideal) (φ := .f32) (View.whole cc0_scratch0) o _ hB ho (queriesAt m c t) i a).trans (queriesAt_apply m c t _ a)

theorem keys_read (c : Dev nD) (t : Fin cfg0.N) (j : Fin 1536) (a : Fin 256) :
    k0_pay14 (F := Ideal) (allKeys m c t) (ix2 j a) = Cert.Lat.krow (proj m c) (ck m c) ⟨t.val, lt2 t⟩ j a := by
  rw [pay14_apply]
  refine (two_blocks (Val := Elt Ideal) (φ := .f32) (View.whole cc0_scratch1) _ _ _ (keysAt m c t) (k0_pay9 (F := Ideal) (iblk m c 8 t)) j a).trans ?_
  unfold Cert.Lat.krow
  split_ifs with h
  · exact (pay9_apply _ ⟨j.val, h⟩ a).trans (read8 m c t ⟨j.val, h⟩ a)
  · exact keysAt_apply m c t _ a

theorem values_read (c : Dev nD) (t : Fin cfg0.N) (j : Fin 1536) (a : Fin 256) :
    k0_pay15 (F := Ideal) (allValues m c t) (ix2 j a) = Cert.Lat.vrow (proj m c) (cv m c) ⟨t.val, lt2 t⟩ j a := by
  rw [pay15_apply]
  refine (two_blocks (Val := Elt Ideal) (φ := .f32) (View.whole cc0_scratch2) _ _ _ (valuesAt m c t) (k0_pay12 (F := Ideal) (iblk m c 9 t)) j a).trans ?_
  unfold Cert.Lat.vrow
  split_ifs with h
  · exact (pay12_apply _ ⟨j.val, h⟩ a).trans (read9 m c t ⟨j.val, h⟩ a)
  · exact valuesAt_apply m c t _ a

end Cert.Kernel6Ideal.Lat

end
-- ==== Proof.Lat.Final.lean ====
/- The latent attention call's result array: each grid point writes its sequence's 1024 rows. -/
module

public import proofs.«01_k».proof.Proof.Lat.Scratch

@[expose] public section

set_option maxRecDepth 16384

noncomputable section

namespace Cert.Kernel6Ideal.Lat

open Cert.Kernel6Ideal Cert.Kernel6Ideal.Gen Idealize.ShloMosaic Idealize.ShloMosaic.TcCoe Idealize.SL.Sem
open Idealize.ShloMosaic.Pipeline (Dat)
open Cert.Att (hcol Fin')

variable (m : (ℓ : Loc nD τ sig) → Buf (Elt Ideal) ℓ) (ρ : Dev nD → PrngReg)

/-- The precondition, as it is used. -/
def Real (c : Dev nD) : Prop := Cert.Lat.Real (proj m c) (ck m c) (cv m c) ∧ ∀ (a : Fin 4) (d : Fin 32), Fin' (lamv m c (ix2 a d))

/-- One entry of the result. -/
def result (c : Dev nD) (b : Fin 2) (i : Fin 1024) (h : Fin 4) (e : Fin 64) : EReal :=
  Cert.Lat.out Cert.Att.wLam Cert.Att.wRest (Cert.Lat.qrow (proj m c) b i) (Cert.Lat.krow (proj m c) (ck m c) b) (Cert.Lat.vrow (proj m c) (cv m c) b) (fun a d => lamv m c (ix2 a d)) (fun e => nw m c (ix1 e)) h e

/-- The rows of the two mask blocks, as the body reads them. -/
def mapRows (c : Dev nD) (t : Fin cfg0.N) : Fin 8 → FVec Ideal S1x256 .f32 :=
  ![View.ld (iblk m c 3 t) (Rect.unit ![0, 0] ![1, 256] inb_S8x256_S1x256_0_0), View.ld (iblk m c 3 t) (Rect.unit ![1, 0] ![1, 256] inb_S8x256_S1x256_1_0),
    View.ld (iblk m c 3 t) (Rect.unit ![2, 0] ![1, 256] inb_S8x256_S1x256_2_0), View.ld (iblk m c 3 t) (Rect.unit ![3, 0] ![1, 256] inb_S8x256_S1x256_3_0),
    View.ld (iblk m c 3 t) (Rect.unit ![4, 0] ![1, 256] inb_S8x256_S1x256_4_0), View.ld (iblk m c 3 t) (Rect.unit ![5, 0] ![1, 256] inb_S8x256_S1x256_5_0),
    View.ld (iblk m c 3 t) (Rect.unit ![6, 0] ![1, 256] inb_S8x256_S1x256_6_0), View.ld (iblk m c 3 t) (Rect.unit ![7, 0] ![1, 256] inb_S8x256_S1x256_7_0)]
def headRows (c : Dev nD) (t : Fin cfg0.N) : Fin 4 → FVec Ideal S1x256 .f32 :=
  ![View.ld (iblk m c 4 t) (Rect.unit ![0, 0] ![1, 256] inb_S4x256_S1x256_0_0), View.ld (iblk m c 4 t) (Rect.unit ![1, 0] ![1, 256] inb_S4x256_S1x256_1_0),
    View.ld (iblk m c 4 t) (Rect.unit ![2, 0] ![1, 256] inb_S4x256_S1x256_2_0), View.ld (iblk m c 4 t) (Rect.unit ![3, 0] ![1, 256] inb_S4x256_S1x256_3_0)]

theorem mapRows_apply (c : Dev nD) (t : Fin cfg0.N) (r : Fin 8) (a : Fin 256) : mapRows m c t r (ix2 0 a) = if a.val / 32 = r.val then 1 else 0 := by
  unfold mapRows
  fin_cases r
  · pointwise; exact read3 m c t 0 a
  · pointwise; exact read3 m c t 1 a
  · pointwise; exact read3 m c t 2 a
  · pointwise; exact read3 m c t 3 a
  · pointwise; exact read3 m c t 4 a
  · pointwise; exact read3 m c t 5 a
  · pointwise; exact read3 m c t 6 a
  · pointwise; exact read3 m c t 7 a

theorem headRows_apply (c : Dev nD) (t : Fin cfg0.N) (h : Fin 4) (a : Fin 256) : headRows m c t h (ix2 0 a) = if a.val / 64 = h.val then 1 else 0 := by
  unfold headRows
  fin_cases h
  · pointwise; exact read4 m c t 0 a
  · pointwise; exact read4 m c t 1 a
  · pointwise; exact read4 m c t 2 a
  · pointwise; exact read4 m c t 3 a

/-- The tile of 256 queries from row `o` on is those rows of the result. -/
theorem tile_result (c : Dev nD) (hr : Real m c) (t : Fin cfg0.N) (o : Nat) (ho : o + 256 ≤ 1024) (q : FVec Ideal S256x256 .f32) (k v : FVec Ideal S1536x256 .bf16)
    (hq : ∀ i a : Fin 256, q (ix2 i a) = Cert.Lat.qrow (proj m c) ⟨t.val, lt2 t⟩ ⟨o + i.val, by omega⟩ a)
    (hk : ∀ (j : Fin 1536) (a : Fin 256), k (ix2 j a) = Cert.Lat.krow (proj m c) (ck m c) ⟨t.val, lt2 t⟩ j a)
    (hv : ∀ (j : Fin 1536) (a : Fin 256), v (ix2 j a) = Cert.Lat.vrow (proj m c) (cv m c) ⟨t.val, lt2 t⟩ j a)
    (g : Fin 8 → FVec Ideal S1x256 .f32) (p : Fin 4 → FVec Ideal S1x256 .f32) (hg : ∀ (r : Fin 8) (a : Fin 256), g r (ix2 0 a) = if a.val / 32 = r.val then 1 else 0)
    (hp : ∀ (h : Fin 4) (a : Fin 256), p h (ix2 0 a) = if a.val / 64 = h.val then 1 else 0)
    (x : S256x256.Idx) (i : Fin 1024) (h : Fin 4) (e : Fin 64) (hi : i.val = o + (x 0).val) (ha : (hcol h e).val = (x 1).val) :
    tile (k0_pay2 (F := Ideal) (iblk m c 1 t)) k v q g p (iblk m c 5 t) (iblk m c 2 t) x = result m c ⟨t.val, lt2 t⟩ i h e := by
  have ex : x = ix2 (x 0) (hcol h e) := (eq_ix2 x).trans ((ix2_inj ..).2 ⟨rfl, Fin.ext ha.symm⟩)
  have ei : (⟨o + (x 0).val, by have : (x 0).val < 256 := (x 0).isLt; omega⟩ : Fin 1024) = i := Fin.ext hi.symm
  rw [ex]
  refine (tile_apply _ _ _ _ _ _ _ _ (fun i => Cert.Lat.qrow (proj m c) ⟨t.val, lt2 t⟩ ⟨o + i.val, by omega⟩) _ _ (fun a d => lamv m c (ix2 a d)) (fun e => nw m c (ix1 e))
    hq hk hv (lam_eq _ _ (read1 m c t)) hg hp (read5 m c t) (read2 m c t)
    (fun i a => Cert.Lat.qrow_fin hr.1 _ _ a) (fun j a => Cert.Lat.krow_fin hr.1 _ j a) (fun j a => Cert.Lat.vrow_fin hr.1 _ j a) hr.2 h (x 0) e).trans ?_
  exact congrArg (fun i => result m c ⟨t.val, lt2 t⟩ i h e) ei

set_option maxHeartbeats 2000000 in
theorem left10 (c : Dev nD) (hr : Real m c) (t : Fin cfg0.N) (i : Fin 1024) (h : Fin 4) (e : Fin 64) :
    outsAt0 m c t (ix2 i (hcol h e)) = result m c ⟨t.val, lt2 t⟩ i h e := by
  unfold outsAt0
  frame_out
  canon_tiles x hx using View.cover_of_tiledBy _ ![256, 256] (by sl_kernel_rfl) _
  · have h0 : i.val = _ := hx0
    have h1 : (hcol h e).val = _ := hx1
    refine (congrFun (tile3_at _ _ _ _ _ _ _ _ _ _ _ _ _ _ _ _ _ _) x).trans ?_
    exact tile_result m c hr t 768 (by decide) _ _ _ (queries_read m c t 768 _ (by decide)) (keys_read m c t) (values_read m c t) _ _ (mapRows_apply m c t) (headRows_apply m c t) x i h e (by omega) (by omega)
  · have h0 : i.val = _ := hx0
    have h1 : (hcol h e).val = _ := hx1
    refine (congrFun (tile2_at _ _ _ _ _ _ _ _ _ _ _ _ _ _ _ _ _ _) x).trans ?_
    exact tile_result m c hr t 512 (by decide) _ _ _ (queries_read m c t 512 _ (by decide)) (keys_read m c t) (values_read m c t) _ _ (mapRows_apply m c t) (headRows_apply m c t) x i h e (by omega) (by omega)
  · have h0 : i.val = _ := hx0
    have h1 : (hcol h e).val = _ := hx1
    refine (congrFun (tile1_at _ _ _ _ _ _ _ _ _ _ _ _ _ _ _ _ _ _) x).trans ?_
    exact tile_result m c hr t 256 (by decide) _ _ _ (queries_read m c t 256 _ (by decide)) (keys_read m c t) (values_read m c t) _ _ (mapRows_apply m c t) (headRows_apply m c t) x i h e (by omega) (by omega)
  · have h0 : i.val = _ := hx0
    have h1 : (hcol h e).val = _ := hx1
    refine (congrFun (tile0_at _ _ _ _ _ _ _ _ _ _ _ _ _ _ _ _ _ _) x).trans ?_
    exact tile_result m c hr t 0 (by decide) _ _ _ (queries_read m c t 0 _ (by decide)) (keys_read m c t) (values_read m c t) _ _ (mapRows_apply m c t) (headRows_apply m c t) x i h e (by omega) (by omega)

/-- The result array. -/
def attArr (c : Dev nD) : FVec Ideal S2048x256 .f32 := fun y =>
  result m c ⟨(y 0).val / 1024, Nat.div_lt_of_lt_mul (y 0).isLt⟩ ⟨(y 0).val % 1024, Nat.mod_lt _ (by decide)⟩
    ⟨(y 1).val / 64, Nat.div_lt_of_lt_mul (y 1).isLt⟩ ⟨(y 1).val % 64, Nat.mod_lt _ (by decide)⟩

/-- Row `i` of sequence `b`. -/
def srow (b : Fin 2) (i : Fin 1024) : Fin 2048 := ⟨b.val * 1024 + i.val, by omega⟩

theorem attArr_apply (c : Dev nD) (b : Fin 2) (i : Fin 1024) (h : Fin 4) (e : Fin 64) : attArr m c (ix2 (srow b i) (hcol h e)) = result m c b i h e := by
  have h1 : (⟨(b.val * 1024 + i.val) / 1024, by omega⟩ : Fin 2) = b := Fin.ext (by simp only; omega)
  have h2 : (⟨(b.val * 1024 + i.val) % 1024, by omega⟩ : Fin 1024) = i := Fin.ext (by simp only; omega)
  have h3 : (⟨(h.val * 64 + e.val) / 64, by omega⟩ : Fin 4) = h := Fin.ext (by simp only; omega)
  have h4 : (⟨(h.val * 64 + e.val) % 64, by omega⟩ : Fin 64) = e := Fin.ext (by simp only; omega)
  show result m c ⟨(b.val * 1024 + i.val) / 1024, _⟩ ⟨(b.val * 1024 + i.val) % 1024, _⟩ ⟨(h.val * 64 + e.val) / 64, _⟩ ⟨(h.val * 64 + e.val) % 64, _⟩ = _
  rw [h1, h2, h3, h4]

theorem final10 (c : Dev nD) (hr : Real m c) : (dats m 0 c).arrAt 10 (cfgs 0).N = attArr m c := by
  refine (dats m 0 c).arrAt_eq_of_covers 10 _ (by decide +kernel) fun t _ y => ?_
  blk_simp
  rw [after0_10]
  obtain ⟨i, k, rfl⟩ : ∃ (i : Fin 1024) (k : Fin 256), y = ix2 i k := ⟨y 0, y 1, eq_ix2 y⟩
  obtain ⟨h, e, rfl⟩ := Cert.KernelIdeal.Att.column k
  have e0 : (win0_10.blk t).view.emb (ix2 i (hcol h e)) = ix2 (srow ⟨t.val, lt2 t⟩ i) (hcol h e) := by
    unfold srow
    blk_ext [idx t]
  rw [e0]
  exact (left10 m c hr t i h e).trans (attArr_apply m c ⟨t.val, lt2 t⟩ i h e).symm

end Cert.Kernel6Ideal.Lat

end
-- ==== Proof.Lat.Ref.lean ====
/- The latent attention's reference, read at an index. -/
module

public import proofs.«01_k».proof.Proof.Gen.Reference6Ideal.Run
public import proofs.«01_k».proof.Proof.Lat.Rows
public import Idealize.ShloMosaic.Lib.Pointwise

@[expose] public section

set_option maxRecDepth 16384

noncomputable section

namespace Cert.Reference6Ideal.Lat

open Cert.Reference6Ideal Cert.Reference6Ideal.Gen Idealize.ShloMosaic Idealize.ShloMosaic.TcCoe Idealize.SL.Sem
open Cert.Lat (mcol fst snd pair turn)
open Cert.Att (hcol)

section
variable (a0 : FVec Ideal S10240x3968 .f32) (a1 : FVec Ideal S4x32 .f32) (w : FVec Ideal S64 .f32) (ck cv : FVec Ideal S2x4x512x64 .f32)

abbrev qkv : FVec Ideal S2x1024x768 .f32 :=
  shapeCast _ (extractStridedSlice S2048x768 ![8192, 3072] a0 slices_S10240x3968_S2048x768_8192_3072) shapeCasts_S2048x768_S2x1024x768
def dq : FVec Ideal S2x4x1024x64 .f32 := transpose S2x4x1024x64 [0, 2, 1, 3] (shapeCast _ (extractStridedSlice S2x1024x256 ![0, 0, 0] (qkv a0) slices_S2x1024x768_S2x1024x256_0_0_0) shapeCasts_S2x1024x256_S2x1024x4x64) transposes_S2x1024x4x64_S2x4x1024x64_0_2_1_3
def dk : FVec Ideal S2x4x1024x64 .f32 := transpose S2x4x1024x64 [0, 2, 1, 3] (shapeCast _ (extractStridedSlice S2x1024x256 ![0, 0, 256] (qkv a0) slices_S2x1024x768_S2x1024x256_0_0_256) shapeCasts_S2x1024x256_S2x1024x4x64) transposes_S2x1024x4x64_S2x4x1024x64_0_2_1_3
def dv : FVec Ideal S2x4x1024x64 .f32 := transpose S2x4x1024x64 [0, 2, 1, 3] (shapeCast _ (extractStridedSlice S2x1024x256 ![0, 0, 512] (qkv a0) slices_S2x1024x768_S2x1024x256_0_0_512) shapeCasts_S2x1024x256_S2x1024x4x64) transposes_S2x1024x4x64_S2x4x1024x64_0_2_1_3

def left (x : FVec Ideal S2x4x1024x64 .f32) : FVec Ideal S2x4x1024x32 .f32 := extractStridedSlice S2x4x1024x32 ![0, 0, 0, 0] x slices_S2x4x1024x64_S2x4x1024x32_0_0_0_0
def right (x : FVec Ideal S2x4x1024x64 .f32) : FVec Ideal S2x4x1024x32 .f32 := extractStridedSlice S2x4x1024x32 ![0, 0, 0, 32] x slices_S2x4x1024x64_S2x4x1024x32_0_0_0_32
def oldLeft : FVec Ideal S2x4x512x32 .f32 := extractStridedSlice S2x4x512x32 ![0, 0, 0, 0] ck slices_S2x4x512x64_S2x4x512x32_0_0_0_0
def oldRight : FVec Ideal S2x4x512x32 .f32 := extractStridedSlice S2x4x512x32 ![0, 0, 0, 32] ck slices_S2x4x512x64_S2x4x512x32_0_0_0_32

/-- A half turned by its positions' angles. -/
def rope (C S : FVec Ideal S1024x32 .f32) (x : FVec Ideal S2x4x1024x32 .f32) : FVec Ideal S2x4x1024x32 .f32 :=
  addf (mulf x (broadcastInDim S2x4x1024x32 ![0, 1, 2, 3] bcast_S1x1x1024x32_S2x4x1024x32_0_1_2_3 (broadcastInDim S1x1x1024x32 ![2, 3] bcast_S1024x32_S1x1x1024x32_2_3 C))) (mulf ((concatenate S2x4x1024x32 3 [⟨S2x4x1024x8, ((Host.negf (extractStridedSlice S2x4x1024x8 ![0, 0, 0, 8] x slices_S2x4x1024x32_S2x4x1024x8_0_0_0_8)) : FVec Ideal S2x4x1024x8 .f32)⟩, ⟨S2x4x1024x8, ((extractStridedSlice S2x4x1024x8 ![0, 0, 0, 0] x slices_S2x4x1024x32_S2x4x1024x8_0_0_0_0) : FVec Ideal S2x4x1024x8 .f32)⟩, ⟨S2x4x1024x8, ((Host.negf (extractStridedSlice S2x4x1024x8 ![0, 0, 0, 24] x slices_S2x4x1024x32_S2x4x1024x8_0_0_0_24)) : FVec Ideal S2x4x1024x8 .f32)⟩, ⟨S2x4x1024x8, ((extractStridedSlice S2x4x1024x8 ![0, 0, 0, 16] x slices_S2x4x1024x32_S2x4x1024x8_0_0_0_16) : FVec Ideal S2x4x1024x8 .f32)⟩] concatenates_S2x4x1024x8_S2x4x1024x8_S2x4x1024x8_S2x4x1024x8_S2x4x1024x32_d3 : FVec Ideal S2x4x1024x32 .f32)) (broadcastInDim S2x4x1024x32 ![0, 1, 2, 3] bcast_S1x1x1024x32_S2x4x1024x32_0_1_2_3 (broadcastInDim S1x1x1024x32 ![2, 3] bcast_S1024x32_S1x1x1024x32_2_3 S)))

def keys (old : FVec Ideal S2x4x512x32 .f32) (new : FVec Ideal S2x4x1024x32 .f32) : FVec Ideal S2x4x1536x32 .f32 :=
  concatenate S2x4x1536x32 2 [⟨S2x4x512x32, old⟩, ⟨S2x4x1024x32, new⟩] concatenates_S2x4x512x32_S2x4x1024x32_S2x4x1536x32_d2
def values (old : FVec Ideal S2x4x512x64 .f32) (new : FVec Ideal S2x4x1024x64 .f32) : FVec Ideal S2x4x1536x64 .f32 :=
  concatenate S2x4x1536x64 2 [⟨S2x4x512x64, old⟩, ⟨S2x4x1024x64, new⟩] concatenates_S2x4x512x64_S2x4x1024x64_S2x4x1536x64_d2
def score (q : FVec Ideal S2x4x1024x32 .f32) (k : FVec Ideal S2x4x1536x32 .f32) : FVec Ideal S2x4x1024x1536 .f32 :=
  mulf (Host.dotGeneral dot_S2x4x1024x32_S2x4x1536x32_S2x4x1024x1536_3_3_2_2_01_01 none q k) (broadcastInDim S2x4x1024x1536 ![] bcast_S_S2x4x1024x1536 (constant S_ .f32 0x3E3504F3#32))
def top (s : FVec Ideal S2x4x1024x1536 .f32) : FVec Ideal S2x4x1024 .f32 :=
  Host.reduce FloatOps.maximumf s (constant S_ .f32 0xFF800000#32) reducesTo_S2x4x1024x1536_S2x4x1024_d3 h_S_
def lift (t : FVec Ideal S2x4x1024 .f32) : FVec Ideal S2x4x1024 .f32 :=
  maximumf (broadcastInDim S2x4x1024 ![] bcast_S_S2x4x1024 (constant S_ .f32 0xFF800000#32)) t
def shifted (s : FVec Ideal S2x4x1024x1536 .f32) (t : FVec Ideal S2x4x1024 .f32) : FVec Ideal S2x4x1024x1536 .f32 :=
  Host.exp (subf s (broadcastInDim S2x4x1024x1536 ![0, 1, 2, 3] bcast_S2x4x1024x1_S2x4x1024x1536_0_1_2_3 (broadcastInDim S2x4x1024x1 ![0, 1, 2] bcast_S2x4x1024_S2x4x1024x1_0_1_2 t)))
def expo (s : FVec Ideal S2x4x1024x1536 .f32) : FVec Ideal S2x4x1024x1536 .f32 := shifted s (lift (top s))
def prob (e : FVec Ideal S2x4x1024x1536 .f32) : FVec Ideal S2x4x1024x1536 .f32 :=
  Host.divf e (broadcastInDim S2x4x1024x1536 ![0, 1, 2, 3] bcast_S2x4x1024x1_S2x4x1024x1536_0_1_2_3 (broadcastInDim S2x4x1024x1 ![0, 1, 2] bcast_S2x4x1024_S2x4x1024x1_0_1_2 (Host.reduceAdd e (constant S_ .f32 0x00000000#32) reducesTo_S2x4x1024x1536_S2x4x1024_d3 h_S_)))
def lam : FVec Ideal S_ .f32 :=
  addf (subf (Host.exp (Host.reduceAdd (mulf (shapeCast S32 (extractStridedSlice S1x32 ![0, 0] a1 slices_S4x32_S1x32_0_0) shapeCasts_S1x32_S32) (shapeCast S32 (extractStridedSlice S1x32 ![1, 0] a1 slices_S4x32_S1x32_1_0) shapeCasts_S1x32_S32)) (constant S_ .f32 0x00000000#32) reducesTo_S32_S_d0 h_S_)) (Host.exp (Host.reduceAdd (mulf (shapeCast S32 (extractStridedSlice S1x32 ![2, 0] a1 slices_S4x32_S1x32_2_0) shapeCasts_S1x32_S32) (shapeCast S32 (extractStridedSlice S1x32 ![3, 0] a1 slices_S4x32_S1x32_3_0) shapeCasts_S1x32_S32)) (constant S_ .f32 0x00000000#32) reducesTo_S32_S_d0 h_S_))) (constant S_ .f32 0x3E4CCCCD#32)
def head (l : FVec Ideal S_ .f32) (p1 p2 : FVec Ideal S2x4x1024x1536 .f32) (v : FVec Ideal S2x4x1536x64 .f32) : FVec Ideal S2x4x1024x64 .f32 :=
  Host.dotGeneral dot_S2x4x1024x1536_S2x4x1536x64_S2x4x1024x64_3_2_2_3_01_01 none (subf p1 (mulf (broadcastInDim S2x4x1024x1536 ![] bcast_S_S2x4x1024x1536 l) p2)) v
def normed (o : FVec Ideal S2x4x1024x64 .f32) : FVec Ideal S2048x256 .f32 :=
  mulf (shapeCast S2048x256 (transpose S2x1024x4x64 [0, 2, 1, 3] (mulf (mulf o (broadcastInDim S2x4x1024x64 ![0, 1, 2, 3] bcast_S2x4x1024x1_S2x4x1024x64_0_1_2_3 (Host.rsqrt (addf (Host.divf (broadcastInDim S2x4x1024x1 ![0, 1, 2] bcast_S2x4x1024_S2x4x1024x1_0_1_2 (Host.reduceAdd (mulf o o) (constant S_ .f32 0x00000000#32) reducesTo_S2x4x1024x64_S2x4x1024_d3 h_S_)) (broadcastInDim S2x4x1024x1 ![] bcast_S_S2x4x1024x1 (constant S_ .f32 0x42800000#32))) (broadcastInDim S2x4x1024x1 ![] bcast_S_S2x4x1024x1 (constant S_ .f32 0x358637BD#32)))))) (broadcastInDim S2x4x1024x64 ![0, 1, 2, 3] bcast_S1x1x1x64_S2x4x1024x64_0_1_2_3 (broadcastInDim S1x1x1x64 ![3] bcast_S64_S1x1x1x64_3 w))) transposes_S2x4x1024x64_S2x1024x4x64_0_2_1_3) shapeCasts_S2x1024x4x64_S2048x256) (broadcastInDim S2048x256 ![] bcast_S_S2048x256 (constant S_ .f32 0x3F4CCCCD#32))

/-- The column a turn pairs with column `d` of a half. -/
def mate (d : Fin 32) : Fin 32 := if h : d.val % 16 < 8 then ⟨d.val + 8, by omega⟩ else ⟨d.val - 8, by omega⟩

theorem dq_left (b : Fin 2) (h : Fin 4) (i : Fin 1024) (d : Fin 32) : left (dq a0) (ix4 b h i d) = Cert.Lat.qraw a0 b i (mcol (fst h) d) := by
  have e : left (dq a0) (ix4 b h i d) = a0 (ix2 ⟨8192 + (b.val * 1024 + i.val), by omega⟩ ⟨3072 + (h.val * 64 + d.val), by omega⟩) := by
    pointwise [left, dq, qkv]
  rw [e]
  exact congrArg a0 ((ix2_inj ..).2 ⟨rfl, Fin.ext (by unfold mcol fst; simp only; omega)⟩)
theorem dq_right (b : Fin 2) (h : Fin 4) (i : Fin 1024) (d : Fin 32) : right (dq a0) (ix4 b h i d) = Cert.Lat.qraw a0 b i (mcol (snd h) d) := by
  have e : right (dq a0) (ix4 b h i d) = a0 (ix2 ⟨8192 + (b.val * 1024 + i.val), by omega⟩ ⟨3072 + (h.val * 64 + (32 + d.val)), by omega⟩) := by
    pointwise [right, dq, qkv]
  rw [e]
  exact congrArg a0 ((ix2_inj ..).2 ⟨rfl, Fin.ext (by unfold mcol snd; simp only; omega)⟩)
theorem dk_left (b : Fin 2) (h : Fin 4) (i : Fin 1024) (d : Fin 32) : left (dk a0) (ix4 b h i d) = Cert.Lat.kraw a0 b i (mcol (fst h) d) := by
  have e : left (dk a0) (ix4 b h i d) = a0 (ix2 ⟨8192 + (b.val * 1024 + i.val), by omega⟩ ⟨3072 + (256 + (h.val * 64 + d.val)), by omega⟩) := by
    pointwise [left, dk, qkv]
  rw [e]
  exact congrArg a0 ((ix2_inj ..).2 ⟨rfl, Fin.ext (by unfold mcol fst; simp only; omega)⟩)
theorem dk_right (b : Fin 2) (h : Fin 4) (i : Fin 1024) (d : Fin 32) : right (dk a0) (ix4 b h i d) = Cert.Lat.kraw a0 b i (mcol (snd h) d) := by
  have e : right (dk a0) (ix4 b h i d) = a0 (ix2 ⟨8192 + (b.val * 1024 + i.val), by omega⟩ ⟨3072 + (256 + (h.val * 64 + (32 + d.val))), by omega⟩) := by
    pointwise [right, dk, qkv]
  rw [e]
  exact congrArg a0 ((ix2_inj ..).2 ⟨rfl, Fin.ext (by unfold mcol snd; simp only; omega)⟩)
theorem dv_apply (b : Fin 2) (h : Fin 4) (i : Fin 1024) (e : Fin 64) : dv a0 (ix4 b h i e) = Cert.Lat.vraw a0 b i (hcol h e) := by
  have e1 : dv a0 (ix4 b h i e) = a0 (ix2 ⟨8192 + (b.val * 1024 + i.val), by omega⟩ ⟨3072 + (512 + (h.val * 64 + e.val)), by omega⟩) := by
    pointwise [dv, qkv]
  rw [e1]
  rfl
theorem oldLeft_apply (b : Fin 2) (h : Fin 4) (j : Fin 512) (d : Fin 32) : oldLeft ck (ix4 b h j d) = Cert.Lat.cached ck b j (mcol (fst h) d) := by
  have e : oldLeft ck (ix4 b h j d) = ck (ix4 b h j ⟨d.val, by omega⟩) := by pointwise [oldLeft]
  rw [e]
  exact congrArg ck ((ix4_inj ..).2 ⟨rfl, Fin.ext (by unfold mcol fst; simp only; omega), rfl, Fin.ext (by unfold mcol fst; simp only; omega)⟩)
theorem oldRight_apply (b : Fin 2) (h : Fin 4) (j : Fin 512) (d : Fin 32) : oldRight ck (ix4 b h j d) = Cert.Lat.cached ck b j (mcol (snd h) d) := by
  have e : oldRight ck (ix4 b h j d) = ck (ix4 b h j ⟨32 + d.val, by omega⟩) := by pointwise [oldRight]
  rw [e]
  exact congrArg ck ((ix4_inj ..).2 ⟨rfl, Fin.ext (by unfold mcol snd; simp only; omega), rfl, Fin.ext (by unfold mcol snd; simp only; omega)⟩)
theorem old_apply (b : Fin 2) (h : Fin 4) (j : Fin 512) (e : Fin 64) : cv (ix4 b h j e) = Cert.Lat.cached cv b j (hcol h e) :=
  congrArg cv ((ix4_inj ..).2 ⟨rfl, Fin.ext (by unfold hcol; simp only; omega), rfl, Fin.ext (by unfold hcol; simp only; omega)⟩)

theorem rope0 (C S : FVec Ideal S1024x32 .f32) (x : FVec Ideal S2x4x1024x32 .f32) (b : Fin 2) (h : Fin 4) (i : Fin 1024) (q : Fin 8) :
    rope C S x (ix4 b h i ⟨0 + q.val, by omega⟩) = x (ix4 b h i ⟨0 + q.val, by omega⟩) * C (ix2 i ⟨0 + q.val, by omega⟩) + -x (ix4 b h i ⟨8 + q.val, by omega⟩) * S (ix2 i ⟨0 + q.val, by omega⟩) := by
  pointwise [rope]
  repeat (first | rw [dif_pos (by omega)] | rw [dif_neg (by omega)])
  all_goals first
  | rfl
  | exact congrArg (fun z => _ + -x (ix4 b h i z) * _) (Fin.ext (by first | omega | (simp only; omega)))
theorem rope1 (C S : FVec Ideal S1024x32 .f32) (x : FVec Ideal S2x4x1024x32 .f32) (b : Fin 2) (h : Fin 4) (i : Fin 1024) (q : Fin 8) :
    rope C S x (ix4 b h i ⟨8 + q.val, by omega⟩) = x (ix4 b h i ⟨8 + q.val, by omega⟩) * C (ix2 i ⟨8 + q.val, by omega⟩) + x (ix4 b h i ⟨0 + q.val, by omega⟩) * S (ix2 i ⟨8 + q.val, by omega⟩) := by
  pointwise [rope]
  repeat (first | rw [dif_pos (by omega)] | rw [dif_neg (by omega)])
  all_goals first
  | rfl
  | exact congrArg (fun z => _ + x (ix4 b h i z) * _) (Fin.ext (by first | omega | (simp only; omega)))
theorem rope2 (C S : FVec Ideal S1024x32 .f32) (x : FVec Ideal S2x4x1024x32 .f32) (b : Fin 2) (h : Fin 4) (i : Fin 1024) (q : Fin 8) :
    rope C S x (ix4 b h i ⟨16 + q.val, by omega⟩) = x (ix4 b h i ⟨16 + q.val, by omega⟩) * C (ix2 i ⟨16 + q.val, by omega⟩) + -x (ix4 b h i ⟨24 + q.val, by omega⟩) * S (ix2 i ⟨16 + q.val, by omega⟩) := by
  pointwise [rope]
  repeat (first | rw [dif_pos (by omega)] | rw [dif_neg (by omega)])
  all_goals first
  | rfl
  | exact congrArg (fun z => _ + -x (ix4 b h i z) * _) (Fin.ext (by first | omega | (simp only; omega)))
theorem rope3 (C S : FVec Ideal S1024x32 .f32) (x : FVec Ideal S2x4x1024x32 .f32) (b : Fin 2) (h : Fin 4) (i : Fin 1024) (q : Fin 8) :
    rope C S x (ix4 b h i ⟨24 + q.val, by omega⟩) = x (ix4 b h i ⟨24 + q.val, by omega⟩) * C (ix2 i ⟨24 + q.val, by omega⟩) + x (ix4 b h i ⟨16 + q.val, by omega⟩) * S (ix2 i ⟨24 + q.val, by omega⟩) := by
  pointwise [rope]
  repeat (first | rw [dif_pos (by omega)] | rw [dif_neg (by omega)])
  all_goals first
  | rfl
  | exact congrArg (fun z => _ + x (ix4 b h i z) * _) (Fin.ext (by first | omega | (simp only; omega)))
theorem mate_eq (d : Fin 32) (n : ℕ) (hn : n < 32) (hd : n = if d.val % 16 < 8 then d.val + 8 else d.val - 8) : mate d = ⟨n, hn⟩ := by
  unfold mate
  split_ifs at hd ⊢ <;> exact Fin.ext hd.symm
theorem rope_apply (C S : FVec Ideal S1024x32 .f32) (x : FVec Ideal S2x4x1024x32 .f32) (b : Fin 2) (h : Fin 4) (i : Fin 1024) (d : Fin 32) :
    rope C S x (ix4 b h i d) = x (ix4 b h i d) * C (ix2 i d) + (if d.val % 16 < 8 then -x (ix4 b h i (mate d)) else x (ix4 b h i (mate d))) * S (ix2 i d) := by
  obtain ⟨d, dlt⟩ := d
  rcases (show d < 8 ∨ (8 ≤ d ∧ d < 16) ∨ (16 ≤ d ∧ d < 24) ∨ 24 ≤ d by omega) with hd | hd | hd | hd
  · obtain ⟨q, rfl⟩ : ∃ q : Fin 8, 0 + q.val = d := ⟨⟨d - 0, by omega⟩, by simp only; omega⟩
    have hc : (0 + q.val) % 16 < 8 := by omega
    rw [rope0, if_pos hc, mate_eq _ (8 + q.val) (by omega) (by rw [if_pos hc]; simp only; omega)]
  · obtain ⟨q, rfl⟩ : ∃ q : Fin 8, 8 + q.val = d := ⟨⟨d - 8, by omega⟩, by simp only; omega⟩
    have hc : ¬ (8 + q.val) % 16 < 8 := by omega
    rw [rope1, if_neg hc, mate_eq _ (0 + q.val) (by omega) (by rw [if_neg hc]; simp only; omega)]
  · obtain ⟨q, rfl⟩ : ∃ q : Fin 8, 16 + q.val = d := ⟨⟨d - 16, by omega⟩, by simp only; omega⟩
    have hc : (16 + q.val) % 16 < 8 := by omega
    rw [rope2, if_pos hc, mate_eq _ (24 + q.val) (by omega) (by rw [if_pos hc]; simp only; omega)]
  · obtain ⟨q, rfl⟩ : ∃ q : Fin 8, 24 + q.val = d := ⟨⟨d - 24, by omega⟩, by simp only; omega⟩
    have hc : ¬ (24 + q.val) % 16 < 8 := by omega
    rw [rope3, if_neg hc, mate_eq _ (16 + q.val) (by omega) (by rw [if_neg hc]; simp only; omega)]

theorem keys_apply (old : FVec Ideal S2x4x512x32 .f32) (new : FVec Ideal S2x4x1024x32 .f32) (b : Fin 2) (h : Fin 4) (j : Fin 1536) (d : Fin 32) :
    keys old new (ix4 b h j d) = if hj : j.val < 512 then old (ix4 b h ⟨j.val, hj⟩ d) else new (ix4 b h ⟨j.val - 512, by omega⟩ d) := by
  pointwise [keys]
theorem values_apply (old : FVec Ideal S2x4x512x64 .f32) (new : FVec Ideal S2x4x1024x64 .f32) (b : Fin 2) (h : Fin 4) (j : Fin 1536) (e : Fin 64) :
    values old new (ix4 b h j e) = if hj : j.val < 512 then old (ix4 b h ⟨j.val, hj⟩ e) else new (ix4 b h ⟨j.val - 512, by omega⟩ e) := by
  pointwise [values]
theorem score_apply (q : FVec Ideal S2x4x1024x32 .f32) (k : FVec Ideal S2x4x1536x32 .f32) (b : Fin 2) (h : Fin 4) (i : Fin 1024) (j : Fin 1536) :
    score q k (ix4 b h i j) = (∑ d : Fin 32, q (ix4 b h i d) * k (ix4 b h j d)) * Cert.Att.wScale := by
  pointwise [score]
theorem top_apply (s : FVec Ideal S2x4x1024x1536 .f32) (b : Fin 2) (h : Fin 4) (i : Fin 1024) :
    top s (ix3 b h i) = Finset.univ.fold max Cert.Att.wStart fun k : Fin 1536 => s (ix4 b h i k) := by
  pointwise [top, Cert.Att.wStart]
theorem lift_apply (t : FVec Ideal S2x4x1024 .f32) (j : S2x4x1024.Idx) : lift t j = max Cert.Att.wStart (t j) := rfl
theorem shifted_apply (s : FVec Ideal S2x4x1024x1536 .f32) (t : FVec Ideal S2x4x1024 .f32) (b : Fin 2) (h : Fin 4) (i : Fin 1024) (j : Fin 1536) :
    shifted s t (ix4 b h i j) = Ideal.exp (s (ix4 b h i j) - t (ix3 b h i)) := by
  pointwise [shifted]
theorem expo_apply (s : FVec Ideal S2x4x1024x1536 .f32) (b : Fin 2) (h : Fin 4) (i : Fin 1024) (j : Fin 1536) :
    expo s (ix4 b h i j) = Ideal.exp (s (ix4 b h i j) - Finset.univ.fold max Cert.Att.wStart fun k : Fin 1536 => s (ix4 b h i k)) := by
  rw [expo, shifted_apply, lift_apply, top_apply]
  exact congrArg (fun y => Ideal.exp (s (ix4 b h i j) - y)) (Cert.Att.max_start _ _)
theorem prob_apply (e : FVec Ideal S2x4x1024x1536 .f32) (b : Fin 2) (h : Fin 4) (i : Fin 1024) (j : Fin 1536) :
    prob e (ix4 b h i j) = Ideal.div (e (ix4 b h i j)) (∑ k : Fin 1536, e (ix4 b h i k)) := by
  pointwise [prob]
theorem lam_apply (o : S_.Idx) : lam a1 o = Cert.Att.lam Cert.Att.wLam fun a d => a1 (ix2 a d) := by
  pointwise [lam, Cert.Att.lam]
theorem head_apply (l : FVec Ideal S_ .f32) (p1 p2 : FVec Ideal S2x4x1024x1536 .f32) (v : FVec Ideal S2x4x1536x64 .f32) (b : Fin 2) (h : Fin 4) (i : Fin 1024) (e : Fin 64) :
    head l p1 p2 v (ix4 b h i e) = ∑ j : Fin 1536, (p1 (ix4 b h i j) - l ix0 * p2 (ix4 b h i j)) * v (ix4 b h j e) := by
  pointwise [head]
theorem normed_apply (o : FVec Ideal S2x4x1024x64 .f32) (b : Fin 2) (h : Fin 4) (i : Fin 1024) (e : Fin 64) :
    normed w o (ix2 ⟨b.val * 1024 + i.val, by omega⟩ ⟨h.val * 64 + e.val, by omega⟩)
      = o (ix4 b h i e) * Ideal.rsqrt (Ideal.div (∑ k : Fin 64, o (ix4 b h i k) * o (ix4 b h i k)) Cert.Att.w64 + Cert.Att.wEps) * w (ix1 e) * Cert.Att.wRest := by
  pointwise [normed]

/-! ## The reference's stages are the rows' -/

theorem turn_mcol (y : Fin 256 → EReal) (i : Fin 1024) (r : Fin 8) (d : Fin 32) :
    turn y (Cert.Lat.C i) (Cert.Lat.S i) (mcol r d) = y (mcol r d) * Host.cos Cert.Lat.ang (ix2 i d)
      + (if d.val % 16 < 8 then -y (mcol r (mate d)) else y (mcol r (mate d))) * Host.sin Cert.Lat.ang (ix2 i d) := by
  have e1 : (mcol r d).val % 16 = d.val % 16 := by unfold mcol; simp only; omega
  have e2 : pair (mcol r d) = mcol r (mate d) := by
    unfold pair mate mcol
    split_ifs <;> first | exact Fin.ext (by simp only; omega) | (exfalso; simp only at *; omega)
  have e3 : (⟨(mcol r d).val % 32, Nat.mod_lt _ (by decide)⟩ : Fin 32) = d := Fin.ext (by unfold mcol; simp only; omega)
  unfold turn Cert.Lat.C Cert.Lat.S
  rw [e1, e2, e3]
  rfl

/-- A half turned is the row turned. -/
theorem rope_eq (x : FVec Ideal S2x4x1024x32 .f32) (y : Fin 2 → Fin 1024 → Fin 256 → EReal) (r : Fin 4 → Fin 8) (hx : ∀ b h i d, x (ix4 b h i d) = y b i (mcol (r h) d))
    (b : Fin 2) (h : Fin 4) (i : Fin 1024) (d : Fin 32) :
    rope (Host.cos (F := Ideal) Cert.Lat.ang) (Host.sin (F := Ideal) Cert.Lat.ang) x (ix4 b h i d) = turn (y b i) (Cert.Lat.C i) (Cert.Lat.S i) (mcol (r h) d) := by
  rw [rope_apply, turn_mcol, hx, hx]

def ropeA (x : FVec Ideal S2x4x1024x32 .f32) : FVec Ideal S2x4x1024x32 .f32 := rope (Host.cos (F := Ideal) Cert.Lat.ang) (Host.sin (F := Ideal) Cert.Lat.ang) x
def score1 : FVec Ideal S2x4x1024x1536 .f32 := score (ropeA (left (dq a0))) (keys (oldLeft ck) (ropeA (left (dk a0))))
def score2 : FVec Ideal S2x4x1024x1536 .f32 := score (ropeA (right (dq a0))) (keys (oldRight ck) (ropeA (right (dk a0))))

theorem score1_eq (b : Fin 2) (h : Fin 4) (i : Fin 1024) (j : Fin 1536) :
    score1 a0 ck (ix4 b h i j) = Cert.Lat.score (Cert.Lat.qrow a0 b i) (Cert.Lat.krow a0 ck b) (fst h) j := by
  rw [score1, score_apply]
  unfold Cert.Lat.score
  congr 1
  refine Finset.sum_congr rfl fun d _ => congrArg₂ (· * ·) (rope_eq _ (Cert.Lat.qraw a0) fst (dq_left a0) b h i d) ?_
  rw [keys_apply]
  unfold Cert.Lat.krow
  split_ifs with hj
  · exact oldLeft_apply ck b h ⟨j.val, hj⟩ d
  · exact rope_eq _ (Cert.Lat.kraw a0) fst (dk_left a0) b h _ d

theorem score2_eq (b : Fin 2) (h : Fin 4) (i : Fin 1024) (j : Fin 1536) :
    score2 a0 ck (ix4 b h i j) = Cert.Lat.score (Cert.Lat.qrow a0 b i) (Cert.Lat.krow a0 ck b) (snd h) j := by
  rw [score2, score_apply]
  unfold Cert.Lat.score
  congr 1
  refine Finset.sum_congr rfl fun d _ => congrArg₂ (· * ·) (rope_eq _ (Cert.Lat.qraw a0) snd (dq_right a0) b h i d) ?_
  rw [keys_apply]
  unfold Cert.Lat.krow
  split_ifs with hj
  · exact oldRight_apply ck b h ⟨j.val, hj⟩ d
  · exact rope_eq _ (Cert.Lat.kraw a0) snd (dk_right a0) b h _ d

theorem values_eq (b : Fin 2) (h : Fin 4) (j : Fin 1536) (e : Fin 64) : values cv (dv a0) (ix4 b h j e) = Cert.Lat.vrow a0 cv b j (hcol h e) := by
  rw [values_apply]
  unfold Cert.Lat.vrow
  split_ifs with hj
  · exact old_apply cv b h ⟨j.val, hj⟩ e
  · exact dv_apply a0 b h _ e

def heads : FVec Ideal S2x4x1024x64 .f32 := head (lam a1) (prob (expo (score1 a0 ck))) (prob (expo (score2 a0 ck))) (values cv (dv a0))

theorem heads_eq (b : Fin 2) (h : Fin 4) (i : Fin 1024) (e : Fin 64) :
    heads a0 a1 ck cv (ix4 b h i e) = Cert.Lat.head Cert.Att.wLam (Cert.Lat.qrow a0 b i) (Cert.Lat.krow a0 ck b) (Cert.Lat.vrow a0 cv b) (fun a d => a1 (ix2 a d)) h e := by
  rw [heads, head_apply]
  unfold Cert.Lat.head
  refine Finset.sum_congr rfl fun j _ => ?_
  simp only [prob_apply, expo_apply, score1_eq, score2_eq, lam_apply, values_eq]
  rfl

/-- The attention of the reference. -/
def att : FVec Ideal S2048x256 .f32 := normed w (heads a0 a1 ck cv)

theorem att_apply (b : Fin 2) (i : Fin 1024) (h : Fin 4) (e : Fin 64) :
    att a0 a1 w ck cv (ix2 ⟨b.val * 1024 + i.val, by omega⟩ ⟨h.val * 64 + e.val, by omega⟩)
      = Cert.Lat.out Cert.Att.wLam Cert.Att.wRest (Cert.Lat.qrow a0 b i) (Cert.Lat.krow a0 ck b) (Cert.Lat.vrow a0 cv b) (fun a d => a1 (ix2 a d)) (fun e => w (ix1 e)) h e := by
  rw [att, normed_apply, heads_eq]
  simp only [heads_eq]
  rw [Cert.Att.div64]
  rfl
end

section
variable (m : (ℓ : Loc nD τ sig) → Buf (Elt Ideal) ℓ) (c : Dev nD)

abbrev proj : FVec Ideal S10240x3968 .f32 := m ((c.tc : Thread nD τ).loc main_arg0)
abbrev lamv : FVec Ideal S4x32 .f32 := m ((c.tc : Thread nD τ).loc main_arg1)
abbrev nw : FVec Ideal S64 .f32 := m ((c.tc : Thread nD τ).loc main_arg2)
abbrev cacheK : FVec Ideal S2x4x512x64 .f32 := m ((c.tc : Thread nD τ).loc main_arg3)
abbrev cacheV : FVec Ideal S2x4x512x64 .f32 := m ((c.tc : Thread nD τ).loc main_arg4)

theorem res_eq : normed (nw m c) (Value.res_main_v157 (F := Ideal) (StableHlo.launchContents m c)) = att (proj m c) (lamv m c) (nw m c) (cacheK m c) (cacheV m c) := rfl
end

end Cert.Reference6Ideal.Lat

end
-- ==== Proof.Lat.Claim.lean ====
/- The latent attention call and its reference, over the extended reals: equal results where the queries, keys, values, caches and map vectors are real. -/
module

public import proofs.«01_k».proof.Defs
public import proofs.«01_k».proof.Proof.Lat.Final
public import proofs.«01_k».proof.Proof.Lat.Ref
public import proofs.«01_k».proof.Proof.Att.Claim
public import proofs.«01_k».proof.Proof.Gen.Kernel6.Frame
public import proofs.«01_k».proof.Proof.Gen.Pre_finite6

@[expose] public section

set_option maxRecDepth 16384

noncomputable section

namespace Cert.Proof.Lat

open Idealize.ShloMosaic Idealize.ShloMosaic.TcCoe Idealize.SL.Sem
open Cert.Proof.Att (andi_one real_of_between)

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_ideal_pre : Cert.quiescent_Kernel6Ideal_pre_finite6 := fun m ρ _ => Cert.Kernel6Ideal.Gen.frame m ρ
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_ref_pre : Cert.quiescent_Reference6Ideal_pre_finite6 := fun m ρ _ => frame_ref m ρ trivial

theorem pre_real (a0 : FVec Ideal Cert.Pre_finite6.S10240x3968 .f32) (a1 : FVec Ideal Cert.Pre_finite6.S4x32 .f32) (a2 : FVec Ideal Cert.Pre_finite6.S64 .f32)
    (a3 a4 : FVec Ideal Cert.Pre_finite6.S2x4x512x64 .f32) (h : Cert.Pre_finite6.fn (F := Ideal) a0 a1 a2 a3 a4 = fun _ => 1#1) :
    Cert.Lat.Real a0 a3 a4 ∧ ∀ (a : Fin 4) (d : Fin 32), Cert.Att.Fin' (a1 (ix2 a d)) := by
  have h1 := andi_one (congrFun h ix0)
  have h2 := andi_one h1.1
  have h3 := andi_one h2.1
  haveI : Subsingleton Cert.Pre_finite6.S_.Idx := ⟨fun a b => funext fun i => i.elim0⟩
  refine ⟨⟨fun b i a => ?_, fun y => ?_, fun y => ?_⟩, fun a d => ?_⟩
  · have e := Host.reduce_andi_all _ _ _ _ _ h3.1 (ix2 (⟨b.val * 1024 + i.val, by omega⟩ : Fin 2048) a)
    pointwise at e
    exact real_of_between _ _ _ e
  · exact real_of_between _ _ _ (Host.reduce_andi_all _ _ _ _ _ h2.2 y)
  · exact real_of_between _ _ _ (Host.reduce_andi_all _ _ _ _ _ h1.2 y)
  · exact real_of_between _ _ _ (Host.reduce_andi_all _ _ _ _ _ h3.2 (ix2 a d))

theorem real_of_pre (m : (ℓ : Loc Cert.Kernel6Ideal.nD Cert.Kernel6Ideal.τ Cert.Kernel6Ideal.sig) → Buf (Elt Ideal) ℓ) (h : Cert.Pre_Kernel6Ideal_finite6 m)
    (c : Dev Cert.Kernel6Ideal.nD) : Cert.Kernel6Ideal.Lat.Real m c :=
  pre_real (Cert.Kernel6Ideal.Lat.proj m c) (Cert.Kernel6Ideal.Lat.lamv m c) (Cert.Kernel6Ideal.Lat.nw m c) (Cert.Kernel6Ideal.Lat.ck m c) (Cert.Kernel6Ideal.Lat.cv m c) (h c)

theorem algebraic : Cert.algebraic_Kernel6Ideal_Reference6Ideal_pre_finite6 := by
  intro m g m' g' hpre hag
  refine ⟨fun c => Cert.Kernel6Ideal.Lat.attArr m c, ?_, ?_⟩
  · refine (θ_run _ _ _).mono (fun r h c => ?_) (Cert.Kernel6Ideal.Value.run_blocks m g)
    obtain ⟨h1, h2⟩ := h c
    exact ⟨h1.trans (Cert.Kernel6Ideal.Lat.final10 m c (real_of_pre m hpre c)), h2⟩
  · refine (θ_run _ _ _).mono (fun r h c => ?_) (Cert.Reference6Ideal.Value.run m' g')
    obtain ⟨h1, h2⟩ := h c
    have e0 : Cert.Reference6Ideal.Lat.proj m' c = Cert.Kernel6Ideal.Lat.proj m c := (hag c).1
    have e1 : Cert.Reference6Ideal.Lat.lamv m' c = Cert.Kernel6Ideal.Lat.lamv m c := (hag c).2.1
    have e2 : Cert.Reference6Ideal.Lat.nw m' c = Cert.Kernel6Ideal.Lat.nw m c := (hag c).2.2.1
    have e3 : Cert.Reference6Ideal.Lat.cacheK m' c = Cert.Kernel6Ideal.Lat.ck m c := (hag c).2.2.2.1
    have e4 : Cert.Reference6Ideal.Lat.cacheV m' c = Cert.Kernel6Ideal.Lat.cv m c := (hag c).2.2.2.2
    refine ⟨h1.trans ((Cert.Reference6Ideal.Lat.res_eq m' c).trans ?_), h2⟩
    rw [e0, e1, e2, e3, e4]
    funext y
    obtain ⟨b, i, h, e, rfl⟩ : ∃ (b : Fin 2) (i : Fin 1024) (h : Fin 4) (e : Fin 64),
        y = ix2 (⟨b.val * 1024 + i.val, by omega⟩ : Fin 2048) (⟨h.val * 64 + e.val, by omega⟩ : Fin 256) := by
      have h0 : (y 0).val < 2048 := (y 0).isLt
      have h1 : (y 1).val < 256 := (y 1).isLt
      refine ⟨⟨(y 0).val / 1024, by omega⟩, ⟨(y 0).val % 1024, by omega⟩, ⟨(y 1).val / 64, by omega⟩, ⟨(y 1).val % 64, by omega⟩, (eq_ix2 y).trans ?_⟩
      exact (ix2_inj ..).2 ⟨Fin.ext (by simp only; omega), Fin.ext (by simp only; omega)⟩
    exact (Cert.Reference6Ideal.Lat.att_apply _ _ _ _ _ b i h e).trans (Cert.Kernel6Ideal.Lat.attArr_apply m c b i h e).symm

end Cert.Proof.Lat

end
-- ==== Proof.Ffn.Math.lean ====
/- The feed-forward half-step of one token, as plain sums over the extended reals. -/
module

public import Idealize.ShloMosaic.Lib.Pointwise

@[expose] public section

noncomputable section

namespace Cert.Ffn

open Idealize.ShloMosaic

/-- The width a mean square is taken over. -/
def wN : EReal := Ideal.ofBits .f32 0x44800000#32
/-- What is added to a mean square before its root is taken. -/
def wEps : EReal := Ideal.ofBits .f32 0x358637BD#32
def wOne : EReal := Ideal.ofBits .f32 0x3F800000#32
def wHalf : EReal := Ideal.ofBits .f32 0x3F000000#32

/-- One over the root mean square of a token. -/
def scale (x : Fin 1024 → EReal) : EReal := Ideal.rsqrt (Ideal.div (∑ k : Fin 1024, x k * x k) wN + wEps)
/-- A token over its root mean square, weighed. -/
def rms (x w : Fin 1024 → EReal) (c : Fin 1024) : EReal := x c * scale x * w c
/-- The normed token, scaled and shifted by its modulation. -/
def hid (x nw sc sh : Fin 1024 → EReal) (c : Fin 1024) : EReal := rms x nw c * (wOne + sc c) + sh c
/-- One feature of the up projection. -/
def up (h : Fin 1024 → EReal) (wi : Fin 1024 → Fin 5632 → EReal) (f : Fin 5632) : EReal := ∑ k : Fin 1024, h k * wi k f
/-- The gate's feature through the logistic weighing, times the other half's. -/
def glu (g u : EReal) : EReal := g * Ideal.div wOne (wOne + Ideal.exp (-g)) * u
def act (h : Fin 1024 → EReal) (wi : Fin 1024 → Fin 5632 → EReal) (f : Fin 2816) : EReal :=
  glu (up h wi ⟨f.val, by omega⟩) (up h wi ⟨2816 + f.val, by omega⟩)
/-- The down projection. -/
def down (a : Fin 2816 → EReal) (wd : Fin 2816 → Fin 1024 → EReal) (c : Fin 1024) : EReal := ∑ f : Fin 2816, a f * wd f c
/-- The token with half the gated feed-forward added. -/
def step (x nw sc sh ga : Fin 1024 → EReal) (wi : Fin 1024 → Fin 5632 → EReal) (wd : Fin 2816 → Fin 1024 → EReal) (c : Fin 1024) : EReal :=
  x c + wHalf * ga c * down (act (hid x nw sc sh) wi) wd c
/-- The same, normed with the closing weights. -/
def out (x nw sc sh ga : Fin 1024 → EReal) (wi : Fin 1024 → Fin 5632 → EReal) (wd : Fin 2816 → Fin 1024 → EReal) (fw : Fin 1024 → EReal)
    (c : Fin 1024) : EReal :=
  rms (step x nw sc sh ga wi wd) fw c

/-- A sum over the features is the sum over their two halves. -/
theorem down_tiles (a : Fin 2816 → EReal) (wd : Fin 2816 → Fin 1024 → EReal) (c : Fin 1024) :
    down a wd c = (∑ j : Fin 1408, a ⟨j.val, by omega⟩ * wd ⟨j.val, by omega⟩ c) + ∑ j : Fin 1408, a ⟨1408 + j.val, by omega⟩ * wd ⟨1408 + j.val, by omega⟩ c := by
  unfold down
  exact Fin.sum_univ_add (a := 1408) (b := 1408) fun f : Fin 2816 => a f * wd f c

end Cert.Ffn

end
-- ==== Proof.Ffn.Block.lean ====
/- What one grid point of the feed-forward call computes, read at one entry. -/
module

public import proofs.«01_k».proof.Proof.Gen.Kernel2Ideal.Skeleton
public import proofs.«01_k».proof.Proof.Ffn.Math

@[expose] public section

set_option maxRecDepth 16384

noncomputable section

namespace Cert.Kernel2Ideal.Ffn

open Cert.Kernel2Ideal Cert.Kernel2Ideal.Gen Idealize.ShloMosaic Idealize.ShloMosaic.TcCoe

theorem pay1_apply (y : FVec Ideal S512x1024 .f32) (w : FVec Ideal S1x1024 .f32) (i : Fin 512) (c : Fin 1024) :
    k0_pay1 (F := Ideal) y w (ix2 i c) = Cert.Ffn.rms (fun k => y (ix2 i k)) (fun k => w (ix2 0 k)) c := by
  pointwise [k0_pay1, Cert.Ffn.rms, Cert.Ffn.scale, Cert.Ffn.wN, Cert.Ffn.wEps]

theorem pay3_apply (x : FVec Ideal S512x1024 .f32) (sh sc : FVec Ideal S1x1x1024 .f32) (nw : FVec Ideal S1x1024 .f32) (i : Fin 512) (c : Fin 1024) :
    k0_pay3 (F := Ideal) x sh sc nw (ix2 i c)
      = Cert.Ffn.hid (fun k => x (ix2 i k)) (fun k => nw (ix2 0 k)) (fun k => sc (ix3 0 0 k)) (fun k => sh (ix3 0 0 k)) c := by
  pointwise [k0_pay3, Cert.Ffn.hid, Cert.Ffn.rms, Cert.Ffn.scale, Cert.Ffn.wN, Cert.Ffn.wEps, Cert.Ffn.wOne]

theorem pay4_apply (x : FVec Ideal S512x1024 .f32) (sh sc : FVec Ideal S1x1x1024 .f32) (nw : FVec Ideal S1x1024 .f32) (w : FVec Ideal S1024x1408 .bf16)
    (i : Fin 512) (j : Fin 1408) :
    k0_pay4 (F := Ideal) x sh sc nw w (ix2 i j) = ∑ k : Fin 1024, k0_pay3 (F := Ideal) x sh sc nw (ix2 i k) * w (ix2 k j) := by
  pointwise [k0_pay4]

theorem pay5_apply (x : FVec Ideal S512x1024 .f32) (sh sc : FVec Ideal S1x1x1024 .f32) (nw : FVec Ideal S1x1024 .f32) (w : FVec Ideal S1024x1408 .bf16)
    (i : Fin 512) (j : Fin 1408) :
    k0_pay5 (F := Ideal) x sh sc nw w (ix2 i j) = ∑ k : Fin 1024, k0_pay3 (F := Ideal) x sh sc nw (ix2 i k) * w (ix2 k j) := by
  pointwise [k0_pay5]

theorem pay6_apply (x : FVec Ideal S512x1024 .f32) (ga : FVec Ideal S1x1x1024 .f32) (h : FVec Ideal S512x1024 .bf16) (g u : FVec Ideal S512x1408 .f32)
    (d1 : FVec Ideal S1408x1024 .bf16) (wg wu : FVec Ideal S1024x1408 .bf16) (d2 : FVec Ideal S1408x1024 .bf16) (i : Fin 512) (c : Fin 1024) :
    k0_pay6 (F := Ideal) x (k0_pay2 ga) h g u d1 wg wu d2 (ix2 i c)
      = x (ix2 i c) + Cert.Ffn.wHalf * ga (ix3 0 0 c) * ((∑ j : Fin 1408, Cert.Ffn.glu (g (ix2 i j)) (u (ix2 i j)) * d1 (ix2 j c))
        + ∑ j : Fin 1408, Cert.Ffn.glu (∑ k : Fin 1024, h (ix2 i k) * wg (ix2 k j)) (∑ k : Fin 1024, h (ix2 i k) * wu (ix2 k j)) * d2 (ix2 j c)) := by
  pointwise [k0_pay6, k0_pay2, Cert.Ffn.glu, Cert.Ffn.wHalf, Cert.Ffn.wOne]
  simp only [zero_sub]

/-- One entry of a block of results, of what the loads brought. -/
theorem block_pay (x : FVec Ideal S512x1024 .f32) (sh sc ga : FVec Ideal S1x1x1024 .f32) (nw fw : FVec Ideal S1x1024 .f32)
    (w1 w2 w3 w4 : FVec Ideal S1024x1408 .bf16) (d1 d2 : FVec Ideal S1408x1024 .bf16)
    (X : Fin 512 → Fin 1024 → EReal) (SH SC GA NW FW : Fin 1024 → EReal) (WI : Fin 1024 → Fin 5632 → EReal) (WD : Fin 2816 → Fin 1024 → EReal)
    (hx : ∀ i k, x (ix2 i k) = X i k) (hsh : ∀ k, sh (ix3 0 0 k) = SH k) (hsc : ∀ k, sc (ix3 0 0 k) = SC k) (hga : ∀ k, ga (ix3 0 0 k) = GA k)
    (hnw : ∀ k, nw (ix2 0 k) = NW k) (hfw : ∀ k, fw (ix2 0 k) = FW k)
    (h1 : ∀ k (j : Fin 1408), w1 (ix2 k j) = WI k ⟨j.val, by omega⟩) (h2 : ∀ k (j : Fin 1408), w2 (ix2 k j) = WI k ⟨2816 + j.val, by omega⟩)
    (h3 : ∀ k (j : Fin 1408), w3 (ix2 k j) = WI k ⟨1408 + j.val, by omega⟩) (h4 : ∀ k (j : Fin 1408), w4 (ix2 k j) = WI k ⟨4224 + j.val, by omega⟩)
    (h5 : ∀ (j : Fin 1408) c, d1 (ix2 j c) = WD ⟨j.val, by omega⟩ c) (h6 : ∀ (j : Fin 1408) c, d2 (ix2 j c) = WD ⟨1408 + j.val, by omega⟩ c)
    (i : Fin 512) (c : Fin 1024) :
    k0_pay1 (F := Ideal) (k0_pay6 x (k0_pay2 ga) (k0_pay3 x sh sc nw) (k0_pay4 x sh sc nw w1) (k0_pay5 x sh sc nw w2) d1 w3 w4 d2) fw (ix2 i c)
      = Cert.Ffn.out (X i) NW SC SH GA WI WD FW c := by
  have eh : ∀ k, k0_pay3 (F := Ideal) x sh sc nw (ix2 i k) = Cert.Ffn.hid (X i) NW SC SH k := fun k => by
    rw [pay3_apply]; simp only [hx, hsh, hsc, hnw]
  rw [pay1_apply]
  unfold Cert.Ffn.out
  have ey : (fun k => k0_pay6 (F := Ideal) x (k0_pay2 ga) (k0_pay3 x sh sc nw) (k0_pay4 x sh sc nw w1) (k0_pay5 x sh sc nw w2) d1 w3 w4 d2 (ix2 i k))
      = Cert.Ffn.step (X i) NW SC SH GA WI WD := by
    funext k
    rw [pay6_apply, Cert.Ffn.step, Cert.Ffn.down_tiles]
    have e1 : ∀ j : Fin 1408, Cert.Ffn.act (Cert.Ffn.hid (X i) NW SC SH) WI ⟨j.val, by omega⟩
        = Cert.Ffn.glu (k0_pay4 (F := Ideal) x sh sc nw w1 (ix2 i j)) (k0_pay5 (F := Ideal) x sh sc nw w2 (ix2 i j)) := fun j => by
      rw [pay4_apply, pay5_apply]
      simp only [eh, h1, h2]
      rfl
    have e2 : ∀ j : Fin 1408, Cert.Ffn.act (Cert.Ffn.hid (X i) NW SC SH) WI ⟨1408 + j.val, by omega⟩
        = Cert.Ffn.glu (∑ k : Fin 1024, k0_pay3 (F := Ideal) x sh sc nw (ix2 i k) * w3 (ix2 k j)) (∑ k : Fin 1024, k0_pay3 (F := Ideal) x sh sc nw (ix2 i k) * w4 (ix2 k j)) := fun j => by
      have e3 : (⟨2816 + (1408 + j.val), by omega⟩ : Fin 5632) = ⟨4224 + j.val, by omega⟩ := Fin.ext (by simp only; omega)
      simp only [eh, h3, h4]
      unfold Cert.Ffn.act Cert.Ffn.up
      simp only [e3]
    simp only [e1, e2, hx, hga, h5, h6]
  rw [ey, show (fun k => fw (ix2 0 k)) = FW from funext hfw]

end Cert.Kernel2Ideal.Ffn

end
-- ==== Proof.Ffn.Run.lean ====
/- The feed-forward call's run: what each grid point leaves in its buffers, and the launch. -/
module

public import proofs.«01_k».proof.Proof.Gen.Kernel2Ideal.Frame
public import proofs.«01_k».proof.Proof.Gen.Kernel2Ideal.Skeleton
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

/-- The first sixteen points are the context rows', the last four the latent rows'. -/
theorem ctx_iff : ∀ t : Fin cfg0.N, k0_cond1 (grid0.coords t) = 1#1 ↔ t.val < 16 := (by decide +kernel : ∀ t : Fin grid0.N, _)
theorem lat_iff : ∀ t : Fin cfg0.N, k0_cond2 (grid0.coords t) = 1#1 ↔ 16 ≤ t.val := (by decide +kernel : ∀ t : Fin grid0.N, _)
/-- The context result's block is written back after its own point, the last of them at the end of the grid. -/
theorem flush6 : ∀ t : Fin cfg0.N, (cfg0.win 6).flush t = true ↔ t.val < 15 ∨ t.val = 19 := (by decide +kernel : ∀ t : Fin grid0.N, win0_6.flush t = true ↔ t.val < 15 ∨ t.val = 19)
theorem flush7 : ∀ t : Fin cfg0.N, (cfg0.win 7).flush t = true ↔ 16 ≤ t.val := (by decide +kernel : ∀ t : Fin grid0.N, win0_7.flush t = true ↔ 16 ≤ t.val)

abbrev st0 (t : Fin cfg0.N) : Memref sig .tc .vmem S512x1024 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x9x1024 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1x1024 .f32 := win0_2.stage (cfg0.slots t 2)
abbrev wh2 (t : Fin cfg0.N) : (st2 t).IsWhole := hstage0_2 ((cfg0.slots t 2).cast nbuf0_2)
abbrev st3 (t : Fin cfg0.N) : Memref sig .tc .vmem S1024x5632 .bf16 := win0_3.stage (cfg0.slots t 3)
abbrev wh3 (t : Fin cfg0.N) : (st3 t).IsWhole := hstage0_3 ((cfg0.slots t 3).cast nbuf0_3)
abbrev st4 (t : Fin cfg0.N) : Memref sig .tc .vmem S2816x1024 .bf16 := win0_4.stage (cfg0.slots t 4)
abbrev wh4 (t : Fin cfg0.N) : (st4 t).IsWhole := hstage0_4 ((cfg0.slots t 4).cast nbuf0_4)
abbrev st5 (t : Fin cfg0.N) : Memref sig .tc .vmem S1x1024 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S512x1024 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S512x1024 .f32 := win0_7.stage (cfg0.slots t 7)
abbrev wh7 (t : Fin cfg0.N) : (st7 t).IsWhole := hstage0_7 ((cfg0.slots t 7).cast nbuf0_7)
abbrev R6 : View sig .tc .vmem S512x1024 .f32 := (Memref.whole cc0_stg6_0 : Memref sig .tc .vmem S512x1024 .f32).view
abbrev R7 : View sig .tc .vmem S512x1024 .f32 := (Memref.whole cc0_stg7_0 : Memref sig .tc .vmem S512x1024 .f32).view

/-! ## The body's two runs -/

set_option maxHeartbeats 1000000 in
/-- The body at a point storing result 1's block: the pieces stored, with the run that leaves them. -/
noncomputable def runCtx (c : Dev nD) (i : grid0.Coords) (a0 : Memref sig .tc .vmem S512x1024 .f32) (h0 : a0.IsWhole) (a1 : Memref sig .tc .vmem S1x9x1024 .f32) (h1 : a1.IsWhole) (a2 : Memref sig .tc .vmem S1x1024 .f32) (h2 : a2.IsWhole) (a3 : Memref sig .tc .vmem S1024x5632 .bf16) (h3 : a3.IsWhole) (a4 : Memref sig .tc .vmem S2816x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc1 : k0_cond1 i = 1#1) (hc2 : ¬k0_cond2 i = 1#1)
    (x0 : Vec F S512x1024 .f32) (x1 : Vec F S1x9x1024 .f32) (x2 : Vec F S1x1024 .f32) (x3 : Vec F S1024x5632 .bf16) (x4 : Vec F S2816x1024 .bf16) (x5 : Vec F S1x1024 .f32) :
    { L : List (View.Piece (Elt F) S512x1024 .f32) // ∀ (y : Vec F S512x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ owns (c : Thread nD τ) a7 fullShare y
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, a6.view.loc (c : Thread nD τ) ↦[a6.view.set]{fullShare} a6.view.writes (Elt F) f L) ∗ owns (c : Thread nD τ) a7 fullShare y) -∗ K ⟨⟩))
          ⊢ wp frame (wpE (defs₀ (F := F)) Variants.none c none) E (cc0_swiglu_half_step i a0 h0 a1 h1 a2 h2 a3 h3 a4 h4 a5 h5 a6 h6 a7 h7) K } := by
  refine ⟨?_, fun y E K => ?run⟩
  case run =>
    simp only [cc0_swiglu_half_step_eq_skeleton]; unfold cc0_swiglu_half_step_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h7.eq_unread hf7
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; isplitr; · ipureintro; exact h7.read_unread _
    iexact H7

set_option maxHeartbeats 1000000 in
/-- The body at a point storing result 2's block: the pieces stored, with the run that leaves them. -/
noncomputable def runLat (c : Dev nD) (i : grid0.Coords) (a0 : Memref sig .tc .vmem S512x1024 .f32) (h0 : a0.IsWhole) (a1 : Memref sig .tc .vmem S1x9x1024 .f32) (h1 : a1.IsWhole) (a2 : Memref sig .tc .vmem S1x1024 .f32) (h2 : a2.IsWhole) (a3 : Memref sig .tc .vmem S1024x5632 .bf16) (h3 : a3.IsWhole) (a4 : Memref sig .tc .vmem S2816x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc1 : ¬k0_cond1 i = 1#1) (hc2 : k0_cond2 i = 1#1)
    (x0 : Vec F S512x1024 .f32) (x1 : Vec F S1x9x1024 .f32) (x2 : Vec F S1x1024 .f32) (x3 : Vec F S1024x5632 .bf16) (x4 : Vec F S2816x1024 .bf16) (x5 : Vec F S1x1024 .f32) :
    { L : List (View.Piece (Elt F) S512x1024 .f32) // ∀ (y : Vec F S512x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare y ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare y ∗ (∃ f, a7.view.loc (c : Thread nD τ) ↦[a7.view.set]{fullShare} a7.view.writes (Elt F) f L)) -∗ K ⟨⟩))
          ⊢ wp frame (wpE (defs₀ (F := F)) Variants.none c none) E (cc0_swiglu_half_step i a0 h0 a1 h1 a2 h2 a3 h3 a4 h4 a5 h5 a6 h6 a7 h7) K } := by
  refine ⟨?_, fun y E K => ?run⟩
  case run =>
    simp only [cc0_swiglu_half_step_eq_skeleton]; unfold cc0_swiglu_half_step_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

/-- What that point leaves in result 1's buffer. -/
def outCtx (m : (ℓ : Loc nD τ sig) → Buf (Elt F) ℓ) (c : Dev nD) (t : Fin cfg0.N) (hc1 : k0_cond1 (grid0.coords t) = 1#1) (hc2 : ¬k0_cond2 (grid0.coords t) = 1#1) : Vec F S512x1024 .f32 :=
  R6.read (Elt F) (R6.writes (Elt F) R6.junk (runCtx c (grid0.coords t) (st0 t) (wh0 t) (st1 t) (wh1 t) (st2 t) (wh2 t) (st3 t) (wh3 t) (st4 t) (wh4 t) (st5 t) (wh5 t) (st6 t) (wh6 t) (st7 t) (wh7 t) hc1 hc2 (iblk m c 0 t) (iblk m c 1 t) (iblk m c 2 t) (iblk m c 3 t) (iblk m c 4 t) (iblk m c 5 t)).1)

theorem outCtx_cover (c : Dev nD) (i : grid0.Coords) (a0 : Memref sig .tc .vmem S512x1024 .f32) (h0 : a0.IsWhole) (a1 : Memref sig .tc .vmem S1x9x1024 .f32) (h1 : a1.IsWhole) (a2 : Memref sig .tc .vmem S1x1024 .f32) (h2 : a2.IsWhole) (a3 : Memref sig .tc .vmem S1024x5632 .bf16) (h3 : a3.IsWhole) (a4 : Memref sig .tc .vmem S2816x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc1 : k0_cond1 i = 1#1) (hc2 : ¬k0_cond2 i = 1#1)
    (x0 : Vec F S512x1024 .f32) (x1 : Vec F S1x9x1024 .f32) (x2 : Vec F S1x1024 .f32) (x3 : Vec F S1024x5632 .bf16) (x4 : Vec F S2816x1024 .bf16) (x5 : Vec F S1x1024 .f32) (y : S512x1024.Idx) : ∃ pc ∈ (runCtx c i a0 h0 a1 h1 a2 h2 a3 h3 a4 h4 a5 h5 a6 h6 a7 h7 hc1 hc2 x0 x1 x2 x3 x4 x5).1, y ∈ pc.1.set :=
  View.cover_of_tiledL _ S512x1024.size (by sl_kernel_rfl) y

/-- What that point leaves in result 2's buffer. -/
def outLat (m : (ℓ : Loc nD τ sig) → Buf (Elt F) ℓ) (c : Dev nD) (t : Fin cfg0.N) (hc1 : ¬k0_cond1 (grid0.coords t) = 1#1) (hc2 : k0_cond2 (grid0.coords t) = 1#1) : Vec F S512x1024 .f32 :=
  R7.read (Elt F) (R7.writes (Elt F) R7.junk (runLat c (grid0.coords t) (st0 t) (wh0 t) (st1 t) (wh1 t) (st2 t) (wh2 t) (st3 t) (wh3 t) (st4 t) (wh4 t) (st5 t) (wh5 t) (st6 t) (wh6 t) (st7 t) (wh7 t) hc1 hc2 (iblk m c 0 t) (iblk m c 1 t) (iblk m c 2 t) (iblk m c 3 t) (iblk m c 4 t) (iblk m c 5 t)).1)

theorem outLat_cover (c : Dev nD) (i : grid0.Coords) (a0 : Memref sig .tc .vmem S512x1024 .f32) (h0 : a0.IsWhole) (a1 : Memref sig .tc .vmem S1x9x1024 .f32) (h1 : a1.IsWhole) (a2 : Memref sig .tc .vmem S1x1024 .f32) (h2 : a2.IsWhole) (a3 : Memref sig .tc .vmem S1024x5632 .bf16) (h3 : a3.IsWhole) (a4 : Memref sig .tc .vmem S2816x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc1 : ¬k0_cond1 i = 1#1) (hc2 : k0_cond2 i = 1#1)
    (x0 : Vec F S512x1024 .f32) (x1 : Vec F S1x9x1024 .f32) (x2 : Vec F S1x1024 .f32) (x3 : Vec F S1024x5632 .bf16) (x4 : Vec F S2816x1024 .bf16) (x5 : Vec F S1x1024 .f32) (y : S512x1024.Idx) : ∃ pc ∈ (runLat c i a0 h0 a1 h1 a2 h2 a3 h3 a4 h4 a5 h5 a6 h6 a7 h7 hc1 hc2 x0 x1 x2 x3 x4 x5).1, y ∈ pc.1.set :=
  View.cover_of_tiledL _ S512x1024.size (by sl_kernel_rfl) y

end Cert.Kernel2Ideal.Ffn

end
-- ==== Proof.Ffn.Frame.lean ====
/- The feed-forward call's run: its proof data, the launch, and what the launch leaves. -/
module

public import proofs.«01_k».proof.Proof.Ffn.Run
public import Idealize.ShloMosaic.Lib.Claim

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt20 (t : Fin cfg0.N) : t.val < 20 := lt_of_lt_of_eq t.isLt N_0

/-- The point whose context block the buffer holds after point `t`: `t` itself, or the last context point. -/
def ctxPt (t : Fin cfg0.N) : Fin cfg0.N := ⟨min t.val 15, lt_of_le_of_lt (min_le_left _ _) t.isLt⟩
/-- The point whose latent block is meant at `t`: `t` itself, or the first latent point. -/
def latPt (t : Fin cfg0.N) : Fin cfg0.N := ⟨max t.val 16, lt_of_lt_of_eq (max_lt (lt20 t) (by decide)) N_0.symm⟩

theorem ctxPt_eq (t : Fin cfg0.N) (h : t.val < 16) : ctxPt t = t := Fin.ext (min_eq_left (by omega))
theorem latPt_eq (t : Fin cfg0.N) (h : 16 ≤ t.val) : latPt t = t := Fin.ext (max_eq_left h)
theorem ctxPt_lt (t : Fin cfg0.N) : (ctxPt t).val < 16 := lt_of_le_of_lt (min_le_right _ _) (by decide)
theorem latPt_ge (t : Fin cfg0.N) : 16 ≤ (latPt t).val := le_max_right _ _

theorem isCtx {t : Fin cfg0.N} (h : t.val < 16) : k0_cond1 (grid0.coords t) = 1#1 := (ctx_iff t).mpr h
theorem notCtx {t : Fin cfg0.N} (h : 16 ≤ t.val) : ¬k0_cond1 (grid0.coords t) = 1#1 := fun e => absurd ((ctx_iff t).mp e) (Nat.not_lt.2 h)
theorem isLat {t : Fin cfg0.N} (h : 16 ≤ t.val) : k0_cond2 (grid0.coords t) = 1#1 := (lat_iff t).mpr h
theorem notLat {t : Fin cfg0.N} (h : t.val < 16) : ¬k0_cond2 (grid0.coords t) = 1#1 := fun e => absurd ((lat_iff t).mp e) (Nat.not_le.2 h)

/-- The context block held after point `t`, and the latent one. -/
def heldCtx (c : Dev nD) (t : Fin cfg0.N) : Vec F S512x1024 .f32 := outCtx m c (ctxPt t) (isCtx (ctxPt_lt t)) (notLat (ctxPt_lt t))
def heldLat (c : Dev nD) (t : Fin cfg0.N) : Vec F S512x1024 .f32 := outLat m c (latPt t) (notCtx (latPt_ge t)) (isLat (latPt_ge t))

theorem heldCtx_eq (c : Dev nD) (t : Fin cfg0.N) (h : t.val < 16) : heldCtx m c t = outCtx m c t (isCtx h) (notLat h) := by
  unfold heldCtx; congr 1; exact ctxPt_eq t h
theorem heldLat_eq (c : Dev nD) (t : Fin cfg0.N) (h : 16 ≤ t.val) : heldLat m c t = outLat m c t (notCtx h) (isLat h) := by
  unfold heldLat; congr 1; exact latPt_eq t h

/-- The proof data: inputs stay in place, the results' buffers hold `heldCtx` and `heldLat`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => heldCtx m c t
    | ⟨7, _⟩ => heldLat m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = heldCtx m c t := by dsimp only [dats]
theorem after7 (c : Dev nD) (t : Fin cfg0.N) : (dats m 0 c).after 7 t = heldLat m c t := by dsimp only [dats]
theorem found0 (c : Dev nD) (t : Fin cfg0.N) (d) : (dats m 0 c).before 0 t d = iblk m c 0 t := before0_0_of m (dats m 0 c) (A_eq m c 0) (after0 m c) t d
theorem found1 (c : Dev nD) (t : Fin cfg0.N) (d) : (dats m 0 c).before 1 t d = iblk m c 1 t := before0_1_of m (dats m 0 c) (A_eq m c 1) (after1 m c) t d
theorem found2 (c : Dev nD) (t : Fin cfg0.N) (d) : (dats m 0 c).before 2 t d = iblk m c 2 t := before0_2_of m (dats m 0 c) (A_eq m c 2) (after2 m c) t d
theorem found3 (c : Dev nD) (t : Fin cfg0.N) (d) : (dats m 0 c).before 3 t d = iblk m c 3 t := before0_3_of m (dats m 0 c) (A_eq m c 3) (after3 m c) t d
theorem found4 (c : Dev nD) (t : Fin cfg0.N) (d) : (dats m 0 c).before 4 t d = iblk m c 4 t := before0_4_of m (dats m 0 c) (A_eq m c 4) (after4 m c) t d
theorem found5 (c : Dev nD) (t : Fin cfg0.N) (d) : (dats m 0 c).before 5 t d = iblk m c 5 t := before0_5_of m (dats m 0 c) (A_eq m c 5) (after5 m c) t d

/-! ## The results' buffers between their points -/

/-- Past the context points the context buffer still holds the last context block. -/
theorem found6 (c : Dev nD) (t : Fin cfg0.N) (h : 16 ≤ t.val) (d) : (dats m 0 c).before 6 t d = heldCtx m c t := by
  obtain ⟨n, hn⟩ := t
  induction n with
  | zero => exact absurd h (by simp)
  | succ n ih =>
    have hN : n + 1 < 20 := lt20 ⟨n + 1, hn⟩
    have hnf : (cfg0.win 6).flush ⟨n, Nat.lt_of_succ_lt hn⟩ = false := by
      rw [Bool.eq_false_iff, ne_eq, flush6]; simp only at h ⊢; omega
    have hs : heldCtx m c ⟨n + 1, hn⟩ = heldCtx m c ⟨n, Nat.lt_of_succ_lt hn⟩ := by
      have : ctxPt ⟨n + 1, hn⟩ = ctxPt ⟨n, Nat.lt_of_succ_lt hn⟩ := Fin.ext (by unfold ctxPt; simp only at h ⊢; omega)
      unfold heldCtx; congr 1
    rw [(dats m 0 c).before_of_pos 6 ⟨n + 1, hn⟩ (Nat.succ_ne_zero n) rfl]
    refine (if_neg (by simp only [Nat.add_sub_cancel]; rw [hnf]; exact Bool.false_ne_true)).trans ?_
    show (dats m 0 c).left 6 ⟨n, Nat.lt_of_succ_lt hn⟩ d = _
    unfold Dat.left
    by_cases hb : 16 ≤ n
    · have hi : cfg0.idle 6 (cfg0.grid.coords ⟨n, Nat.lt_of_succ_lt hn⟩) = true := by
        show (!(k0_cond1 (grid0.coords ⟨n, Nat.lt_of_succ_lt hn⟩) == 1#1)) = true
        rw [beq_eq_false_iff_ne.mpr (notCtx (t := ⟨n, Nat.lt_of_succ_lt hn⟩) hb)]; rfl
      rw [hi, hs]; exact ih (Nat.lt_of_succ_lt hn) hb
    · have hi : cfg0.idle 6 (cfg0.grid.coords ⟨n, Nat.lt_of_succ_lt hn⟩) = false := by
        show (!(k0_cond1 (grid0.coords ⟨n, Nat.lt_of_succ_lt hn⟩) == 1#1)) = false
        rw [isCtx (t := ⟨n, Nat.lt_of_succ_lt hn⟩) (Nat.not_le.1 hb)]; rfl
      rw [hi, hs]
      show (dats m 0 c).after 6 ⟨n, Nat.lt_of_succ_lt hn⟩ = _
      exact after6 m c _

theorem idle6_iff (t : Fin cfg0.N) : cfg0.idle 6 (cfg0.grid.coords t) = !decide (t.val < 16) := by
  show (!(k0_cond1 (grid0.coords t) == 1#1)) = _
  congr 1; rw [Bool.eq_iff_iff, beq_iff_eq, ctx_iff, decide_eq_true_iff]
theorem idle7_iff (t : Fin cfg0.N) : cfg0.idle 7 (cfg0.grid.coords t) = !decide (16 ≤ t.val) := by
  show (!(k0_cond2 (grid0.coords t) == 1#1)) = _
  congr 1; rw [Bool.eq_iff_iff, beq_iff_eq, lat_iff, decide_eq_true_iff]

theorem live6 (c : Dev nD) (t : Fin cfg0.N) (h : t.val < 16) : owns (c : Thread nD τ) (st6 t) fullShare ((dats m 0 c).after 6 t) ⊢ ((dats m 0 c).leavesExact 6 t : sProp 𝕄) := by
  have hi : cfg0.idle 6 (cfg0.grid.coords t) = false := by rw [idle6_iff, decide_eq_true h]; rfl
  unfold Dat.leavesExact; rw [hi]
theorem live7 (c : Dev nD) (t : Fin cfg0.N) (h : 16 ≤ t.val) : owns (c : Thread nD τ) (st7 t) fullShare ((dats m 0 c).after 7 t) ⊢ ((dats m 0 c).leavesExact 7 t : sProp 𝕄) := by
  have hi : cfg0.idle 7 (cfg0.grid.coords t) = false := by rw [idle7_iff, decide_eq_true h]; rfl
  unfold Dat.leavesExact; rw [hi]
theorem idle7 (c : Dev nD) (t : Fin cfg0.N) (h : t.val < 16) (d) : owns (c : Thread nD τ) (st7 t) fullShare ((dats m 0 c).before 7 t d) ⊢ ((dats m 0 c).leavesExact 7 t : sProp 𝕄) := by
  have hi : cfg0.idle 7 (cfg0.grid.coords t) = true := by rw [idle7_iff, decide_eq_false (Nat.not_le.2 h)]; rfl
  have hf : (cfg0.win 7).flush t = false := by rw [Bool.eq_false_iff, ne_eq, flush7]; omega
  rw [(dats m 0 c).leavesExact_idle 7 t hi hf]
  iintro H; iexists d; iexact H
theorem idle6 (c : Dev nD) (t : Fin cfg0.N) (h : 16 ≤ t.val) (d) : owns (c : Thread nD τ) (st6 t) fullShare ((dats m 0 c).before 6 t d) ⊢ ((dats m 0 c).leavesExact 6 t : sProp 𝕄) := by
  have hi : cfg0.idle 6 (cfg0.grid.coords t) = true := by rw [idle6_iff, decide_eq_false (Nat.not_lt.2 h)]; rfl
  cases hf : (cfg0.win 6).flush t
  · rw [(dats m 0 c).leavesExact_idle 6 t hi hf]
    iintro H; iexists d; iexact H
  · unfold Dat.leavesExact; rw [hi, hf]
    show _ ⊢ owns (c : Thread nD τ) (st6 t) fullShare ((dats m 0 c).after 6 t)
    rw [found6 m c t h d, after6]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ (dats m 0 c).leavesExact 6 t
    ∗ (dats m 0 c).leavesExact 7 t)

set_option maxHeartbeats 800000 in
theorem sound_ctx (c : Dev nD) (t : Fin cfg0.N) (h : t.val < 16) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runCtx c (grid0.coords t) _ _ _ _ _ _ _ _ _ _ _ _ _ _ _ _ (isCtx h) (notLat h) (iblk m c 0 t) (iblk m c 1 t) (iblk m c 2 t) (iblk m c 3 t) (iblk m c 4 t) (iblk m c 5 t)).2 ((dats m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, ⟨%e6, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply live6 m c t h
    rw [after6, heldCtx_eq m c t h]
    unfold owns; iexists _; isplitr
    swap; · iexact H6
    ipureintro; unfold outCtx; exact View.read_writes_of_cover _ _ _ _ _ (outCtx_cover c _ _ _ _ _ _ _ _ _ _ _ _ _ _ _ _ _ _ _ _ _ _ _ _ _ )
  iapply idle7 m c t h d7
  iexact H7

set_option maxHeartbeats 800000 in
theorem sound_lat (c : Dev nD) (t : Fin cfg0.N) (h : 16 ≤ t.val) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLat c (grid0.coords t) _ _ _ _ _ _ _ _ _ _ _ _ _ _ _ _ (notCtx h) (isLat h) (iblk m c 0 t) (iblk m c 1 t) (iblk m c 2 t) (iblk m c 3 t) (iblk m c 4 t) (iblk m c 5 t)).2 ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply idle6 m c t h d6
    iexact H6
  iapply live7 m c t h
  rw [after7, heldLat_eq m c t h]
  unfold owns; iexists _; isplitr
  swap; · iexact H7
  ipureintro; unfold outLat; exact View.read_writes_of_cover _ _ _ _ _ (outLat_cover c _ _ _ _ _ _ _ _ _ _ _ _ _ _ _ _ _ _ _ _ _ _ _ _ _ )

theorem body_row (t : Fin cfg0.N) : defs₀ (F := F) .tc cfg0.body (cfg0.bodyArgs t (cfg0.slots t)) = bodyAt0 t := by
  unfold defs₀; rw [Defs.onTc_tc]

theorem body_sound (c : Dev nD) : BodyObligation (dats (F := F) m 0 c) (defs₀ (F := F)) Variants.none () Set.univ := fun t => by
  rw [bigSep_W0, bigSep_W0, body_row]
  exact triple_restated ((Nat.lt_or_ge t.val 16).elim (sound_ctx m c t) (sound_lat m c t)) rfl .rfl fun _ => .rfl

/-! ## The launch -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_sound m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- The call terminates with its arguments unchanged and every semaphore at zero. -/
theorem frame_any : θ_run defs (onTc (τ := τ) (main (F := F))) ⟨m, fun _ => 0, ρ⟩ (fun r => (∀ c : Dev nD, Kept m r c) ∧ r.2.sem = fun _ => 0) :=
  θ_run_and (frame_of m ρ (dats m) (A_eq m) (run_main m ρ)) ((θ_run defs _ _).mono (fun _ h => h.2) (run_quiet m ρ))

/-- The result arrays after the call. -/
theorem run_arrays : θ_run defs (onTc (τ := τ) (main (F := F))) ⟨m, fun _ => 0, ρ⟩ fun r => ∀ c : Dev nD,
    (r.2.mem ((c.tc : Thread nD τ).loc main_v4_0) = (dats m 0 c).arrAt 6 cfg0.N
    ∧ r.2.mem ((c.tc : Thread nD τ).loc main_v4_1) = (dats m 0 c).arrAt 7 cfg0.N) ∧ Kept m r c :=
  (θ_run defs _ _).mono (fun _ h c => ⟨⟨(h.1 c).1 6, (h.1 c).1 7⟩, h.2.1 c⟩) (θ_run_and (run_main m ρ) (frame_any m ρ))

end Cert.Kernel2Ideal.Ffn

end
-- ==== Proof.Ffn.Final.lean ====
/- The feed-forward call's result arrays: each grid point writes its 512 tokens. -/
module

public import proofs.«01_k».proof.Proof.Ffn.Block
public import proofs.«01_k».proof.Proof.Ffn.Frame
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The row of the modulation a token reads: the context's, or its sample's. -/
def row (n : Nat) : Fin 8 := if n < 8192 then 0 else if n < 9216 then 1 else 2

theorem idx : ∀ t : Fin cfg0.N, win0_0.index t = ![t.val, 0] ∧ win0_1.index t = ![(if t.val < 16 then 0 else if t.val < 18 then 1 else 2), 0, 0]
    ∧ win0_2.index t = ![0, 0] ∧ win0_3.index t = ![0, 0] ∧ win0_4.index t = ![0, 0] ∧ win0_5.index t = ![0, 0]
    ∧ win0_6.index t = ![min t.val 15, 0] ∧ win0_7.index t = ![max t.val 16 - 16, 0] :=
  (by decide +kernel : ∀ t : Fin grid0.N, _)

abbrev xs (c : Dev nD) : FVec Ideal S10240x1024 .f32 := m ((c.tc : Thread nD τ).loc main_arg0)
abbrev mods (c : Dev nD) : FVec Ideal S8x9x1024 .f32 := m ((c.tc : Thread nD τ).loc main_arg1)
abbrev nws (c : Dev nD) : FVec Ideal S1024 .f32 := m ((c.tc : Thread nD τ).loc main_arg2)
abbrev wis (c : Dev nD) : FVec Ideal S1024x5632 .f32 := m ((c.tc : Thread nD τ).loc main_arg3)
abbrev wds (c : Dev nD) : FVec Ideal S2816x1024 .f32 := m ((c.tc : Thread nD τ).loc main_arg4)
abbrev fws (c : Dev nD) : FVec Ideal S1024 .f32 := m ((c.tc : Thread nD τ).loc main_arg5)

/-- Token `n` of the half-step, normed. -/
def tok (c : Dev nD) (n : Fin 10240) (k : Fin 1024) : EReal :=
  Cert.Ffn.out (fun k => xs m c (ix2 n k)) (fun k => nws m c (ix1 k)) (fun k => mods m c (ix3 (row n.val) 7 k)) (fun k => mods m c (ix3 (row n.val) 6 k))
    (fun k => mods m c (ix3 (row n.val) 8 k)) (fun k f => wis m c (ix2 k f)) (fun f k => wds m c (ix2 f k)) (fun k => fws m c (ix1 k)) k

def ptRow (t : Fin cfg0.N) : Fin 8 := if t.val < 16 then 0 else if t.val < 18 then 1 else 2

def pos (t : Fin cfg0.N) (i : Fin 512) : Fin 10240 := ⟨t.val * 512 + i.val, by have := lt20 t; omega⟩

theorem row_pos (t : Fin cfg0.N) (i : Fin 512) : row (pos t i).val = ptRow t := by
  unfold row ptRow pos
  have := i.isLt
  simp only
  split_ifs <;> first | rfl | omega

theorem read0 (c : Dev nD) (t : Fin cfg0.N) (i : Fin 512) (k : Fin 1024) : iblk m c 0 t (ix2 i k) = xs m c (ix2 (pos t i) k) := by
  unfold pos
  blk_ext [iblk, V, idx t]

theorem read1 (c : Dev nD) (t : Fin cfg0.N) (r : Fin 9) (k : Fin 1024) : iblk m c 1 t (ix3 0 r k) = mods m c (ix3 (ptRow t) r k) := by
  unfold ptRow
  by_cases h1 : t.val < 16
  · blk_ext [iblk, V, idx t, if_pos h1]
  · by_cases h2 : t.val < 18
    · blk_ext [iblk, V, idx t, if_neg h1, if_pos h2]
    · blk_ext [iblk, V, idx t, if_neg h1, if_neg h2]

theorem read2 (c : Dev nD) (t : Fin cfg0.N) (k : Fin 1024) : iblk m c 2 t (ix2 0 k) = nws m c (ix1 k) := by
  have e0 : iblk m c 2 t (ix2 0 k) = V m c main_v0 (ix2 0 k) := by blk_ext [iblk, idx t]
  rw [e0]
  entry_read
  pointwise

theorem read3 (c : Dev nD) (t : Fin cfg0.N) (k : Fin 1024) (f : Fin 5632) : iblk m c 3 t (ix2 k f) = wis m c (ix2 k f) := by
  have e0 : iblk m c 3 t (ix2 k f) = V m c main_v1 (ix2 k f) := by blk_ext [iblk, idx t]
  rw [e0]
  entry_read
  rfl

theorem read4 (c : Dev nD) (t : Fin cfg0.N) (f : Fin 2816) (k : Fin 1024) : iblk m c 4 t (ix2 f k) = wds m c (ix2 f k) := by
  have e0 : iblk m c 4 t (ix2 f k) = V m c main_v2 (ix2 f k) := by blk_ext [iblk, idx t]
  rw [e0]
  entry_read
  rfl

theorem read5 (c : Dev nD) (t : Fin cfg0.N) (k : Fin 1024) : iblk m c 5 t (ix2 0 k) = fws m c (ix1 k) := by
  have e0 : iblk m c 5 t (ix2 0 k) = V m c main_v3 (ix2 0 k) := by blk_ext [iblk, idx t]
  rw [e0]
  entry_read
  pointwise

theorem ctx_apply (c : Dev nD) (t : Fin cfg0.N) (hc1 : k0_cond1 (grid0.coords t) = 1#1) (hc2 : ¬k0_cond2 (grid0.coords t) = 1#1)
    (i : Fin 512) (k : Fin 1024) : outCtx m c t hc1 hc2 (ix2 i k) = tok m c (pos t i) k := by
  unfold outCtx tok
  rw [row_pos]
  frame_out
  refine block_pay _ _ _ _ _ _ _ _ _ _ _ _ (fun i k => xs m c (ix2 (pos t i) k)) _ _ _ _ _ (fun k f => wis m c (ix2 k f)) (fun f k => wds m c (ix2 f k)) ?_ ?_ ?_ ?_ ?_ ?_ ?_ ?_ ?_ ?_ ?_ ?_ i k
  · intro i k; pointwise; exact read0 m c t i k
  · intro k; pointwise; exact read1 m c t 6 k
  · intro k; pointwise; exact read1 m c t 7 k
  · intro k; pointwise; exact read1 m c t 8 k
  · intro k; pointwise; exact read2 m c t k
  · intro k; pointwise; exact read5 m c t k
  · intro k j; pointwise; exact read3 m c t k _
  · intro k j; pointwise; exact read3 m c t k _
  · intro k j; pointwise; exact read3 m c t k _
  · intro k j; pointwise; exact read3 m c t k _
  · intro j k; pointwise; exact read4 m c t _ k
  · intro j k; pointwise; exact read4 m c t _ k

theorem lat_apply (c : Dev nD) (t : Fin cfg0.N) (hc1 : ¬k0_cond1 (grid0.coords t) = 1#1) (hc2 : k0_cond2 (grid0.coords t) = 1#1)
    (i : Fin 512) (k : Fin 1024) : outLat m c t hc1 hc2 (ix2 i k) = tok m c (pos t i) k := by
  unfold outLat tok
  rw [row_pos]
  frame_out
  refine block_pay _ _ _ _ _ _ _ _ _ _ _ _ (fun i k => xs m c (ix2 (pos t i) k)) _ _ _ _ _ (fun k f => wis m c (ix2 k f)) (fun f k => wds m c (ix2 f k)) ?_ ?_ ?_ ?_ ?_ ?_ ?_ ?_ ?_ ?_ ?_ ?_ i k
  · intro i k; pointwise; exact read0 m c t i k
  · intro k; pointwise; exact read1 m c t 6 k
  · intro k; pointwise; exact read1 m c t 7 k
  · intro k; pointwise; exact read1 m c t 8 k
  · intro k; pointwise; exact read2 m c t k
  · intro k; pointwise; exact read5 m c t k
  · intro k j; pointwise; exact read3 m c t k _
  · intro k j; pointwise; exact read3 m c t k _
  · intro k j; pointwise; exact read3 m c t k _
  · intro k j; pointwise; exact read3 m c t k _
  · intro j k; pointwise; exact read4 m c t _ k
  · intro j k; pointwise; exact read4 m c t _ k

def ctxTok (n : Fin 8192) : Fin 10240 := ⟨n.val, by omega⟩
def latTok (n : Fin 2048) : Fin 10240 := ⟨8192 + n.val, by omega⟩

/-- The context tokens' results. -/
def ctxArr (c : Dev nD) : FVec Ideal S8192x1024 .f32 := fun y => tok m c (ctxTok (y 0)) (y 1)
/-- The latent tokens' results. -/
def latArr (c : Dev nD) : FVec Ideal S2048x1024 .f32 := fun y => tok m c (latTok (y 0)) (y 1)

theorem final6 (c : Dev nD) : (dats m 0 c).arrAt 6 cfg0.N = ctxArr m c := by
  refine (dats m 0 c).arrAt_eq_of_covers 6 _ (by decide +kernel) fun t _ y => ?_
  blk_simp
  rw [after6]
  obtain ⟨i, k, rfl⟩ : ∃ (i : Fin 512) (k : Fin 1024), y = ix2 i k := ⟨y 0, y 1, eq_ix2 y⟩
  have e0 : (win0_6.blk t).view.emb (ix2 i k) = ix2 (⟨(ctxPt t).val * 512 + i.val, by have := ctxPt_lt t; omega⟩ : Fin 8192) k := by
    unfold ctxPt
    blk_ext [idx t]
  rw [e0]
  exact ctx_apply m c (ctxPt t) _ _ i k

theorem final7 (c : Dev nD) : (dats m 0 c).arrAt 7 cfg0.N = latArr m c := by
  refine (dats m 0 c).arrAt_eq_of_covers 7 _ (by decide +kernel) fun t _ y => ?_
  blk_simp
  rw [after7]
  obtain ⟨i, k, rfl⟩ : ∃ (i : Fin 512) (k : Fin 1024), y = ix2 i k := ⟨y 0, y 1, eq_ix2 y⟩
  have e0 : (win0_7.blk t).view.emb (ix2 i k) = ix2 (⟨((latPt t).val - 16) * 512 + i.val, by have := lt20 (latPt t); omega⟩ : Fin 2048) k := by
    unfold latPt
    blk_ext [idx t]
  rw [e0]
  refine (lat_apply m c (latPt t) _ _ i k).trans ?_
  refine congrArg (fun n => tok m c n k) (Fin.ext ?_)
  have := latPt_ge t
  show (latPt t).val * 512 + i.val = 8192 + (((latPt t).val - 16) * 512 + i.val)
  omega

end Cert.Kernel2Ideal.Ffn

end
-- ==== Proof.Ffn.Ref.lean ====
/- The feed-forward reference, read at one entry. -/
module

public import proofs.«01_k».proof.Proof.Gen.Reference2Ideal.Run
public import proofs.«01_k».proof.Proof.Ffn.Math

@[expose] public section

set_option maxRecDepth 16384

noncomputable section

namespace Cert.Reference2Ideal.Ffn

open Cert.Reference2Ideal Cert.Reference2Ideal.Gen Idealize.ShloMosaic Idealize.ShloMosaic.TcCoe

/-! ## The modulation's rows -/

/-- The row of the modulation a token reads. -/
def row (n : Nat) : Fin 8 := if n < 8192 then 0 else if n < 9216 then 1 else 2

abbrev k32 (v : BitVec 32) : IVec S10240 32 := broadcastInDim S10240 ![] bcast_S_S10240 (constantI S_ 32 v)
/-- Every token's row, as a word. -/
def rows : IVec S10240 32 :=
  select (cmpi .slt (iotaInDim S10240 32 0) (k32 8192#32)) (k32 0#32) (select (cmpi .slt (iotaInDim S10240 32 0) (k32 9216#32)) (k32 1#32) (k32 2#32))
/-- The same, a negative row counted from the end. -/
def wrapped : IVec S10240 32 := select (cmpi .slt rows (k32 0#32)) (addi rows (k32 8#32)) rows
/-- The pairs of row and part the table is read at. -/
def pairs (v : BitVec 32) : IVec S10240x2 32 :=
  concatenate S10240x2 1 [⟨S10240x1, (broadcastInDim S10240x1 ![0] bcast_S10240_S10240x1_0 wrapped)⟩, ⟨S10240x1, (broadcastInDim S10240x1 ![0] bcast_S10240_S10240x1_0 (id (k32 v)))⟩] concatenates_S10240x1_S10240x1_S10240x2_d1
def part (w : FVec Ideal S8x9x1024 .f32) (v : BitVec 32) : FVec Ideal S10240x1024 .f32 := Host.gather gather_S8x9x1024_S10240x2_S10240x1024_1_01_n_n_01_1_111024 w (pairs v)

theorem slt_word {a b : Nat} (ha : a < 2 ^ 31) (hb : b < 2 ^ 31) : IntOp.cmpi .slt (BitVec.ofNat 32 a) (BitVec.ofNat 32 b) = if a < b then 1#1 else 0#1 := by
  have e : (BitVec.ofNat 32 a).slt (BitVec.ofNat 32 b) = decide (a < b) := by
    have na : (BitVec.ofNat 32 a).toNat = a := (BitVec.toNat_ofNat a 32).trans (Nat.mod_eq_of_lt (by omega))
    have nb : (BitVec.ofNat 32 b).toNat = b := (BitVec.toNat_ofNat b 32).trans (Nat.mod_eq_of_lt (by omega))
    rw [BitVec.slt, BitVec.toInt_eq_toNat_of_lt (by omega), BitVec.toInt_eq_toNat_of_lt (by omega), na, nb]
    exact decide_eq_decide.2 Int.ofNat_lt
  show BitVec.ofBool ((BitVec.ofNat 32 a).slt (BitVec.ofNat 32 b)) = _
  rw [e]
  by_cases h : a < b
  · rw [if_pos h, decide_eq_true h]; rfl
  · rw [if_neg h, decide_eq_false h]; rfl

theorem rows_apply (n : Fin 10240) : rows (ix1 n) = BitVec.ofNat 32 (row n.val).val := by
  pointwise [rows]
  have := n.isLt
  rw [slt_word (a := n.val) (b := 8192) (by omega) (by omega), slt_word (a := n.val) (b := 9216) (by omega) (by omega)]
  unfold row
  by_cases h1 : n.val < 8192
  · simp only [if_pos h1]; rfl
  · by_cases h2 : n.val < 9216
    · simp only [if_neg h1, if_pos h2]; rfl
    · simp only [if_neg h1, if_neg h2]; rfl
theorem wrapped_apply (n : Fin 10240) : wrapped (ix1 n) = BitVec.ofNat 32 (row n.val).val := by
  pointwise [wrapped]
  rw [rows_apply, show IntOp.cmpi .slt (BitVec.ofNat 32 (row n.val).val) 0#32 = 0#1 from
    (slt_word (b := 0) (by have := (row n.val).isLt; omega) (by omega)).trans (if_neg (Nat.not_lt_zero _))]
  rfl
theorem pairs_row (v : BitVec 32) (n : Fin 10240) : pairs v (ix2 n 0) = BitVec.ofNat 32 (row n.val).val := by
  refine Eq.trans ?_ (wrapped_apply n)
  pointwise [pairs]
theorem pairs_part (v : BitVec 32) (n : Fin 10240) : pairs v (ix2 n 1) = v := by
  pointwise [pairs]
  rfl

abbrev D := gather_S8x9x1024_S10240x2_S10240x1024_1_01_n_n_01_1_111024
theorem gather_apply (x : FVec Ideal S8x9x1024 .f32) (ii : IVec S10240x2 32) (n : Fin 10240) (k : Fin 1024) (b : Fin 8) (r : Fin 9)
    (h0 : ii (ix2 n 0) = BitVec.ofNat 32 b.val) (h1 : ii (ix2 n 1) = BitVec.ofNat 32 r.val) :
    Host.gather D x ii (ix2 n k) = x (ix3 b r k) := by
  unfold Host.gather
  refine congrArg x (funext fun a => Fin.ext ?_)
  have hsi : ∀ (j : Fin 2), D.siIdx (ix2 n k) j = ix2 n j := fun j => by
    funext b'
    apply Fin.ext
    match b' with
    | ⟨0, _⟩ => rfl
    | ⟨1, _⟩ => rfl
  match a with
  | ⟨0, _⟩ =>
    show D.start (ix2 n k) ii 0 + D.batchCoord (ix2 n k) 0 + D.offCoord (ix2 n k) 0 = b.val
    rw [D.batchCoord_eq_zero _ _ List.not_mem_nil, D.offCoord_eq_zero _ _ (by decide)]
    unfold GatherDims.start
    rw [dif_pos (by decide)]
    refine Eq.trans (b := min (ii (ix2 n 0)).toInt.toNat 7) (by rw [← hsi 0]; rfl) ?_
    rw [h0]
    fin_cases b <;> rfl
  | ⟨1, _⟩ =>
    show D.start (ix2 n k) ii 1 + D.batchCoord (ix2 n k) 1 + D.offCoord (ix2 n k) 1 = r.val
    rw [D.batchCoord_eq_zero _ _ List.not_mem_nil, D.offCoord_eq_zero _ _ (by decide)]
    unfold GatherDims.start
    rw [dif_pos (by decide)]
    refine Eq.trans (b := min (ii (ix2 n 1)).toInt.toNat 8) (by rw [← hsi 1]; rfl) ?_
    rw [h1]
    fin_cases r <;> rfl
  | ⟨2, _⟩ =>
    show D.start (ix2 n k) ii 2 + D.batchCoord (ix2 n k) 2 + D.offCoord (ix2 n k) 2 = k.val
    rw [D.batchCoord_eq_zero _ _ List.not_mem_nil]
    unfold GatherDims.start
    rw [dif_neg (by decide)]
    unfold GatherDims.offCoord
    rw [dif_pos (by decide)]
    simp only [Nat.zero_add]
    rfl

theorem part_apply (w : FVec Ideal S8x9x1024 .f32) (r : Fin 9) (n : Fin 10240) (k : Fin 1024) :
    part w (BitVec.ofNat 32 r.val) (ix2 n k) = w (ix3 (row n.val) r k) :=
  gather_apply w _ n k _ r (pairs_row _ n) (pairs_part _ n)

/-! ## The stages -/

/-- Each token over its root mean square, weighed. -/
def rms (x : FVec Ideal S10240x1024 .f32) (w : FVec Ideal S1024 .f32) : FVec Ideal S10240x1024 .f32 :=
  mulf (mulf x (broadcastInDim S10240x1024 ![0, 1] bcast_S10240x1_S10240x1024_0_1 (Host.rsqrt (addf (Host.divf (broadcastInDim S10240x1 ![0] bcast_S10240_S10240x1_0 (Host.reduceAdd (mulf x x) (constant S_ .f32 0x00000000#32) reducesTo_S10240x1024_S10240_d1 h_S_)) (broadcastInDim S10240x1 ![] bcast_S_S10240x1 (constant S_ .f32 0x44800000#32))) (broadcastInDim S10240x1 ![] bcast_S_S10240x1 (constant S_ .f32 0x358637BD#32))))))
    (broadcastInDim S10240x1024 ![0, 1] bcast_S1x1024_S10240x1024_0_1 (broadcastInDim S1x1024 ![1] bcast_S1024_S1x1024_1 w))
def hid (x : FVec Ideal S10240x1024 .f32) (w : FVec Ideal S1024 .f32) (sc sh : FVec Ideal S10240x1024 .f32) : FVec Ideal S10240x1024 .f32 :=
  addf (mulf (rms x w) (addf (broadcastInDim S10240x1024 ![] bcast_S_S10240x1024 (constant S_ .f32 0x3F800000#32)) sc)) sh
def up (h : FVec Ideal S10240x1024 .f32) (wi : FVec Ideal S1024x5632 .f32) : FVec Ideal S10240x5632 .f32 :=
  Host.dotGeneral dot_S10240x1024_S1024x5632_S10240x5632_1_0_0_1_n_n none h wi
def gate (u : FVec Ideal S10240x5632 .f32) : FVec Ideal S10240x2816 .f32 := extractStridedSlice S10240x2816 ![0, 0] u slices_S10240x5632_S10240x2816_0_0
def other (u : FVec Ideal S10240x5632 .f32) : FVec Ideal S10240x2816 .f32 := extractStridedSlice S10240x2816 ![0, 2816] u slices_S10240x5632_S10240x2816_0_2816
def glu (g o : FVec Ideal S10240x2816 .f32) : FVec Ideal S10240x2816 .f32 :=
  mulf (mulf g (Host.divf (broadcastInDim S10240x2816 ![] bcast_S_S10240x2816 (constant S_ .f32 0x3F800000#32)) (addf (broadcastInDim S10240x2816 ![] bcast_S_S10240x2816 (constant S_ .f32 0x3F800000#32)) (Host.exp (Host.negf g))))) o
def down (a : FVec Ideal S10240x2816 .f32) (wd : FVec Ideal S2816x1024 .f32) : FVec Ideal S10240x1024 .f32 :=
  Host.dotGeneral dot_S10240x2816_S2816x1024_S10240x1024_1_0_0_1_n_n none a wd
def plus (x ga d : FVec Ideal S10240x1024 .f32) : FVec Ideal S10240x1024 .f32 :=
  addf x (mulf (mulf (broadcastInDim S10240x1024 ![] bcast_S_S10240x1024 (constant S_ .f32 0x3F000000#32)) ga) d)
def acts (x : FVec Ideal S10240x1024 .f32) (mods : FVec Ideal S8x9x1024 .f32) (nw : FVec Ideal S1024 .f32) (wi : FVec Ideal S1024x5632 .f32) : FVec Ideal S10240x2816 .f32 :=
  glu (gate (up (hid x nw (part mods 7#32) (part mods 6#32)) wi)) (other (up (hid x nw (part mods 7#32) (part mods 6#32)) wi))
def whole (x : FVec Ideal S10240x1024 .f32) (mods : FVec Ideal S8x9x1024 .f32) (nw : FVec Ideal S1024 .f32) (wi : FVec Ideal S1024x5632 .f32)
    (wd : FVec Ideal S2816x1024 .f32) (fw : FVec Ideal S1024 .f32) : FVec Ideal S10240x1024 .f32 :=
  rms (plus x (part mods 8#32) (down (acts x mods nw wi) wd)) fw

theorem rms_apply (x : FVec Ideal S10240x1024 .f32) (w : FVec Ideal S1024 .f32) (n : Fin 10240) (k : Fin 1024) :
    rms x w (ix2 n k) = Cert.Ffn.rms (fun k => x (ix2 n k)) (fun k => w (ix1 k)) k := by
  pointwise [rms, Cert.Ffn.rms, Cert.Ffn.scale, Cert.Ffn.wN, Cert.Ffn.wEps]
theorem hid_apply (x : FVec Ideal S10240x1024 .f32) (w : FVec Ideal S1024 .f32) (sc sh : FVec Ideal S10240x1024 .f32) (n : Fin 10240) (k : Fin 1024) :
    hid x w sc sh (ix2 n k) = Cert.Ffn.hid (fun k => x (ix2 n k)) (fun k => w (ix1 k)) (fun k => sc (ix2 n k)) (fun k => sh (ix2 n k)) k := by
  rw [Cert.Ffn.hid, ← rms_apply]
  pointwise [hid, Cert.Ffn.wOne]
theorem up_apply (h : FVec Ideal S10240x1024 .f32) (wi : FVec Ideal S1024x5632 .f32) (n : Fin 10240) (f : Fin 5632) :
    up h wi (ix2 n f) = Cert.Ffn.up (fun k => h (ix2 n k)) (fun k f => wi (ix2 k f)) f := by
  pointwise [up, Cert.Ffn.up]
theorem gate_apply (u : FVec Ideal S10240x5632 .f32) (n : Fin 10240) (f : Fin 2816) : gate u (ix2 n f) = u (ix2 n ⟨f.val, by omega⟩) := by
  pointwise [gate]
theorem other_apply (u : FVec Ideal S10240x5632 .f32) (n : Fin 10240) (f : Fin 2816) : other u (ix2 n f) = u (ix2 n ⟨2816 + f.val, by omega⟩) := by
  pointwise [other]
theorem glu_apply (g o : FVec Ideal S10240x2816 .f32) (n : Fin 10240) (f : Fin 2816) : glu g o (ix2 n f) = Cert.Ffn.glu (g (ix2 n f)) (o (ix2 n f)) := by
  pointwise [glu, Cert.Ffn.glu, Cert.Ffn.wOne]
theorem down_apply (a : FVec Ideal S10240x2816 .f32) (wd : FVec Ideal S2816x1024 .f32) (n : Fin 10240) (k : Fin 1024) :
    down a wd (ix2 n k) = Cert.Ffn.down (fun f => a (ix2 n f)) (fun f k => wd (ix2 f k)) k := by
  pointwise [down, Cert.Ffn.down]
theorem plus_apply (x ga d : FVec Ideal S10240x1024 .f32) (n : Fin 10240) (k : Fin 1024) :
    plus x ga d (ix2 n k) = x (ix2 n k) + Cert.Ffn.wHalf * ga (ix2 n k) * d (ix2 n k) := by
  pointwise [plus, Cert.Ffn.wHalf]

/-- One entry of the reference's half-step. -/
theorem whole_apply (x : FVec Ideal S10240x1024 .f32) (mods : FVec Ideal S8x9x1024 .f32) (nw : FVec Ideal S1024 .f32) (wi : FVec Ideal S1024x5632 .f32)
    (wd : FVec Ideal S2816x1024 .f32) (fw : FVec Ideal S1024 .f32) (n : Fin 10240) (k : Fin 1024) :
    whole x mods nw wi wd fw (ix2 n k) = Cert.Ffn.out (fun k => x (ix2 n k)) (fun k => nw (ix1 k)) (fun k => mods (ix3 (row n.val) 7 k))
      (fun k => mods (ix3 (row n.val) 6 k)) (fun k => mods (ix3 (row n.val) 8 k)) (fun k f => wi (ix2 k f)) (fun f k => wd (ix2 f k)) (fun k => fw (ix1 k)) k := by
  have e7 : (fun k => part mods 7#32 (ix2 n k)) = fun k => mods (ix3 (row n.val) 7 k) := funext fun k => part_apply mods 7 n k
  have e6 : (fun k => part mods 6#32 (ix2 n k)) = fun k => mods (ix3 (row n.val) 6 k) := funext fun k => part_apply mods 6 n k
  have eh : (fun k => hid x nw (part mods 7#32) (part mods 6#32) (ix2 n k)) = Cert.Ffn.hid (fun k => x (ix2 n k)) (fun k => nw (ix1 k)) (fun k => mods (ix3 (row n.val) 7 k))
      (fun k => mods (ix3 (row n.val) 6 k)) := funext fun k => by rw [hid_apply, e7, e6]
  have ea : (fun f => acts x mods nw wi (ix2 n f)) = Cert.Ffn.act (Cert.Ffn.hid (fun k => x (ix2 n k)) (fun k => nw (ix1 k)) (fun k => mods (ix3 (row n.val) 7 k))
      (fun k => mods (ix3 (row n.val) 6 k))) fun k f => wi (ix2 k f) := funext fun f => by
    rw [acts, glu_apply, gate_apply, other_apply, up_apply, up_apply, eh]; rfl
  have ey : (fun k => plus x (part mods 8#32) (down (acts x mods nw wi) wd) (ix2 n k)) = Cert.Ffn.step (fun k => x (ix2 n k)) (fun k => nw (ix1 k))
      (fun k => mods (ix3 (row n.val) 7 k)) (fun k => mods (ix3 (row n.val) 6 k)) (fun k => mods (ix3 (row n.val) 8 k)) (fun k f => wi (ix2 k f)) fun f k => wd (ix2 f k) :=
    funext fun k => by
      rw [plus_apply, down_apply, ea, show part mods 8#32 (ix2 n k) = _ from part_apply mods 8 n k]; rfl
  rw [whole, rms_apply, ey]
  rfl

section
variable (m : (ℓ : Loc nD τ sig) → Buf (Elt Ideal) ℓ) (c : Dev nD)

abbrev xs : FVec Ideal S10240x1024 .f32 := m ((c.tc : Thread nD τ).loc main_arg0)
abbrev mods : FVec Ideal S8x9x1024 .f32 := m ((c.tc : Thread nD τ).loc main_arg1)
abbrev nws : FVec Ideal S1024 .f32 := m ((c.tc : Thread nD τ).loc main_arg2)
abbrev wis : FVec Ideal S1024x5632 .f32 := m ((c.tc : Thread nD τ).loc main_arg3)
abbrev wds : FVec Ideal S2816x1024 .f32 := m ((c.tc : Thread nD τ).loc main_arg4)
abbrev fws : FVec Ideal S1024 .f32 := m ((c.tc : Thread nD τ).loc main_arg5)

theorem res0_eq : Value.res_main_v80 m c
    = extractStridedSlice S8192x1024 ![0, 0] (whole (xs m c) (mods m c) (nws m c) (wis m c) (wds m c) (fws m c)) slices_S10240x1024_S8192x1024_0_0 := rfl
theorem res1_eq : Value.res_main_v81 m c
    = extractStridedSlice S2048x1024 ![8192, 0] (whole (xs m c) (mods m c) (nws m c) (wis m c) (wds m c) (fws m c)) slices_S10240x1024_S2048x1024_8192_0 := rfl

/-- Token `n` of the half-step, normed. -/
def tok (n : Fin 10240) (k : Fin 1024) : EReal :=
  Cert.Ffn.out (fun k => xs m c (ix2 n k)) (fun k => nws m c (ix1 k)) (fun k => mods m c (ix3 (row n.val) 7 k)) (fun k => mods m c (ix3 (row n.val) 6 k))
    (fun k => mods m c (ix3 (row n.val) 8 k)) (fun k f => wis m c (ix2 k f)) (fun f k => wds m c (ix2 f k)) (fun k => fws m c (ix1 k)) k

theorem res0_apply (n : Fin 8192) (k : Fin 1024) : Value.res_main_v80 m c (ix2 n k) = tok m c ⟨n.val, by omega⟩ k := by
  rw [res0_eq]
  refine Eq.trans ?_ (whole_apply _ _ _ _ _ _ _ k)
  pointwise
theorem res1_apply (n : Fin 2048) (k : Fin 1024) : Value.res_main_v81 m c (ix2 n k) = tok m c ⟨8192 + n.val, by omega⟩ k := by
  rw [res1_eq]
  refine Eq.trans ?_ (whole_apply _ _ _ _ _ _ _ k)
  pointwise
end

end Cert.Reference2Ideal.Ffn

end
-- ==== Proof.Ffn.Claim.lean ====
/- The feed-forward call and its reference, over the extended reals: equal results of equal arguments. -/
module

public import proofs.«01_k».proof.Defs
public import proofs.«01_k».proof.Proof.Gen.Kernel2
public import proofs.«01_k».proof.Proof.Ffn.Final
public import proofs.«01_k».proof.Proof.Ffn.Ref
public import Idealize.ShloMosaic.Adequacy
public import Idealize.ShloMosaic.Init

@[expose] public section

set_option maxRecDepth 16384

noncomputable section

namespace Cert.Proof.Ffn

open Idealize.ShloMosaic Idealize.ShloMosaic.TcCoe Idealize.SL.Sem

/-! ## The kernel and its idealization are one text -/

theorem body_eq (F : FTy → Type) [FloatOps F] : Cert.Kernel2.cc0_swiglu_half_step (F := F) = Cert.Kernel2Ideal.cc0_swiglu_half_step (F := F) := rfl
theorem table_eq (F : FTy → Type) [FloatOps F] : Cert.Kernel2.defs₀ (F := F) = Cert.Kernel2Ideal.defs₀ (F := F) := by
  unfold Cert.Kernel2.defs₀ Cert.Kernel2Ideal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (body_eq F) _) _) _) _) _) _) _) _) _) _) _) _) _) _) _) _) _
  | ⟨_ + 1, h⟩, _ => exact absurd h (Nat.not_lt.2 (Nat.le_add_left _ _))
theorem defs_eq (F : FTy → Type) [FloatOps F] : Cert.Kernel2.defs (F := F) = Cert.Kernel2Ideal.defs (F := F) :=
  congrArg (Pipeline.defs Cert.Kernel2Ideal.pcfgs) (table_eq F)

theorem frame_kernel : Cert.quiescent_Kernel2 := fun m ρ _ => by
  have h := Cert.Kernel2Ideal.Ffn.frame_any (F := Bits) m ρ
  rw [← defs_eq] at h
  exact h
theorem frame_ideal : Cert.quiescent_Kernel2Ideal := fun m ρ _ => Cert.Kernel2Ideal.Ffn.frame_any (F := Ideal) m ρ
theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal := by
  intro m g m' g' _ hag
  refine ⟨fun c => Cert.Kernel2Ideal.Ffn.ctxArr m c, fun c => Cert.Kernel2Ideal.Ffn.latArr m c, ?_, ?_⟩
  · refine (θ_run _ _ _).mono (fun r h c => ?_) (Cert.Kernel2Ideal.Ffn.run_arrays m g)
    obtain ⟨⟨h1, h2⟩, h3⟩ := h c
    exact ⟨h1.trans (Cert.Kernel2Ideal.Ffn.final6 m c), h2.trans (Cert.Kernel2Ideal.Ffn.final7 m c), h3⟩
  · refine (θ_run _ _ _).mono (fun r h c => ?_) (Cert.Reference2Ideal.Value.run m' g')
    obtain ⟨h1, h2, h3⟩ := h c
    obtain ⟨a0, a1, a2, a3, a4, a5⟩ := hag c
    have e : Cert.Reference2Ideal.Ffn.tok m' c = Cert.Kernel2Ideal.Ffn.tok m c := by
      funext n k
      unfold Cert.Reference2Ideal.Ffn.tok Cert.Kernel2Ideal.Ffn.tok
      rw [show Cert.Reference2Ideal.Ffn.xs m' c = Cert.Kernel2Ideal.Ffn.xs m c from a0, show Cert.Reference2Ideal.Ffn.mods m' c = Cert.Kernel2Ideal.Ffn.mods m c from a1,
        show Cert.Reference2Ideal.Ffn.nws m' c = Cert.Kernel2Ideal.Ffn.nws m c from a2, show Cert.Reference2Ideal.Ffn.wis m' c = Cert.Kernel2Ideal.Ffn.wis m c from a3,
        show Cert.Reference2Ideal.Ffn.wds m' c = Cert.Kernel2Ideal.Ffn.wds m c from a4, show Cert.Reference2Ideal.Ffn.fws m' c = Cert.Kernel2Ideal.Ffn.fws m c from a5]
      rfl
    refine ⟨h1.trans ?_, h2.trans ?_, h3⟩
    · funext y
      obtain ⟨n, k, rfl⟩ : ∃ (n : Fin 8192) (k : Fin 1024), y = ix2 n k := ⟨y 0, y 1, eq_ix2 y⟩
      refine (Cert.Reference2Ideal.Ffn.res0_apply m' c n k).trans ?_
      rw [e]; rfl
    · funext y
      obtain ⟨n, k, rfl⟩ : ∃ (n : Fin 2048) (k : Fin 1024), y = ix2 n k := ⟨y 0, y 1, eq_ix2 y⟩
      refine (Cert.Reference2Ideal.Ffn.res1_apply m' c n k).trans ?_
      rw [e]; rfl

end Cert.Proof.Ffn

end
-- ==== Proof.Merge.Math.lean ====
/- The gated merge of one token's four branches, as plain sums over the extended reals. -/
module

public import proofs.«01_k».proof.Proof.Ffn.Math

@[expose] public section

noncomputable section

namespace Cert.Merge

open Idealize.ShloMosaic

/-- The logistic weight of a gate's score. -/
def gate (z : EReal) : EReal := Ideal.div Cert.Ffn.wOne (Cert.Ffn.wOne + Ideal.exp (-z))
/-- Branch `n`'s gate at channel `c`: its score is read off the normed token. -/
def gateAt (h : Fin 1024 → EReal) (wg : Fin 1024 → Fin 4096 → EReal) (n : Fin 4) (c : Fin 1024) : EReal :=
  gate (∑ k : Fin 1024, h k * wg k ⟨n.val * 1024 + c.val, by omega⟩)
/-- Branch `n` brought to the model's width. -/
def upAt (br : Fin 4 → Fin 256 → EReal) (wb : Fin 4 → Fin 256 → Fin 1024 → EReal) (n : Fin 4) (c : Fin 1024) : EReal := ∑ r : Fin 256, br n r * wb n r c
/-- The four branches, each under its gate, added up. -/
def mix (h : Fin 1024 → EReal) (wg : Fin 1024 → Fin 4096 → EReal) (br : Fin 4 → Fin 256 → EReal) (wb : Fin 4 → Fin 256 → Fin 1024 → EReal)
    (c : Fin 1024) : EReal := ∑ n : Fin 4, gateAt h wg n c * upAt br wb n c
/-- The token with the projected mixture added under its modulation. -/
def out (x nw sc sh ga : Fin 1024 → EReal) (wg : Fin 1024 → Fin 4096 → EReal) (br : Fin 4 → Fin 256 → EReal) (wb : Fin 4 → Fin 256 → Fin 1024 → EReal)
    (wo : Fin 1024 → Fin 1024 → EReal) (c : Fin 1024) : EReal :=
  x c + ga c * ∑ d : Fin 1024, mix (Cert.Ffn.hid x nw sc sh) wg br wb d * wo d c

theorem mix_four (h : Fin 1024 → EReal) (wg : Fin 1024 → Fin 4096 → EReal) (br : Fin 4 → Fin 256 → EReal) (wb : Fin 4 → Fin 256 → Fin 1024 → EReal) (c : Fin 1024) :
    mix h wg br wb c = gateAt h wg 0 c * upAt br wb 0 c + gateAt h wg 1 c * upAt br wb 1 c + gateAt h wg 2 c * upAt br wb 2 c + gateAt h wg 3 c * upAt br wb 3 c :=
  Fin.sum_univ_four _

end Cert.Merge

end
-- ==== Proof.Merge.Block.lean ====
/- What one grid point of the merge call computes, read at one entry. -/
module

public import proofs.«01_k».proof.Proof.Gen.Kernel3Ideal.Skeleton
public import proofs.«01_k».proof.Proof.Merge.Math

@[expose] public section

set_option maxRecDepth 16384

noncomputable section

namespace Cert.Kernel3Ideal.Merge

open Cert.Kernel3Ideal Cert.Kernel3Ideal.Gen Idealize.ShloMosaic Idealize.ShloMosaic.TcCoe

theorem pay1_apply (x : FVec Ideal S512x1024 .f32) (ga : FVec Ideal S1x1x1024 .f32) (mx : FVec Ideal S512x1024 .bf16) (wo : FVec Ideal S1024x1024 .bf16)
    (i : Fin 512) (c : Fin 1024) :
    k0_pay1 (F := Ideal) x (k0_pay2 ga) mx wo (ix2 i c) = x (ix2 i c) + ga (ix3 0 0 c) * ∑ d : Fin 1024, mx (ix2 i d) * wo (ix2 d c) := by
  pointwise [k0_pay1, k0_pay2]

theorem pay3_apply (x : FVec Ideal S512x1024 .f32) (sh sc : FVec Ideal S1x1x1024 .f32) (nw : FVec Ideal S1x1024 .f32) (i : Fin 512) (c : Fin 1024) :
    k0_pay3 (F := Ideal) x sh sc nw (ix2 i c)
      = Cert.Ffn.hid (fun k => x (ix2 i k)) (fun k => nw (ix2 0 k)) (fun k => sc (ix3 0 0 k)) (fun k => sh (ix3 0 0 k)) c := by
  pointwise [k0_pay3, Cert.Ffn.hid, Cert.Ffn.rms, Cert.Ffn.scale, Cert.Ffn.wN, Cert.Ffn.wEps, Cert.Ffn.wOne]

theorem pay4_apply (x : FVec Ideal S512x1024 .f32) (sh sc : FVec Ideal S1x1x1024 .f32) (nw : FVec Ideal S1x1024 .f32) (w : FVec Ideal S1024x1024 .bf16)
    (i : Fin 512) (c : Fin 1024) :
    k0_pay4 (F := Ideal) x sh sc nw w (ix2 i c) = Ideal.exp (-∑ k : Fin 1024, k0_pay3 (F := Ideal) x sh sc nw (ix2 i k) * w (ix2 k c)) := by
  pointwise [k0_pay4]
  simp only [zero_sub]

/-- A branch's block: the latent one from grid point sixteen on, else the context one. -/
def pick (s : BitVec 1) (l c : FVec Ideal S512x256 .f32) : FVec Ideal S512x256 .f32 := Scalar.select s l c

theorem pay6_apply (h : FVec Ideal S512x1024 .bf16) (s : BitVec 1) (e : FVec Ideal S512x1024 .f32) (l0 c0 : FVec Ideal S512x256 .f32) (b0 : FVec Ideal S1x256x1024 .bf16)
    (w1 : FVec Ideal S1024x1024 .bf16) (l1 c1 : FVec Ideal S512x256 .f32) (b1 : FVec Ideal S1x256x1024 .bf16) (i : Fin 512) (c : Fin 1024) :
    k0_pay6 (F := Ideal) h s e k0_pay5 l0 c0 b0 w1 l1 c1 b1 (ix2 i c)
      = Ideal.div Cert.Ffn.wOne (Cert.Ffn.wOne + e (ix2 i c)) * (∑ r : Fin 256, pick s l0 c0 (ix2 i r) * b0 (ix3 0 r c))
        + Cert.Merge.gate (∑ k : Fin 1024, h (ix2 i k) * w1 (ix2 k c)) * ∑ r : Fin 256, pick s l1 c1 (ix2 i r) * b1 (ix3 0 r c) := by
  pointwise [k0_pay6, k0_pay5, Cert.Merge.gate, Cert.Ffn.wOne, pick]
  simp only [zero_sub]

theorem pay8_apply (h : FVec Ideal S512x1024 .bf16) (s : BitVec 1) (a : FVec Ideal S512x1024 .f32) (w2 : FVec Ideal S1024x1024 .bf16)
    (l2 c2 : FVec Ideal S512x256 .f32) (b2 : FVec Ideal S1x256x1024 .bf16)
    (w3 : FVec Ideal S1024x1024 .bf16) (l3 c3 : FVec Ideal S512x256 .f32) (b3 : FVec Ideal S1x256x1024 .bf16) (i : Fin 512) (c : Fin 1024) :
    k0_pay8 (F := Ideal) h s a (k0_pay7 h w2) (Scalar.ofBits .f32 0x00000000#32) l2 c2 b2 w3 l3 c3 b3 (ix2 i c)
      = a (ix2 i c) + Cert.Merge.gate (∑ k : Fin 1024, h (ix2 i k) * w2 (ix2 k c)) * (∑ r : Fin 256, pick s l2 c2 (ix2 i r) * b2 (ix3 0 r c))
        + Cert.Merge.gate (∑ k : Fin 1024, h (ix2 i k) * w3 (ix2 k c)) * ∑ r : Fin 256, pick s l3 c3 (ix2 i r) * b3 (ix3 0 r c) := by
  pointwise [k0_pay8, k0_pay7, Cert.Merge.gate, Cert.Ffn.wOne, pick]
  simp only [zero_sub]

/-- One entry of a block of results, of what the loads brought. -/
theorem block_pay (x : FVec Ideal S512x1024 .f32) (sh sc ga : FVec Ideal S1x1x1024 .f32) (nw : FVec Ideal S1x1024 .f32) (s : BitVec 1)
    (w0 w1 w2 w3 : FVec Ideal S1024x1024 .bf16) (l0 l1 l2 l3 c0 c1 c2 c3 : FVec Ideal S512x256 .f32) (b0 b1 b2 b3 : FVec Ideal S1x256x1024 .bf16)
    (wo : FVec Ideal S1024x1024 .bf16)
    (X : Fin 512 → Fin 1024 → EReal) (SH SC GA NW : Fin 1024 → EReal) (WG : Fin 1024 → Fin 4096 → EReal) (BR : Fin 512 → Fin 4 → Fin 256 → EReal)
    (WB : Fin 4 → Fin 256 → Fin 1024 → EReal) (WO : Fin 1024 → Fin 1024 → EReal)
    (hx : ∀ i k, x (ix2 i k) = X i k) (hsh : ∀ k, sh (ix3 0 0 k) = SH k) (hsc : ∀ k, sc (ix3 0 0 k) = SC k) (hga : ∀ k, ga (ix3 0 0 k) = GA k)
    (hnw : ∀ k, nw (ix2 0 k) = NW k)
    (h0 : ∀ k (c : Fin 1024), w0 (ix2 k c) = WG k ⟨(0 : Fin 4).val * 1024 + c.val, by omega⟩) (h1 : ∀ k (c : Fin 1024), w1 (ix2 k c) = WG k ⟨(1 : Fin 4).val * 1024 + c.val, by omega⟩)
    (h2 : ∀ k (c : Fin 1024), w2 (ix2 k c) = WG k ⟨(2 : Fin 4).val * 1024 + c.val, by omega⟩) (h3 : ∀ k (c : Fin 1024), w3 (ix2 k c) = WG k ⟨(3 : Fin 4).val * 1024 + c.val, by omega⟩)
    (p0 : ∀ i r, pick s l0 c0 (ix2 i r) = BR i 0 r) (p1 : ∀ i r, pick s l1 c1 (ix2 i r) = BR i 1 r)
    (p2 : ∀ i r, pick s l2 c2 (ix2 i r) = BR i 2 r) (p3 : ∀ i r, pick s l3 c3 (ix2 i r) = BR i 3 r)
    (q0 : ∀ r c, b0 (ix3 0 r c) = WB 0 r c) (q1 : ∀ r c, b1 (ix3 0 r c) = WB 1 r c) (q2 : ∀ r c, b2 (ix3 0 r c) = WB 2 r c) (q3 : ∀ r c, b3 (ix3 0 r c) = WB 3 r c)
    (ho : ∀ d c, wo (ix2 d c) = WO d c) (i : Fin 512) (c : Fin 1024) :
    k0_pay1 (F := Ideal) x (k0_pay2 ga) (k0_pay8 (k0_pay3 x sh sc nw) s (k0_pay6 (k0_pay3 x sh sc nw) s (k0_pay4 x sh sc nw w0) k0_pay5 l0 c0 b0 w1 l1 c1 b1)
        (k0_pay7 (k0_pay3 x sh sc nw) w2) (Scalar.ofBits .f32 0x00000000#32) l2 c2 b2 w3 l3 c3 b3) wo (ix2 i c)
      = Cert.Merge.out (X i) NW SC SH GA WG (BR i) WB WO c := by
  have eh : ∀ k, k0_pay3 (F := Ideal) x sh sc nw (ix2 i k) = Cert.Ffn.hid (X i) NW SC SH k := fun k => by
    rw [pay3_apply]; simp only [hx, hsh, hsc, hnw]
  rw [pay1_apply, Cert.Merge.out, hx, hga]
  have em : ∀ d, k0_pay8 (F := Ideal) (k0_pay3 x sh sc nw) s (k0_pay6 (k0_pay3 x sh sc nw) s (k0_pay4 x sh sc nw w0) k0_pay5 l0 c0 b0 w1 l1 c1 b1)
        (k0_pay7 (k0_pay3 x sh sc nw) w2) (Scalar.ofBits .f32 0x00000000#32) l2 c2 b2 w3 l3 c3 b3 (ix2 i d)
      = Cert.Merge.mix (Cert.Ffn.hid (X i) NW SC SH) WG (BR i) WB d := fun d => by
    rw [pay8_apply, pay6_apply, pay4_apply, Cert.Merge.mix_four]
    simp only [eh, h0, h1, h2, h3, p0, p1, p2, p3, q0, q1, q2, q3]
    rfl
  simp only [em, ho]

end Cert.Kernel3Ideal.Merge

end
-- ==== Proof.Merge.Final.lean ====
/- The merge call's result array: each grid point writes its 512 tokens. -/
module

public import proofs.«01_k».proof.Proof.Merge.Block
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem lt20 (t : Fin cfg0.N) : t.val < 20 := lt_of_lt_of_eq t.isLt N_0

/-- The row of the modulation a token reads: the context's, or its sample's. -/
def row (n : Nat) : Fin 8 := if n < 8192 then 0 else if n < 9216 then 1 else 2

theorem idx : ∀ t : Fin cfg0.N, win0_0.index t = ![t.val, 0] ∧ win0_1.index t = ![(if t.val < 16 then 0 else if t.val < 18 then 1 else 2), 0, 0]
    ∧ win0_2.index t = ![0, 0] ∧ win0_3.index t = ![min t.val 15, 0] ∧ win0_4.index t = ![min t.val 15, 0] ∧ win0_5.index t = ![min t.val 15, 0]
    ∧ win0_6.index t = ![min t.val 15, 0] ∧ win0_7.index t = ![t.val - 16, 0] ∧ win0_8.index t = ![t.val - 16, 0] ∧ win0_9.index t = ![t.val - 16, 0]
    ∧ win0_10.index t = ![t.val - 16, 0] ∧ win0_11.index t = ![0, 0] ∧ win0_12.index t = ![0, 0, 0] ∧ win0_13.index t = ![0, 0] ∧ win0_14.index t = ![t.val, 0] :=
  (by decide +kernel : ∀ t : Fin grid0.N, _)

/-- The choice of branch blocks: the context's before grid point sixteen, the samples' from there on. -/
theorem late : ∀ t : Fin cfg0.N, Scalar.cmpi .sge (BitVec.ofNat 32 ((grid0.coords t) 0).val) 16#32 = if t.val < 16 then 0#1 else 1#1 :=
  (by decide +kernel : ∀ t : Fin grid0.N, _)

abbrev xs (c : Dev nD) : FVec Ideal S10240x1024 .f32 := m ((c.tc : Thread nD τ).loc main_arg0)
abbrev mods (c : Dev nD) : FVec Ideal S8x9x1024 .f32 := m ((c.tc : Thread nD τ).loc main_arg1)
abbrev nws (c : Dev nD) : FVec Ideal S1024 .f32 := m ((c.tc : Thread nD τ).loc main_arg2)
abbrev ctx0 (c : Dev nD) : FVec Ideal S8192x256 .f32 := m ((c.tc : Thread nD τ).loc main_arg3)
abbrev ctx1 (c : Dev nD) : FVec Ideal S8192x256 .f32 := m ((c.tc : Thread nD τ).loc main_arg4)
abbrev ctx2 (c : Dev nD) : FVec Ideal S8192x256 .f32 := m ((c.tc : Thread nD τ).loc main_arg5)
abbrev ctx3 (c : Dev nD) : FVec Ideal S8192x256 .f32 := m ((c.tc : Thread nD τ).loc main_arg6)
abbrev lat0 (c : Dev nD) : FVec Ideal S2048x256 .f32 := m ((c.tc : Thread nD τ).loc main_arg7)
abbrev lat1 (c : Dev nD) : FVec Ideal S2048x256 .f32 := m ((c.tc : Thread nD τ).loc main_arg8)
abbrev lat2 (c : Dev nD) : FVec Ideal S2048x256 .f32 := m ((c.tc : Thread nD τ).loc main_arg9)
abbrev lat3 (c : Dev nD) : FVec Ideal S2048x256 .f32 := m ((c.tc : Thread nD τ).loc main_arg10)
abbrev wgs (c : Dev nD) : FVec Ideal S1024x4096 .f32 := m ((c.tc : Thread nD τ).loc main_arg11)
abbrev wbs (c : Dev nD) : FVec Ideal S4x256x1024 .f32 := m ((c.tc : Thread nD τ).loc main_arg12)
abbrev wos (c : Dev nD) : FVec Ideal S1024x1024 .f32 := m ((c.tc : Thread nD τ).loc main_arg13)

/-- Token `n` of a branch: the context tokens come first, then the samples'. -/
def both (a : FVec Ideal S8192x256 .f32) (b : FVec Ideal S2048x256 .f32) (n : Fin 10240) (r : Fin 256) : EReal :=
  if h : n.val < 8192 then a (ix2 ⟨n.val, h⟩ r) else b (ix2 ⟨n.val - 8192, by omega⟩ r)
/-- The four branches of token `n`. -/
def branch (c : Dev nD) (n : Fin 10240) : Fin 4 → Fin 256 → EReal :=
  ![both (ctx0 m c) (lat0 m c) n, both (ctx1 m c) (lat1 m c) n, both (ctx2 m c) (lat2 m c) n, both (ctx3 m c) (lat3 m c) n]

/-- Token `n` of the merge. -/
def tok (c : Dev nD) (n : Fin 10240) (k : Fin 1024) : EReal :=
  Cert.Merge.out (fun k => xs m c (ix2 n k)) (fun k => nws m c (ix1 k)) (fun k => mods m c (ix3 (row n.val) 4 k)) (fun k => mods m c (ix3 (row n.val) 3 k))
    (fun k => mods m c (ix3 (row n.val) 5 k)) (fun k f => wgs m c (ix2 k f)) (branch m c n) (fun b r k => wbs m c (ix3 b r k)) (fun d k => wos m c (ix2 d k)) k

def ptRow (t : Fin cfg0.N) : Fin 8 := if t.val < 16 then 0 else if t.val < 18 then 1 else 2

def pos (t : Fin cfg0.N) (i : Fin 512) : Fin 10240 := ⟨t.val * 512 + i.val, by have := lt20 t; omega⟩

theorem row_pos (t : Fin cfg0.N) (i : Fin 512) : row (pos t i).val = ptRow t := by
  unfold row ptRow pos
  have := i.isLt
  simp only
  split_ifs <;> first | rfl | omega

theorem read0 (c : Dev nD) (t : Fin cfg0.N) (i : Fin 512) (k : Fin 1024) : iblk m c 0 t (ix2 i k) = xs m c (ix2 (pos t i) k) := by
  unfold pos
  blk_ext [iblk, V, idx t]

theorem read1 (c : Dev nD) (t : Fin cfg0.N) (r : Fin 9) (k : Fin 1024) : iblk m c 1 t (ix3 0 r k) = mods m c (ix3 (ptRow t) r k) := by
  unfold ptRow
  by_cases h1 : t.val < 16
  · blk_ext [iblk, V, idx t, if_pos h1]
  · by_cases h2 : t.val < 18
    · blk_ext [iblk, V, idx t, if_neg h1, if_pos h2]
    · blk_ext [iblk, V, idx t, if_neg h1, if_neg h2]

theorem read2 (c : Dev nD) (t : Fin cfg0.N) (k : Fin 1024) : iblk m c 2 t (ix2 0 k) = nws m c (ix1 k) := by
  have e0 : iblk m c 2 t (ix2 0 k) = V m c main_v0 (ix2 0 k) := by blk_ext [iblk, idx t]
  rw [e0]
  entry_read
  pointwise

theorem read11 (c : Dev nD) (t : Fin cfg0.N) (k : Fin 1024) (f : Fin 4096) : iblk m c 11 t (ix2 k f) = wgs m c (ix2 k f) := by
  have e0 : iblk m c 11 t (ix2 k f) = V m c main_v1 (ix2 k f) := by blk_ext [iblk, idx t]
  rw [e0]
  entry_read
  rfl

theorem read12 (c : Dev nD) (t : Fin cfg0.N) (b : Fin 4) (r : Fin 256) (k : Fin 1024) : iblk m c 12 t (ix3 b r k) = wbs m c (ix3 b r k) := by
  have e0 : iblk m c 12 t (ix3 b r k) = V m c main_v2 (ix3 b r k) := by blk_ext [iblk, idx t]
  rw [e0]
  entry_read
  rfl

theorem read13 (c : Dev nD) (t : Fin cfg0.N) (d k : Fin 1024) : iblk m c 13 t (ix2 d k) = wos m c (ix2 d k) := by
  have e0 : iblk m c 13 t (ix2 d k) = V m c main_v3 (ix2 d k) := by blk_ext [iblk, idx t]
  rw [e0]
  entry_read
  rfl

theorem pick_both (t : Fin cfg0.N) (l c : FVec Ideal S512x256 .f32) (a : FVec Ideal S8192x256 .f32) (b : FVec Ideal S2048x256 .f32) (i : Fin 512) (r : Fin 256)
    (hc : ∀ h : t.val < 16, c (ix2 i r) = a (ix2 ⟨t.val * 512 + i.val, by omega⟩ r))
    (hl : ∀ h : ¬t.val < 16, l (ix2 i r) = b (ix2 ⟨(t.val - 16) * 512 + i.val, by have := lt20 t; omega⟩ r)) :
    pick (Scalar.cmpi .sge (BitVec.ofNat 32 ((grid0.coords t) 0).val) 16#32) l c (ix2 i r) = both a b (pos t i) r := by
  have hi := i.isLt
  rw [late]
  unfold pick both pos
  by_cases h : t.val < 16
  · rw [if_pos h, dif_pos (by simp only; omega)]
    exact hc h
  · rw [if_neg h, dif_neg (by simp only; omega)]
    refine (hl h).trans (congrArg (fun n => b (ix2 n r)) (Fin.ext ?_))
    simp only
    omega

theorem read3 (c : Dev nD) (t : Fin cfg0.N) (i : Fin 512) (r : Fin 256) (h : t.val < 16) : iblk m c 3 t (ix2 i r) = ctx0 m c (ix2 ⟨t.val * 512 + i.val, by omega⟩ r) := by
  blk_ext [iblk, V, idx t]
theorem read7 (c : Dev nD) (t : Fin cfg0.N) (i : Fin 512) (r : Fin 256) (h : ¬t.val < 16) :
    iblk m c 7 t (ix2 i r) = lat0 m c (ix2 ⟨(t.val - 16) * 512 + i.val, by have := lt20 t; omega⟩ r) := by
  blk_ext [iblk, V, idx t]
theorem read4 (c : Dev nD) (t : Fin cfg0.N) (i : Fin 512) (r : Fin 256) (h : t.val < 16) : iblk m c 4 t (ix2 i r) = ctx1 m c (ix2 ⟨t.val * 512 + i.val, by omega⟩ r) := by
  blk_ext [iblk, V, idx t]
theorem read8 (c : Dev nD) (t : Fin cfg0.N) (i : Fin 512) (r : Fin 256) (h : ¬t.val < 16) :
    iblk m c 8 t (ix2 i r) = lat1 m c (ix2 ⟨(t.val - 16) * 512 + i.val, by have := lt20 t; omega⟩ r) := by
  blk_ext [iblk, V, idx t]
theorem read5 (c : Dev nD) (t : Fin cfg0.N) (i : Fin 512) (r : Fin 256) (h : t.val < 16) : iblk m c 5 t (ix2 i r) = ctx2 m c (ix2 ⟨t.val * 512 + i.val, by omega⟩ r) := by
  blk_ext [iblk, V, idx t]
theorem read9 (c : Dev nD) (t : Fin cfg0.N) (i : Fin 512) (r : Fin 256) (h : ¬t.val < 16) :
    iblk m c 9 t (ix2 i r) = lat2 m c (ix2 ⟨(t.val - 16) * 512 + i.val, by have := lt20 t; omega⟩ r) := by
  blk_ext [iblk, V, idx t]
theorem read6 (c : Dev nD) (t : Fin cfg0.N) (i : Fin 512) (r : Fin 256) (h : t.val < 16) : iblk m c 6 t (ix2 i r) = ctx3 m c (ix2 ⟨t.val * 512 + i.val, by omega⟩ r) := by
  blk_ext [iblk, V, idx t]
theorem read10 (c : Dev nD) (t : Fin cfg0.N) (i : Fin 512) (r : Fin 256) (h : ¬t.val < 16) :
    iblk m c 10 t (ix2 i r) = lat3 m c (ix2 ⟨(t.val - 16) * 512 + i.val, by have := lt20 t; omega⟩ r) := by
  blk_ext [iblk, V, idx t]

theorem left14 (c : Dev nD) (t : Fin cfg0.N) (i : Fin 512) (k : Fin 1024) :
    out0_14 (grid0.coords t) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix2 i k) = tok m c (pos t i) k := by
  unfold_out out0_14
  unfold tok
  rw [row_pos]
  frame_out
  refine block_pay _ _ _ _ _ _ _ _ _ _ _ _ _ _ _ _ _ _ _ _ _ _ _ (fun i k => xs m c (ix2 (pos t i) k)) _ _ _ _ (fun k f => wgs m c (ix2 k f)) (fun i => branch m c (pos t i))
    (fun b r k => wbs m c (ix3 b r k)) (fun d k => wos m c (ix2 d k)) ?_ ?_ ?_ ?_ ?_ ?_ ?_ ?_ ?_ ?_ ?_ ?_ ?_ ?_ ?_ ?_ ?_ ?_ i k
  · intro i k; pointwise; exact read0 m c t i k
  · intro k; pointwise; exact read1 m c t 3 k
  · intro k; pointwise; exact read1 m c t 4 k
  · intro k; pointwise; exact read1 m c t 5 k
  · intro k; pointwise; exact read2 m c t k
  · intro k j; pointwise; exact read11 m c t k _
  · intro k j; pointwise; exact read11 m c t k _
  · intro k j; pointwise; exact read11 m c t k _
  · intro k j; pointwise; exact read11 m c t k _
  · intro i r
    exact pick_both t _ _ (ctx0 m c) (lat0 m c) i r (fun h => by pointwise; exact read3 m c t i r h) (fun h => by pointwise; exact read7 m c t i r h)
  · intro i r
    exact pick_both t _ _ (ctx1 m c) (lat1 m c) i r (fun h => by pointwise; exact read4 m c t i r h) (fun h => by pointwise; exact read8 m c t i r h)
  · intro i r
    exact pick_both t _ _ (ctx2 m c) (lat2 m c) i r (fun h => by pointwise; exact read5 m c t i r h) (fun h => by pointwise; exact read9 m c t i r h)
  · intro i r
    exact pick_both t _ _ (ctx3 m c) (lat3 m c) i r (fun h => by pointwise; exact read6 m c t i r h) (fun h => by pointwise; exact read10 m c t i r h)
  · intro r k; pointwise; exact read12 m c t 0 r k
  · intro r k; pointwise; exact read12 m c t 1 r k
  · intro r k; pointwise; exact read12 m c t 2 r k
  · intro r k; pointwise; exact read12 m c t 3 r k
  · intro d k; pointwise; exact read13 m c t d k

/-- The result: every token of the merge. -/
def arr (c : Dev nD) : FVec Ideal S10240x1024 .f32 := fun y => tok m c (y 0) (y 1)

theorem final14 (c : Dev nD) : (dats m 0 c).arrAt 14 cfg0.N = arr m c := by
  refine (dats m 0 c).arrAt_eq_of_covers 14 _ (by decide +kernel) fun t _ y => ?_
  blk_simp
  rw [after0_14]
  obtain ⟨i, k, rfl⟩ : ∃ (i : Fin 512) (k : Fin 1024), y = ix2 i k := ⟨y 0, y 1, eq_ix2 y⟩
  have e0 : (win0_14.blk t).view.emb (ix2 i k) = ix2 (pos t i) k := by
    unfold pos
    blk_ext [idx t]
  rw [e0]
  exact left14 m c t i k

end Cert.Kernel3Ideal.Merge

end
-- ==== Proof.Merge.Ref.lean ====
/- The merge reference, read at one entry; its modulation rows and its normed tokens are those of the feed-forward reference. -/
module

public import proofs.«01_k».proof.Proof.Gen.Reference3Ideal.Run
public import proofs.«01_k».proof.Proof.Ffn.Ref
public import proofs.«01_k».proof.Proof.Merge.Math

@[expose] public section

set_option maxRecDepth 16384

noncomputable section

namespace Cert.Reference3Ideal.Merge

open Cert.Reference3Ideal Cert.Reference3Ideal.Gen Idealize.ShloMosaic Idealize.ShloMosaic.TcCoe

abbrev row := Cert.Reference2Ideal.Ffn.row

/-- A modulation part of every token. -/
def part (w : FVec Ideal S8x9x1024 .f32) (v : BitVec 32) : FVec Ideal S10240x1024 .f32 := Cert.Reference2Ideal.Ffn.part w v
def hid (x : FVec Ideal S10240x1024 .f32) (w : FVec Ideal S1024 .f32) (sc sh : FVec Ideal S10240x1024 .f32) : FVec Ideal S10240x1024 .f32 :=
  Cert.Reference2Ideal.Ffn.hid x w sc sh

def ones : FVec Ideal S10240x4096 .f32 := broadcastInDim S10240x4096 ![] bcast_S_S10240x4096 (constant S_ .f32 0x3F800000#32)
def scores (h : FVec Ideal S10240x1024 .f32) (wg : FVec Ideal S1024x4096 .f32) : FVec Ideal S10240x4096 .f32 :=
  Host.dotGeneral dot_S10240x1024_S1024x4096_S10240x4096_1_0_0_1_n_n none h wg
def gates (z : FVec Ideal S10240x4096 .f32) : FVec Ideal S10240x4x1024 .f32 :=
  shapeCast S10240x4x1024 (Host.divf ones (addf ones (Host.exp (Host.negf z)))) shapeCasts_S10240x4096_S10240x4x1024
/-- A branch of the context tokens and the samples' after it. -/
def join (a : FVec Ideal S8192x256 .f32) (b : FVec Ideal S2048x256 .f32) : FVec Ideal S10240x256 .f32 :=
  concatenate S10240x256 0 [⟨S8192x256, a⟩, ⟨S2048x256, b⟩] concatenates_S8192x256_S2048x256_S10240x256_d0
def lift (a : FVec Ideal S10240x256 .f32) : FVec Ideal S1x10240x256 .f32 := broadcastInDim S1x10240x256 ![1, 2] bcast_S10240x256_S1x10240x256_1_2 a
def stack (a b c d : FVec Ideal S10240x256 .f32) : FVec Ideal S4x10240x256 .f32 :=
  concatenate S4x10240x256 0 [⟨S1x10240x256, lift a⟩, ⟨S1x10240x256, lift b⟩, ⟨S1x10240x256, lift c⟩, ⟨S1x10240x256, lift d⟩]
    concatenates_S1x10240x256_S1x10240x256_S1x10240x256_S1x10240x256_S4x10240x256_d0
def ups (s : FVec Ideal S4x10240x256 .f32) (wb : FVec Ideal S4x256x1024 .f32) : FVec Ideal S4x10240x1024 .f32 :=
  Host.dotGeneral dot_S4x10240x256_S4x256x1024_S4x10240x1024_2_1_1_2_0_0 none s wb
def mix (g : FVec Ideal S10240x4x1024 .f32) (u : FVec Ideal S4x10240x1024 .f32) : FVec Ideal S10240x1024 .f32 :=
  Host.dotGeneral dot_S10240x4x1024_S4x10240x1024_S10240x1024_1_0_n_n_02_12 none g u
def plus (x ga mx : FVec Ideal S10240x1024 .f32) (wo : FVec Ideal S1024x1024 .f32) : FVec Ideal S10240x1024 .f32 :=
  addf x (mulf ga (Host.dotGeneral dot_S10240x1024_S1024x1024_S10240x1024_1_0_0_1_n_n none mx wo))

/-- Token `n` of a branch: the context tokens come first, then the samples'. -/
def both (a : FVec Ideal S8192x256 .f32) (b : FVec Ideal S2048x256 .f32) (n : Fin 10240) (r : Fin 256) : EReal :=
  if h : n.val < 8192 then a (ix2 ⟨n.val, h⟩ r) else b (ix2 ⟨n.val - 8192, by omega⟩ r)

theorem join_apply (a : FVec Ideal S8192x256 .f32) (b : FVec Ideal S2048x256 .f32) (n : Fin 10240) (r : Fin 256) : join a b (ix2 n r) = both a b n r := by
  pointwise [join, both]
theorem stack_apply (a : Fin 4 → FVec Ideal S10240x256 .f32) (b : Fin 4) (n : Fin 10240) (r : Fin 256) :
    stack (a 0) (a 1) (a 2) (a 3) (ix3 b n r) = a b (ix2 n r) := by
  fin_cases b <;> pointwise [stack, lift]
theorem scores_apply (h : FVec Ideal S10240x1024 .f32) (wg : FVec Ideal S1024x4096 .f32) (n : Fin 10240) (f : Fin 4096) :
    scores h wg (ix2 n f) = ∑ k : Fin 1024, h (ix2 n k) * wg (ix2 k f) := by
  pointwise [scores]
theorem gates_apply (z : FVec Ideal S10240x4096 .f32) (n : Fin 10240) (b : Fin 4) (c : Fin 1024) :
    gates z (ix3 n b c) = Cert.Merge.gate (z (ix2 n ⟨b.val * 1024 + c.val, by omega⟩)) := by
  pointwise [gates, ones, Cert.Merge.gate, Cert.Ffn.wOne]
theorem ups_apply (s : FVec Ideal S4x10240x256 .f32) (wb : FVec Ideal S4x256x1024 .f32) (b : Fin 4) (n : Fin 10240) (c : Fin 1024) :
    ups s wb (ix3 b n c) = ∑ r : Fin 256, s (ix3 b n r) * wb (ix3 b r c) := by
  pointwise [ups]
theorem mix_apply (g : FVec Ideal S10240x4x1024 .f32) (u : FVec Ideal S4x10240x1024 .f32) (n : Fin 10240) (c : Fin 1024) :
    mix g u (ix2 n c) = ∑ b : Fin 4, g (ix3 n b c) * u (ix3 b n c) := by
  pointwise [mix]
theorem plus_apply (x ga mx : FVec Ideal S10240x1024 .f32) (wo : FVec Ideal S1024x1024 .f32) (n : Fin 10240) (c : Fin 1024) :
    plus x ga mx wo (ix2 n c) = x (ix2 n c) + ga (ix2 n c) * ∑ d : Fin 1024, mx (ix2 n d) * wo (ix2 d c) := by
  pointwise [plus]

theorem part_apply (w : FVec Ideal S8x9x1024 .f32) (r : Fin 9) (n : Fin 10240) (k : Fin 1024) :
    part w (BitVec.ofNat 32 r.val) (ix2 n k) = w (ix3 (row n.val) r k) := Cert.Reference2Ideal.Ffn.part_apply w r n k
theorem hid_apply (x : FVec Ideal S10240x1024 .f32) (w : FVec Ideal S1024 .f32) (sc sh : FVec Ideal S10240x1024 .f32) (n : Fin 10240) (k : Fin 1024) :
    hid x w sc sh (ix2 n k) = Cert.Ffn.hid (fun k => x (ix2 n k)) (fun k => w (ix1 k)) (fun k => sc (ix2 n k)) (fun k => sh (ix2 n k)) k :=
  Cert.Reference2Ideal.Ffn.hid_apply x w sc sh n k

/-- The normed tokens under their modulation, and the mixture of the branches. -/
def normed (x : FVec Ideal S10240x1024 .f32) (mods : FVec Ideal S8x9x1024 .f32) (nw : FVec Ideal S1024 .f32) : FVec Ideal S10240x1024 .f32 :=
  hid x nw (part mods 4#32) (part mods 3#32)
def mixed (h : FVec Ideal S10240x1024 .f32) (wg : FVec Ideal S1024x4096 .f32) (a b c d : FVec Ideal S10240x256 .f32) (wb : FVec Ideal S4x256x1024 .f32) :
    FVec Ideal S10240x1024 .f32 := mix (gates (scores h wg)) (ups (stack a b c d) wb)

theorem normed_apply (x : FVec Ideal S10240x1024 .f32) (mods : FVec Ideal S8x9x1024 .f32) (nw : FVec Ideal S1024 .f32) (n : Fin 10240) (k : Fin 1024) :
    normed x mods nw (ix2 n k) = Cert.Ffn.hid (fun k => x (ix2 n k)) (fun k => nw (ix1 k)) (fun k => mods (ix3 (row n.val) 4 k)) (fun k => mods (ix3 (row n.val) 3 k)) k := by
  have e4 : (fun k => part mods 4#32 (ix2 n k)) = fun k => mods (ix3 (row n.val) 4 k) := funext fun k => part_apply mods 4 n k
  have e3 : (fun k => part mods 3#32 (ix2 n k)) = fun k => mods (ix3 (row n.val) 3 k) := funext fun k => part_apply mods 3 n k
  rw [normed, hid_apply, e4, e3]

theorem mixed_apply (h : FVec Ideal S10240x1024 .f32) (wg : FVec Ideal S1024x4096 .f32) (a : Fin 4 → FVec Ideal S10240x256 .f32) (wb : FVec Ideal S4x256x1024 .f32)
    (n : Fin 10240) (c : Fin 1024) :
    mixed h wg (a 0) (a 1) (a 2) (a 3) wb (ix2 n c) = Cert.Merge.mix (fun k => h (ix2 n k)) (fun k f => wg (ix2 k f)) (fun b r => a b (ix2 n r)) (fun b r c => wb (ix3 b r c)) c := by
  rw [mixed, mix_apply]
  refine Finset.sum_congr rfl fun b _ => ?_
  rw [gates_apply, scores_apply, ups_apply]
  simp only [stack_apply a]
  rfl

section
variable (m : (ℓ : Loc nD τ sig) → Buf (Elt Ideal) ℓ) (c : Dev nD)

abbrev xs : FVec Ideal S10240x1024 .f32 := m ((c.tc : Thread nD τ).loc main_arg0)
abbrev mods : FVec Ideal S8x9x1024 .f32 := m ((c.tc : Thread nD τ).loc main_arg1)
abbrev nws : FVec Ideal S1024 .f32 := m ((c.tc : Thread nD τ).loc main_arg2)
abbrev ctx0 : FVec Ideal S8192x256 .f32 := m ((c.tc : Thread nD τ).loc main_arg3)
abbrev ctx1 : FVec Ideal S8192x256 .f32 := m ((c.tc : Thread nD τ).loc main_arg4)
abbrev ctx2 : FVec Ideal S8192x256 .f32 := m ((c.tc : Thread nD τ).loc main_arg5)
abbrev ctx3 : FVec Ideal S8192x256 .f32 := m ((c.tc : Thread nD τ).loc main_arg6)
abbrev lat0 : FVec Ideal S2048x256 .f32 := m ((c.tc : Thread nD τ).loc main_arg7)
abbrev lat1 : FVec Ideal S2048x256 .f32 := m ((c.tc : Thread nD τ).loc main_arg8)
abbrev lat2 : FVec Ideal S2048x256 .f32 := m ((c.tc : Thread nD τ).loc main_arg9)
abbrev lat3 : FVec Ideal S2048x256 .f32 := m ((c.tc : Thread nD τ).loc main_arg10)
abbrev wgs : FVec Ideal S1024x4096 .f32 := m ((c.tc : Thread nD τ).loc main_arg11)
abbrev wbs : FVec Ideal S4x256x1024 .f32 := m ((c.tc : Thread nD τ).loc main_arg12)
abbrev wos : FVec Ideal S1024x1024 .f32 := m ((c.tc : Thread nD τ).loc main_arg13)

/-- The four joined branches. -/
def joins : Fin 4 → FVec Ideal S10240x256 .f32 :=
  ![join (ctx0 m c) (lat0 m c), join (ctx1 m c) (lat1 m c), join (ctx2 m c) (lat2 m c), join (ctx3 m c) (lat3 m c)]
def branch (n : Fin 10240) : Fin 4 → Fin 256 → EReal :=
  ![both (ctx0 m c) (lat0 m c) n, both (ctx1 m c) (lat1 m c) n, both (ctx2 m c) (lat2 m c) n, both (ctx3 m c) (lat3 m c) n]

theorem joins_apply (n : Fin 10240) : (fun b r => joins m c b (ix2 n r)) = branch m c n := by
  funext b r
  fin_cases b <;> exact join_apply _ _ n r

theorem res_eq : Value.res_main_v78 m c
    = plus (xs m c) (part (mods m c) 5#32) (mixed (normed (xs m c) (mods m c) (nws m c)) (wgs m c) (join (ctx0 m c) (lat0 m c)) (join (ctx1 m c) (lat1 m c))
        (join (ctx2 m c) (lat2 m c)) (join (ctx3 m c) (lat3 m c)) (wbs m c)) (wos m c) := rfl

/-- Token `n` of the merge. -/
def tok (n : Fin 10240) (k : Fin 1024) : EReal :=
  Cert.Merge.out (fun k => xs m c (ix2 n k)) (fun k => nws m c (ix1 k)) (fun k => mods m c (ix3 (row n.val) 4 k)) (fun k => mods m c (ix3 (row n.val) 3 k))
    (fun k => mods m c (ix3 (row n.val) 5 k)) (fun k f => wgs m c (ix2 k f)) (branch m c n) (fun b r k => wbs m c (ix3 b r k)) (fun d k => wos m c (ix2 d k)) k

theorem res_apply (n : Fin 10240) (k : Fin 1024) : Value.res_main_v78 m c (ix2 n k) = tok m c n k := by
  have e5 : part (mods m c) 5#32 (ix2 n k) = mods m c (ix3 (row n.val) 5 k) := part_apply (mods m c) 5 n k
  have eh : (fun k => normed (xs m c) (mods m c) (nws m c) (ix2 n k)) = Cert.Ffn.hid (fun k => xs m c (ix2 n k)) (fun k => nws m c (ix1 k))
      (fun k => mods m c (ix3 (row n.val) 4 k)) (fun k => mods m c (ix3 (row n.val) 3 k)) := funext fun k => normed_apply _ _ _ n k
  rw [res_eq, plus_apply, e5, tok, Cert.Merge.out]
  have em : ∀ d, mixed (normed (xs m c) (mods m c) (nws m c)) (wgs m c) (join (ctx0 m c) (lat0 m c)) (join (ctx1 m c) (lat1 m c))
        (join (ctx2 m c) (lat2 m c)) (join (ctx3 m c) (lat3 m c)) (wbs m c) (ix2 n d) = Cert.Merge.mix (Cert.Ffn.hid (fun k => xs m c (ix2 n k)) (fun k => nws m c (ix1 k))
      (fun k => mods m c (ix3 (row n.val) 4 k)) (fun k => mods m c (ix3 (row n.val) 3 k))) (fun k f => wgs m c (ix2 k f)) (branch m c n) (fun b r k => wbs m c (ix3 b r k)) d := fun d => by
    refine (mixed_apply _ _ (joins m c) _ n d).trans ?_
    rw [eh, joins_apply]
  simp only [em]

end

end Cert.Reference3Ideal.Merge

end
-- ==== Proof.Merge.Claim.lean ====
/- The merge call and its reference, over the extended reals: equal results of equal arguments. -/
module

public import proofs.«01_k».proof.Defs
public import proofs.«01_k».proof.Proof.Gen.Kernel3.Frame
public import proofs.«01_k».proof.Proof.Gen.Kernel3Ideal.Frame
public import proofs.«01_k».proof.Proof.Merge.Final
public import proofs.«01_k».proof.Proof.Merge.Ref
public import Idealize.ShloMosaic.Adequacy
public import Idealize.ShloMosaic.Init

@[expose] public section

set_option maxRecDepth 16384

noncomputable section

namespace Cert.Proof.Merge

open Idealize.ShloMosaic Idealize.ShloMosaic.TcCoe Idealize.SL.Sem

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m g m' g' _ hag
  refine ⟨fun c => Cert.Kernel3Ideal.Merge.arr m c, ?_, ?_⟩
  · refine (θ_run _ _ _).mono (fun r h c => ?_) (Cert.Kernel3Ideal.Value.run_blocks m g)
    obtain ⟨h1, h2⟩ := h c
    exact ⟨h1.trans (Cert.Kernel3Ideal.Merge.final14 m c), h2⟩
  · refine (θ_run _ _ _).mono (fun r h c => ?_) (Cert.Reference3Ideal.Value.run m' g')
    obtain ⟨h1, h2⟩ := h c
    obtain ⟨a0, a1, a2, a3, a4, a5, a6, a7, a8, a9, a10, a11, a12, a13⟩ := hag c
    have e : Cert.Reference3Ideal.Merge.tok m' c = Cert.Kernel3Ideal.Merge.tok m c := by
      funext n k
      unfold Cert.Reference3Ideal.Merge.tok Cert.Kernel3Ideal.Merge.tok Cert.Reference3Ideal.Merge.branch Cert.Kernel3Ideal.Merge.branch
      rw [show Cert.Reference3Ideal.Merge.xs m' c = Cert.Kernel3Ideal.Merge.xs m c from a0,
        show Cert.Reference3Ideal.Merge.mods m' c = Cert.Kernel3Ideal.Merge.mods m c from a1,
        show Cert.Reference3Ideal.Merge.nws m' c = Cert.Kernel3Ideal.Merge.nws m c from a2,
        show Cert.Reference3Ideal.Merge.ctx0 m' c = Cert.Kernel3Ideal.Merge.ctx0 m c from a3,
        show Cert.Reference3Ideal.Merge.ctx1 m' c = Cert.Kernel3Ideal.Merge.ctx1 m c from a4,
        show Cert.Reference3Ideal.Merge.ctx2 m' c = Cert.Kernel3Ideal.Merge.ctx2 m c from a5,
        show Cert.Reference3Ideal.Merge.ctx3 m' c = Cert.Kernel3Ideal.Merge.ctx3 m c from a6,
        show Cert.Reference3Ideal.Merge.lat0 m' c = Cert.Kernel3Ideal.Merge.lat0 m c from a7,
        show Cert.Reference3Ideal.Merge.lat1 m' c = Cert.Kernel3Ideal.Merge.lat1 m c from a8,
        show Cert.Reference3Ideal.Merge.lat2 m' c = Cert.Kernel3Ideal.Merge.lat2 m c from a9,
        show Cert.Reference3Ideal.Merge.lat3 m' c = Cert.Kernel3Ideal.Merge.lat3 m c from a10,
        show Cert.Reference3Ideal.Merge.wgs m' c = Cert.Kernel3Ideal.Merge.wgs m c from a11,
        show Cert.Reference3Ideal.Merge.wbs m' c = Cert.Kernel3Ideal.Merge.wbs m c from a12,
        show Cert.Reference3Ideal.Merge.wos m' c = Cert.Kernel3Ideal.Merge.wos m c from a13]
      rfl
    refine ⟨h1.trans ?_, h2⟩
    funext y
    obtain ⟨n, k, rfl⟩ : ∃ (n : Fin 10240) (k : Fin 1024), y = ix2 n k := ⟨y 0, y 1, eq_ix2 y⟩
    refine (Cert.Reference3Ideal.Merge.res_apply m' c n k).trans ?_
    rw [e]
    rfl

end Cert.Proof.Merge

end
-- ==== Proof.Proj.Block.lean ====
/- What one grid point of the projection call computes, read at one entry. -/
module

public import proofs.«01_k».proof.Proof.Gen.Kernel4Ideal.Skeleton
public import proofs.«01_k».proof.Proof.Ffn.Math

@[expose] public section

set_option maxRecDepth 16384

noncomputable section

namespace Cert.Kernel4Ideal.Proj

open Cert.Kernel4Ideal Cert.Kernel4Ideal.Gen Idealize.ShloMosaic Idealize.ShloMosaic.TcCoe

theorem pay1_apply (sh sc : FVec Ideal S1x1x1024 .f32) (x : FVec Ideal S512x1024 .f32) (nw : FVec Ideal S1x1024 .f32) (w : FVec Ideal S1024x3968 .bf16)
    (i : Fin 512) (j : Fin 3968) :
    k0_pay1 (F := Ideal) sh sc x nw w (ix2 i j)
      = ∑ k : Fin 1024, Cert.Ffn.hid (fun k => x (ix2 i k)) (fun k => nw (ix2 0 k)) (fun k => sc (ix3 0 0 k)) (fun k => sh (ix3 0 0 k)) k * w (ix2 k j) := by
  pointwise [k0_pay1, Cert.Ffn.hid, Cert.Ffn.rms, Cert.Ffn.scale, Cert.Ffn.wN, Cert.Ffn.wEps, Cert.Ffn.wOne]

/-- One entry of a block of results, of what the loads brought. -/
theorem block_pay (sh sc : FVec Ideal S1x1x1024 .f32) (x : FVec Ideal S512x1024 .f32) (nw : FVec Ideal S1x1024 .f32) (w : FVec Ideal S1024x3968 .bf16)
    (X : Fin 512 → Fin 1024 → EReal) (SH SC NW : Fin 1024 → EReal) (W : Fin 1024 → Fin 3968 → EReal)
    (hsh : ∀ k, sh (ix3 0 0 k) = SH k) (hsc : ∀ k, sc (ix3 0 0 k) = SC k) (hx : ∀ i k, x (ix2 i k) = X i k) (hnw : ∀ k, nw (ix2 0 k) = NW k)
    (hw : ∀ k j, w (ix2 k j) = W k j) (i : Fin 512) (j : Fin 3968) :
    k0_pay1 (F := Ideal) sh sc x nw w (ix2 i j) = ∑ k : Fin 1024, Cert.Ffn.hid (X i) NW SC SH k * W k j := by
  rw [pay1_apply]
  simp only [hsh, hsc, hx, hnw, hw]

end Cert.Kernel4Ideal.Proj

end
-- ==== Proof.Proj.Cols.lean ====
/- The order of the projected columns: the table of column numbers the weights are gathered by. -/
module

public import proofs.«01_k».proof.Kernel4Ideal
public import Idealize.ShloMosaic.Lib.Pointwise

@[expose] public section

set_option maxRecDepth 16384

noncomputable section

namespace Cert.Kernel4Ideal.Proj

open Cert.Kernel4Ideal Idealize.ShloMosaic

/-- The column of the weights that lies at column `j`: the low-rank columns and the small gates' columns come last. -/
def colNat (j : Nat) : Nat := if j < 768 then j else if j < 1536 then j + 32 else if j < 3840 then j + 48 else if j < 3872 then j - 3072 else j - 2304

theorem table : ∀ j : Fin 3888, lit0t j.val = BitVec.ofNat 32 (colNat j.val) := by
  decide +kernel

end Cert.Kernel4Ideal.Proj

end
-- ==== Proof.Proj.Final.lean ====
/- The projection call's result array: each grid point writes its 512 tokens, the columns in the order the mixers read them. -/
module

public import proofs.«01_k».proof.Proof.Proj.Block
public import proofs.«01_k».proof.Proof.Proj.Cols
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem lt20 (t : Fin cfg0.N) : t.val < 20 := lt_of_lt_of_eq t.isLt N_0

/-- The row of the modulation a token reads: the context's, or its sample's. -/
def row (n : Nat) : Fin 8 := if n < 8192 then 0 else if n < 9216 then 1 else 2

theorem idx : ∀ t : Fin cfg0.N, win0_0.index t = ![t.val, 0] ∧ win0_1.index t = ![(if t.val < 16 then 0 else if t.val < 18 then 1 else 2), 0, 0]
    ∧ win0_2.index t = ![0, 0] ∧ win0_3.index t = ![0, 0] ∧ win0_4.index t = ![t.val, 0] :=
  (by decide +kernel : ∀ t : Fin grid0.N, _)

abbrev xs (c : Dev nD) : FVec Ideal S10240x1024 .f32 := m ((c.tc : Thread nD τ).loc main_arg0)
abbrev mods (c : Dev nD) : FVec Ideal S8x9x1024 .f32 := m ((c.tc : Thread nD τ).loc main_arg1)
abbrev nws (c : Dev nD) : FVec Ideal S1024 .f32 := m ((c.tc : Thread nD τ).loc main_arg2)
abbrev ws (c : Dev nD) : FVec Ideal S1024x3888 .f32 := m ((c.tc : Thread nD τ).loc main_arg3)

/-! ## The weights' columns, gathered and padded -/

theorem colNat_lt {j : Nat} (h : j < 3888) : colNat j < 3888 := by
  unfold colNat
  split_ifs <;> omega
def col (j : Fin 3888) : Fin 3888 := ⟨colNat j.val, colNat_lt j.isLt⟩

abbrev D := gather_S1024x3888_S3888x1_S1024x3888_0_1_n_n_1_1_10241
theorem gather_apply (x : FVec Ideal S1024x3888 .f32) (ii : IVec S3888x1 32) (k : Fin 1024) (j b : Fin 3888) (h : ii (ix2 j 0) = BitVec.ofNat 32 b.val) :
    Host.gather D x ii (ix2 k j) = x (ix2 k b) := by
  unfold Host.gather
  refine congrArg x (funext fun a => Fin.ext ?_)
  have hsi : ∀ z : Fin 1, D.siIdx (ix2 k j) z = ix2 j z := fun z => by
    funext b'
    apply Fin.ext
    match b' with
    | ⟨0, _⟩ => rfl
    | ⟨1, _⟩ => rfl
  match a with
  | ⟨0, _⟩ =>
    show D.start (ix2 k j) ii 0 + D.batchCoord (ix2 k j) 0 + D.offCoord (ix2 k j) 0 = k.val
    rw [D.batchCoord_eq_zero _ _ List.not_mem_nil]
    unfold GatherDims.start
    rw [dif_neg (by decide)]
    unfold GatherDims.offCoord
    rw [dif_pos (by decide)]
    simp only [Nat.zero_add]
    rfl
  | ⟨1, _⟩ =>
    show D.start (ix2 k j) ii 1 + D.batchCoord (ix2 k j) 1 + D.offCoord (ix2 k j) 1 = b.val
    rw [D.batchCoord_eq_zero _ _ List.not_mem_nil, D.offCoord_eq_zero _ _ (by decide)]
    unfold GatherDims.start
    rw [dif_pos (by decide)]
    refine Eq.trans (b := min (ii (ix2 j 0)).toInt.toNat 3887) (by rw [← hsi 0]; rfl) ?_
    have hb := b.isLt
    have hn : (BitVec.ofNat 32 b.val).toNat = b.val := (BitVec.toNat_ofNat b.val 32).trans (Nat.mod_eq_of_lt (by omega))
    rw [h, BitVec.toInt_eq_toNat_of_lt (by omega), hn, Int.toNat_natCast]
    omega

theorem lit_apply (j : Fin 3888) : lit0 (S3888.rowMajor (ix1 j)) = BitVec.ofNat 32 (colNat j.val) := by
  have e : S3888.rowMajor (ix1 j) = j := Fin.ext (Shape.rowMajor_val_one _)
  rw [e]
  exact table j

/-- The column numbers, as the array of indices the weights are gathered by. -/
def ordering : IVec S3888x1 32 :=
  broadcastInDim S3888x1 ![0] bcast_S3888_S3888x1_0 (select (constantI S3888 1 0#1)
    (addi (fun i => lit0 (S3888.rowMajor i) : IVec S3888 32) (broadcastInDim S3888 ![] bcast_S_S3888 (constantI S_ 32 3888#32))) (fun i => lit0 (S3888.rowMajor i)))
def wide (w : FVec Ideal S1024x3888 .f32) : FVec Ideal S1024x3968 .f32 :=
  pad S1024x3968 ![0, 0] ![0, 80] ![0, 0] (Host.gather D w ordering) (sitofp .f32 (constantI S_ 32 0#32)) pads_S1024x3888_S1024x3968_000_0800 h_S_

theorem entry6 (c : Dev nD) : V m c main_v6 = (truncf .bf16 (wide (ws m c)) bitsLt_bf16_f32 : FVec Ideal S1024x3968 .bf16) := by
  simp only [V, hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl
theorem entry7 (c : Dev nD) : V m c main_v7 = (broadcastInDim S1x1024 ![1] bcast_S1024_S1x1024_1 (nws m c) : FVec Ideal S1x1024 .f32) := by
  simp only [V, hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp

theorem order (j : Fin 3888) : ordering (ix2 j 0) = BitVec.ofNat 32 (col j).val := by
  pointwise [ordering]
  exact lit_apply j

/-- The weights as the call reads them: the columns in their order, then eighty of zeros. -/
def wcol (c : Dev nD) (k : Fin 1024) (j : Fin 3968) : EReal := if h : j.val < 3888 then ws m c (ix2 k (col ⟨j.val, h⟩)) else 0

theorem wide_apply (w : FVec Ideal S1024x3888 .f32) (k : Fin 1024) (j : Fin 3968) :
    wide w (ix2 k j) = if h : j.val < 3888 then w (ix2 k (col ⟨j.val, h⟩)) else 0 := by
  have g : ∀ j : Fin 3888, Host.gather D w ordering (ix2 k j) = w (ix2 k (col j)) := fun j => gather_apply w ordering k j (col j) (order j)
  unfold wide
  generalize Host.gather D w ordering = z at g
  pointwise
  by_cases h : j.val < 3888
  · simp only [dif_pos h, g]
  · simp only [dif_neg h]
    show (((0#32 : BitVec 32).toInt : ℝ) : EReal) = 0
    simp

theorem padded (c : Dev nD) (k : Fin 1024) (j : Fin 3968) : V m c main_v6 (ix2 k j) = wcol m c k j := by
  rw [entry6]
  exact wide_apply (ws m c) k j

/-! ## What the windows bring -/

def ptRow (t : Fin cfg0.N) : Fin 8 := if t.val < 16 then 0 else if t.val < 18 then 1 else 2

def pos (t : Fin cfg0.N) (i : Fin 512) : Fin 10240 := ⟨t.val * 512 + i.val, by have := lt20 t; omega⟩

theorem row_pos (t : Fin cfg0.N) (i : Fin 512) : row (pos t i).val = ptRow t := by
  unfold row ptRow pos
  have := i.isLt
  simp only
  split_ifs <;> first | rfl | omega

theorem read0 (c : Dev nD) (t : Fin cfg0.N) (i : Fin 512) (k : Fin 1024) : iblk m c 0 t (ix2 i k) = xs m c (ix2 (pos t i) k) := by
  unfold pos
  blk_ext [iblk, V, idx t]

theorem read1 (c : Dev nD) (t : Fin cfg0.N) (r : Fin 9) (k : Fin 1024) : iblk m c 1 t (ix3 0 r k) = mods m c (ix3 (ptRow t) r k) := by
  unfold ptRow
  by_cases h1 : t.val < 16
  · blk_ext [iblk, V, idx t, if_pos h1]
  · by_cases h2 : t.val < 18
    · blk_ext [iblk, V, idx t, if_neg h1, if_pos h2]
    · blk_ext [iblk, V, idx t, if_neg h1, if_neg h2]

theorem read2 (c : Dev nD) (t : Fin cfg0.N) (k : Fin 1024) : iblk m c 2 t (ix2 0 k) = nws m c (ix1 k) := by
  have e0 : iblk m c 2 t (ix2 0 k) = V m c main_v7 (ix2 0 k) := by blk_ext [iblk, idx t]
  rw [e0, entry7]
  pointwise

theorem read3 (c : Dev nD) (t : Fin cfg0.N) (k : Fin 1024) (j : Fin 3968) : iblk m c 3 t (ix2 k j) = wcol m c k j := by
  have e0 : iblk m c 3 t (ix2 k j) = V m c main_v6 (ix2 k j) := by blk_ext [iblk, idx t]
  rw [e0]
  exact padded m c k j

/-- Column `j` of token `n`'s projection; the eighty columns after the last are zero. -/
def tok (c : Dev nD) (n : Fin 10240) (j : Fin 3968) : EReal :=
  if h : j.val < 3888 then
    ∑ k : Fin 1024, Cert.Ffn.hid (fun k => xs m c (ix2 n k)) (fun k => nws m c (ix1 k)) (fun k => mods m c (ix3 (row n.val) 4 k))
      (fun k => mods m c (ix3 (row n.val) 3 k)) k * ws m c (ix2 k (col ⟨j.val, h⟩))
  else 0

theorem sum_wcol (c : Dev nD) (h : Fin 1024 → EReal) (j : Fin 3968) :
    ∑ k : Fin 1024, h k * wcol m c k j = if hj : j.val < 3888 then ∑ k : Fin 1024, h k * ws m c (ix2 k (col ⟨j.val, hj⟩)) else 0 := by
  unfold wcol
  by_cases hj : j.val < 3888
  · simp only [dif_pos hj]
  · simp only [dif_neg hj, mul_zero, Finset.sum_const_zero]

theorem left4 (c : Dev nD) (t : Fin cfg0.N) (i : Fin 512) (j : Fin 3968) :
    out0_4 (iblk m c 0 t) (iblk m c 1 t) (iblk m c 2 t) (iblk m c 3 t) (ix2 i j) = tok m c (pos t i) j := by
  unfold out0_4
  unfold tok
  rw [row_pos, ← sum_wcol]
  frame_out
  refine block_pay _ _ _ _ _ (fun i k => xs m c (ix2 (pos t i) k)) _ _ _ (fun k j => wcol m c k j) ?_ ?_ ?_ ?_ ?_ i j
  · intro k; pointwise; exact read1 m c t 3 k
  · intro k; pointwise; exact read1 m c t 4 k
  · intro i k; pointwise; exact read0 m c t i k
  · intro k; pointwise; exact read2 m c t k
  · intro k j; pointwise; exact read3 m c t k j

/-- The result: every token's projection. -/
def arr (c : Dev nD) : FVec Ideal S10240x3968 .f32 := fun y => tok m c (y 0) (y 1)

theorem final4 (c : Dev nD) : (dats m 0 c).arrAt 4 cfg0.N = arr m c := by
  refine (dats m 0 c).arrAt_eq_of_covers 4 _ (by decide +kernel) fun t _ y => ?_
  blk_simp
  rw [after0_4]
  obtain ⟨i, j, rfl⟩ : ∃ (i : Fin 512) (j : Fin 3968), y = ix2 i j := ⟨y 0, y 1, eq_ix2 y⟩
  have e0 : (win0_4.blk t).view.emb (ix2 i j) = ix2 (pos t i) j := by
    unfold pos
    blk_ext [idx t]
  rw [e0]
  exact left4 m c t i j

end Cert.Kernel4Ideal.Proj

end
-- ==== Proof.Proj.Ref.lean ====
/- The projection reference, read at one entry; its normed tokens are those of the merge reference. -/
module

public import proofs.«01_k».proof.Proof.Gen.Reference4Ideal.Run
public import proofs.«01_k».proof.Proof.Merge.Ref
public import proofs.«01_k».proof.Proof.Proj.Cols

@[expose] public section

set_option maxRecDepth 16384

noncomputable section

namespace Cert.Reference4Ideal.Proj

open Cert.Reference4Ideal Cert.Reference4Ideal.Gen Idealize.ShloMosaic Idealize.ShloMosaic.TcCoe

abbrev row := Cert.Reference2Ideal.Ffn.row
abbrev colNat := Cert.Kernel4Ideal.Proj.colNat

def normed (x : FVec Ideal S10240x1024 .f32) (mods : FVec Ideal S8x9x1024 .f32) (nw : FVec Ideal S1024 .f32) : FVec Ideal S10240x1024 .f32 :=
  Cert.Reference3Ideal.Merge.normed x mods nw
def proj (h : FVec Ideal S10240x1024 .f32) (w : FVec Ideal S1024x3888 .f32) : FVec Ideal S10240x3888 .f32 :=
  Host.dotGeneral dot_S10240x1024_S1024x3888_S10240x3888_1_0_0_1_n_n none h w
/-- The columns in the order the mixers read them, then eighty of zeros. -/
def ordered (p : FVec Ideal S10240x3888 .f32) : FVec Ideal S10240x3968 .f32 :=
  concatenate S10240x3968 1 [⟨S10240x768, extractStridedSlice S10240x768 ![0, 0] p slices_S10240x3888_S10240x768_0_0⟩,
    ⟨S10240x768, extractStridedSlice S10240x768 ![0, 800] p slices_S10240x3888_S10240x768_0_800⟩,
    ⟨S10240x2304, extractStridedSlice S10240x2304 ![0, 1584] p slices_S10240x3888_S10240x2304_0_1584⟩,
    ⟨S10240x32, extractStridedSlice S10240x32 ![0, 768] p slices_S10240x3888_S10240x32_0_768⟩,
    ⟨S10240x16, extractStridedSlice S10240x16 ![0, 1568] p slices_S10240x3888_S10240x16_0_1568⟩,
    ⟨S10240x80, broadcastInDim S10240x80 ![] bcast_S_S10240x80 (constant S_ .f32 0x00000000#32)⟩]
    concatenates_S10240x768_S10240x768_S10240x2304_S10240x32_S10240x16_S10240x80_S10240x3968_d1

theorem proj_apply (h : FVec Ideal S10240x1024 .f32) (w : FVec Ideal S1024x3888 .f32) (n : Fin 10240) (j : Fin 3888) :
    proj h w (ix2 n j) = ∑ k : Fin 1024, h (ix2 n k) * w (ix2 k j) := by
  pointwise [proj]

theorem colNat_lt {j : Nat} (h : j < 3888) : colNat j < 3888 := by
  unfold colNat Cert.Kernel4Ideal.Proj.colNat
  split_ifs <;> omega

theorem ordered_apply (p : FVec Ideal S10240x3888 .f32) (n : Fin 10240) (j : Fin 3968) :
    ordered p (ix2 n j) = if h : j.val < 3888 then p (ix2 n ⟨colNat j.val, colNat_lt h⟩) else 0 := by
  have key : ∀ (a : Nat) (ha : a < 3888) (h : j.val < 3888), a = colNat j.val →
      p (ix2 n ⟨a, ha⟩) = p (ix2 n ⟨colNat j.val, colNat_lt h⟩) := fun a ha h e => congrArg (fun z => p (ix2 n z)) (Fin.ext e)
  have hj := j.isLt
  pointwise [ordered]
  by_cases h1 : j.val < 768
  · rw [dif_pos h1, dif_pos (by omega)]
    exact key _ _ (by omega) (by unfold colNat Cert.Kernel4Ideal.Proj.colNat; split_ifs <;> omega)
  by_cases h2 : j.val - 768 < 768
  · rw [dif_neg h1, dif_pos h2, dif_pos (by omega)]
    exact key _ _ (by omega) (by unfold colNat Cert.Kernel4Ideal.Proj.colNat; split_ifs <;> omega)
  by_cases h3 : j.val - 768 - 768 < 2304
  · rw [dif_neg h1, dif_neg h2, dif_pos h3, dif_pos (by omega)]
    exact key _ _ (by omega) (by unfold colNat Cert.Kernel4Ideal.Proj.colNat; split_ifs <;> omega)
  by_cases h4 : j.val - 768 - 768 - 2304 < 32
  · rw [dif_neg h1, dif_neg h2, dif_neg h3, dif_pos h4, dif_pos (by omega)]
    exact key _ _ (by omega) (by unfold colNat Cert.Kernel4Ideal.Proj.colNat; split_ifs <;> omega)
  by_cases h5 : j.val - 768 - 768 - 2304 - 32 < 16
  · rw [dif_neg h1, dif_neg h2, dif_neg h3, dif_neg h4, dif_pos h5, dif_pos (by omega)]
    exact key _ _ (by omega) (by unfold colNat Cert.Kernel4Ideal.Proj.colNat; split_ifs <;> omega)
  · rw [dif_neg h1, dif_neg h2, dif_neg h3, dif_neg h4, dif_neg h5, dif_neg (by omega)]

section
variable (m : (ℓ : Loc nD τ sig) → Buf (Elt Ideal) ℓ) (c : Dev nD)

abbrev xs : FVec Ideal S10240x1024 .f32 := m ((c.tc : Thread nD τ).loc main_arg0)
abbrev mods : FVec Ideal S8x9x1024 .f32 := m ((c.tc : Thread nD τ).loc main_arg1)
abbrev nws : FVec Ideal S1024 .f32 := m ((c.tc : Thread nD τ).loc main_arg2)
abbrev ws : FVec Ideal S1024x3888 .f32 := m ((c.tc : Thread nD τ).loc main_arg3)

theorem res_eq : Value.res_main_v53 m c = ordered (proj (normed (xs m c) (mods m c) (nws m c)) (ws m c)) := rfl

/-- Column `j` of token `n`'s projection; the eighty columns after the last are zero. -/
def tok (n : Fin 10240) (j : Fin 3968) : EReal :=
  if h : j.val < 3888 then
    ∑ k : Fin 1024, Cert.Ffn.hid (fun k => xs m c (ix2 n k)) (fun k => nws m c (ix1 k)) (fun k => mods m c (ix3 (row n.val) 4 k))
      (fun k => mods m c (ix3 (row n.val) 3 k)) k * ws m c (ix2 k ⟨colNat j.val, colNat_lt h⟩)
  else 0

theorem res_apply (n : Fin 10240) (j : Fin 3968) : Value.res_main_v53 m c (ix2 n j) = tok m c n j := by
  rw [res_eq, ordered_apply, tok]
  by_cases h : j.val < 3888
  · rw [dif_pos h, dif_pos h]
    refine (proj_apply _ _ n _).trans (Finset.sum_congr rfl fun k _ => ?_)
    rw [show normed (xs m c) (mods m c) (nws m c) (ix2 n k) = _ from Cert.Reference3Ideal.Merge.normed_apply (xs m c) (mods m c) (nws m c) n k]
  · rw [dif_neg h, dif_neg h]

end

end Cert.Reference4Ideal.Proj

end
-- ==== Proof.Proj.Claim.lean ====
/- The projection call and its reference, over the extended reals: equal results of equal arguments. -/
module

public import proofs.«01_k».proof.Defs
public import proofs.«01_k».proof.Proof.Gen.Kernel4.Frame
public import proofs.«01_k».proof.Proof.Gen.Kernel4Ideal.Frame
public import proofs.«01_k».proof.Proof.Proj.Final
public import proofs.«01_k».proof.Proof.Proj.Ref
public import Idealize.ShloMosaic.Adequacy
public import Idealize.ShloMosaic.Init

@[expose] public section

set_option maxRecDepth 16384

noncomputable section

namespace Cert.Proof.Proj

open Idealize.ShloMosaic Idealize.ShloMosaic.TcCoe Idealize.SL.Sem

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m g m' g' _ hag
  refine ⟨fun c => Cert.Kernel4Ideal.Proj.arr m c, ?_, ?_⟩
  · refine (θ_run _ _ _).mono (fun r h c => ?_) (Cert.Kernel4Ideal.Value.run_blocks m g)
    obtain ⟨h1, h2⟩ := h c
    exact ⟨h1.trans (Cert.Kernel4Ideal.Proj.final4 m c), h2⟩
  · refine (θ_run _ _ _).mono (fun r h c => ?_) (Cert.Reference4Ideal.Value.run m' g')
    obtain ⟨h1, h2⟩ := h c
    obtain ⟨a0, a1, a2, a3⟩ := hag c
    have e : Cert.Reference4Ideal.Proj.tok m' c = Cert.Kernel4Ideal.Proj.tok m c := by
      funext n j
      unfold Cert.Reference4Ideal.Proj.tok Cert.Kernel4Ideal.Proj.tok
      rw [show Cert.Reference4Ideal.Proj.xs m' c = Cert.Kernel4Ideal.Proj.xs m c from a0,
        show Cert.Reference4Ideal.Proj.mods m' c = Cert.Kernel4Ideal.Proj.mods m c from a1,
        show Cert.Reference4Ideal.Proj.nws m' c = Cert.Kernel4Ideal.Proj.nws m c from a2,
        show Cert.Reference4Ideal.Proj.ws m' c = Cert.Kernel4Ideal.Proj.ws m c from a3]
      rfl
    refine ⟨h1.trans ?_, h2⟩
    funext y
    obtain ⟨n, k, rfl⟩ : ∃ (n : Fin 10240) (k : Fin 3968), y = ix2 n k := ⟨y 0, y 1, eq_ix2 y⟩
    refine (Cert.Reference4Ideal.Proj.res_apply m' c n k).trans ?_
    rw [e]
    rfl

end Cert.Proof.Proj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2.Skeleton
public import proofs.«01_k».proof.Proof.Gen.Kernel2Ideal.Skeleton
public import proofs.«01_k».proof.Proof.Gen.Kernel2Ideal
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4.Skeleton
public import proofs.«01_k».proof.Proof.Gen.Kernel4Ideal
public import proofs.«01_k».proof.Proof.Gen.Kernel4Ideal.Skeleton
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Kernel5Ideal.Points
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite5
public import proofs.«01_k».proof.Proof.Gen.Pre_finite6
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Att.Claim
public import proofs.«01_k».proof.Proof.Att1.Claim
public import proofs.«01_k».proof.Proof.Lat.Claim
public import proofs.«01_k».proof.Proof.Ffn.Claim
public import proofs.«01_k».proof.Proof.Merge.Claim
public import proofs.«01_k».proof.Proof.Proj.Claim
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_ref_pre : Cert.quiescent_ReferenceIdeal_pre_finite := fun m ρ _ => frame_ref m ρ trivial

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite5.Gen.facts, Cert.Pre_finite6.Gen.facts,
  frame_kernel, frame_ideal, frame_ideal_pre, frame_ref, frame_ref_pre, Ffn.frame_kernel, Ffn.frame_ideal, Ffn.frame_ref,
  Merge.frame_kernel, Merge.frame_ideal, Merge.frame_ref, Proj.frame_kernel, Proj.frame_ideal, Proj.frame_ref,
  Att1.frame_kernel, Att1.frame_ideal, Att1.frame_ideal_pre, Att1.frame_ref, Att1.frame_ref_pre,
  Lat.frame_kernel, Lat.frame_ideal, Lat.frame_ideal_pre, Lat.frame_ref, Lat.frame_ref_pre,
  trivial, Att.algebraic, trivial, Ffn.algebraic, trivial, Merge.algebraic, trivial, Proj.algebraic, trivial, Att1.algebraic, trivial, Lat.algebraic⟩

end Cert.Proof

end
